-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_v278) = v1 c
          ∧ r.2.mem ((c.tc : Thread Cert.ReferenceIdeal.nD Cert.ReferenceIdeal.τ).loc Cert.ReferenceIdeal.main_v279) = v2 c
          ∧ r.2.mem ((c.tc : Thread Cert.ReferenceIdeal.nD Cert.ReferenceIdeal.τ).loc Cert.ReferenceIdeal.main_v280) = v3 c
          ∧ r.2.mem ((c.tc : Thread Cert.ReferenceIdeal.nD Cert.ReferenceIdeal.τ).loc Cert.ReferenceIdeal.main_v281) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v65_0)) (v1 : (c : Dev Cert.Kernel2Ideal.nD) → Buf (Elt Ideal) ((c.tc : Thread Cert.Kernel2Ideal.nD Cert.Kernel2Ideal.τ).loc Cert.Kernel2Ideal.main_v65_1)) (v2 : (c : Dev Cert.Kernel2Ideal.nD) → Buf (Elt Ideal) ((c.tc : Thread Cert.Kernel2Ideal.nD Cert.Kernel2Ideal.τ).loc Cert.Kernel2Ideal.main_v65_2)) (v3 : (c : Dev Cert.Kernel2Ideal.nD) → Buf (Elt Ideal) ((c.tc : Thread Cert.Kernel2Ideal.nD Cert.Kernel2Ideal.τ).loc Cert.Kernel2Ideal.main_v65_3)) (v4 : (c : Dev Cert.Kernel2Ideal.nD) → Buf (Elt Ideal) ((c.tc : Thread Cert.Kernel2Ideal.nD Cert.Kernel2Ideal.τ).loc Cert.Kernel2Ideal.main_v65_4)) (v5 : (c : Dev Cert.Kernel2Ideal.nD) → Buf (Elt Ideal) ((c.tc : Thread Cert.Kernel2Ideal.nD Cert.Kernel2Ideal.τ).loc Cert.Kernel2Ideal.main_v65_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v65_0) = v0 c
          ∧ r.2.mem ((c.tc : Thread Cert.Kernel2Ideal.nD Cert.Kernel2Ideal.τ).loc Cert.Kernel2Ideal.main_v65_1) = v1 c
          ∧ r.2.mem ((c.tc : Thread Cert.Kernel2Ideal.nD Cert.Kernel2Ideal.τ).loc Cert.Kernel2Ideal.main_v65_2) = v2 c
          ∧ r.2.mem ((c.tc : Thread Cert.Kernel2Ideal.nD Cert.Kernel2Ideal.τ).loc Cert.Kernel2Ideal.main_v65_3) = v3 c
          ∧ r.2.mem ((c.tc : Thread Cert.Kernel2Ideal.nD Cert.Kernel2Ideal.τ).loc Cert.Kernel2Ideal.main_v65_4) = v4 c
          ∧ r.2.mem ((c.tc : Thread Cert.Kernel2Ideal.nD Cert.Kernel2Ideal.τ).loc Cert.Kernel2Ideal.main_v65_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v188) = v0 c
          ∧ r.2.mem ((c.tc : Thread Cert.Reference2Ideal.nD Cert.Reference2Ideal.τ).loc Cert.Reference2Ideal.main_v190) = v1 c
          ∧ r.2.mem ((c.tc : Thread Cert.Reference2Ideal.nD Cert.Reference2Ideal.τ).loc Cert.Reference2Ideal.main_v192) = v2 c
          ∧ r.2.mem ((c.tc : Thread Cert.Reference2Ideal.nD Cert.Reference2Ideal.τ).loc Cert.Reference2Ideal.main_v194) = v3 c
          ∧ r.2.mem ((c.tc : Thread Cert.Reference2Ideal.nD Cert.Reference2Ideal.τ).loc Cert.Reference2Ideal.main_v196) = v4 c
          ∧ r.2.mem ((c.tc : Thread Cert.Reference2Ideal.nD Cert.Reference2Ideal.τ).loc Cert.Reference2Ideal.main_v198) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S32768x512 : Shape := ⟨2, ![32768, 512]⟩
abbrev S32768x128 : Shape := ⟨2, ![32768, 128]⟩
abbrev S31x512 : Shape := ⟨2, ![31, 512]⟩
abbrev S512 : Shape := ⟨1, ![512]⟩
abbrev S32x1024x512 : Shape := ⟨3, ![32, 1024, 512]⟩
abbrev S32x512x1024 : Shape := ⟨3, ![32, 512, 1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn {F : FTy → Type} [FloatOps F] (main_arg0 : FVec F S32768x512 .f32) (main_arg1 : FVec F S32768x128 .f32) (main_arg2 : FVec F S32768x128 .f32) (main_arg3 : FVec F S32768x512 .f32) (main_arg4 : FVec F S31x512 .f32) (main_arg5 : FVec F S512 .f32) (main_arg6 : FVec F S512 .f32) (main_arg7 : FVec F S512 .f32) (main_arg8 : FVec F S32x1024x512 .f32) (main_arg9 : FVec F S32x1024x512 .f32) (main_arg10 : FVec F S32x512x1024 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  main_v8
-- ==== Kernel.lean ====
abbrev S32768x512 : Shape := ⟨2, ![32768, 512]⟩
abbrev S32768x128 : Shape := ⟨2, ![32768, 128]⟩
abbrev S31x512 : Shape := ⟨2, ![31, 512]⟩
abbrev S512 : Shape := ⟨1, ![512]⟩
abbrev S32x1024x512 : Shape := ⟨3, ![32, 1024, 512]⟩
abbrev S32x512x1024 : Shape := ⟨3, ![32, 512, 1024]⟩
abbrev S_ : Shape := ⟨0, ![]⟩
abbrev S1x512 : Shape := ⟨2, ![1, 512]⟩
abbrev S16384x1024 : Shape := ⟨2, ![16384, 1024]⟩
abbrev S512x512 : Shape := ⟨2, ![512, 512]⟩
abbrev S2048x128 : Shape := ⟨2, ![2048, 128]⟩
abbrev S2048x512 : Shape := ⟨2, ![2048, 512]⟩
abbrev S256x1024 : Shape := ⟨2, ![256, 1024]⟩
abbrev S2080x512 : Shape := ⟨2, ![2080, 512]⟩
abbrev S16x512 : Shape := ⟨2, ![16, 512]⟩
abbrev S2048x64 : Shape := ⟨2, ![2048, 64]⟩
abbrev S128x128 : Shape := ⟨2, ![128, 128]⟩
abbrev S1x128 : Shape := ⟨2, ![1, 128]⟩
abbrev S136x128 : Shape := ⟨2, ![136, 128]⟩
abbrev S32x512 : Shape := ⟨2, ![32, 512]⟩
abbrev S32 : Shape := ⟨1, ![32]⟩
abbrev S32x1 : Shape := ⟨2, ![32, 1]⟩
abbrev S512x64 : Shape := ⟨2, ![512, 64]⟩
abbrev S512x2048 : Shape := ⟨2, ![512, 2048]⟩
abbrev S512x1 : Shape := ⟨2, ![512, 1]⟩
abbrev S512x128 : Shape := ⟨2, ![512, 128]⟩

abbrev nBuf : Space → Nat
  | .hbm => 32
  | .vmem => 30
  | .smem => 0
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S32768x512, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S32x1024x512, .f32⟩
  | .hbm, ⟨9, _⟩ => ⟨S32x1024x512, .f32⟩
  | .hbm, ⟨10, _⟩ => ⟨S32x512x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32768x512, .f32⟩
  | .hbm, ⟨16, _⟩ => ⟨S32768x512, .f32⟩
  | .hbm, ⟨17, _⟩ => ⟨S32768x512, .bf16⟩
  | .hbm, ⟨18, _⟩ => ⟨S32768x128, .bf16⟩
  | .hbm, ⟨19, _⟩ => ⟨S32768x128, .bf16⟩
  | .hbm, ⟨20, _⟩ => ⟨S32768x512, .bf16⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S32768x512, .f32⟩
  | .hbm, ⟨25, _⟩ => ⟨S32768x512, .f32⟩
  | .hbm, ⟨26, _⟩ => ⟨S16384x1024, .f32⟩
  | .hbm, ⟨27, _⟩ => ⟨S32768x512, .bf16⟩
  | .hbm, ⟨28, _⟩ => ⟨S32768x512, .bf16⟩
  | .hbm, ⟨29, _⟩ => ⟨S32768x512, .bf16⟩
  | .hbm, ⟨30, _⟩ => ⟨S32768x512, .bf16⟩
  | .hbm, ⟨31, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x512, .bf16⟩
  | .local _ .vmem, ⟨7, _⟩ => ⟨S2048x512, .bf16⟩
  | .local _ .vmem, ⟨8, _⟩ => ⟨S31x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S256x1024, .f32⟩
  | .local _ .vmem, ⟨17, _⟩ => ⟨S256x1024, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S256x1024, .bf16⟩
  | .local _ .vmem, ⟨27, _⟩ => ⟨S256x1024, .bf16⟩
  | .local _ .vmem, ⟨28, _⟩ => ⟨S2080x512, .f32⟩
  | .local _ .vmem, ⟨29, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c512_i32 : BitVec 32 := 512#32
  let v25 : BitVec 32 := Scalar.muli v9 c512_i32
  v25
def k0_off1 (i : grid0.Coords) (c8_i32 : BitVec 32) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c512_i32 : BitVec 32 := 512#32
  let v25 : BitVec 32 := Scalar.muli v9 c512_i32
  let v26 : BitVec 32 := v25
  let v39 : BitVec 32 := Scalar.addi v26 c8_i32
  let v40 : Index := Scalar.indexCast v39
  let c0_22 : Index := 0#32
  ![v40.toNat, 0]
def k0_off1_at (r : Fin 16) : BitVec 32 :=
  if r.val < 8 then
    if r.val < 4 then
      if r.val < 2 then
        if r.val < 1 then
          8#32
        else
          16#32
      else
        if r.val < 3 then
          24#32
        else
          0#32
    else
      if r.val < 6 then
        if r.val < 5 then
          136#32
        else
          144#32
      else
        if r.val < 7 then
          152#32
        else
          128#32
  else
    if r.val < 12 then
      if r.val < 10 then
        if r.val < 9 then
          264#32
        else
          272#32
      else
        if r.val < 11 then
          280#32
        else
          256#32
    else
      if r.val < 14 then
        if r.val < 13 then
          392#32
        else
          400#32
      else
        if r.val < 15 then
          408#32
        else
          384#32
def k0_off2 (i : grid0.Coords) (c8_i32_117 : BitVec 32) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c512_i32 : BitVec 32 := 512#32
  let v25 : BitVec 32 := Scalar.muli v9 c512_i32
  let v26 : BitVec 32 := v25
  let v272 : BitVec 32 := Scalar.addi v26 c8_i32_117
  let v273 : Index := Scalar.indexCast v272
  let c128_118 : Index := 128#32
  ![v273.toNat, 128]
def k0_off2_at (r : Fin 16) : BitVec 32 :=
  if r.val < 8 then
    if r.val < 4 then
      if r.val < 2 then
        if r.val < 1 then
          8#32
        else
          16#32
      else
        if r.val < 3 then
          24#32
        else
          0#32
    else
      if r.val < 6 then
        if r.val < 5 then
          136#32
        else
          144#32
      else
        if r.val < 7 then
          152#32
        else
          128#32
  else
    if r.val < 12 then
      if r.val < 10 then
        if r.val < 9 then
          264#32
        else
          272#32
      else
        if r.val < 11 then
          280#32
        else
          256#32
    else
      if r.val < 14 then
        if r.val < 13 then
          392#32
        else
          400#32
      else
        if r.val < 15 then
          408#32
        else
          384#32
def k0_off3 (i : grid0.Coords) (c8_i32_245 : BitVec 32) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c512_i32 : BitVec 32 := 512#32
  let v25 : BitVec 32 := Scalar.muli v9 c512_i32
  let v26 : BitVec 32 := v25
  let v505 : BitVec 32 := Scalar.addi v26 c8_i32_245
  let v506 : Index := Scalar.indexCast v505
  let c256_246 : Index := 256#32
  ![v506.toNat, 256]
def k0_off3_at (r : Fin 16) : BitVec 32 :=
  if r.val < 8 then
    if r.val < 4 then
      if r.val < 2 then
        if r.val < 1 then
          8#32
        else
          16#32
      else
        if r.val < 3 then
          24#32
        else
          0#32
    else
      if r.val < 6 then
        if r.val < 5 then
          136#32
        else
          144#32
      else
        if r.val < 7 then
          152#32
        else
          128#32
  else
    if r.val < 12 then
      if r.val < 10 then
        if r.val < 9 then
          264#32
        else
          272#32
      else
        if r.val < 11 then
          280#32
        else
          256#32
    else
      if r.val < 14 then
        if r.val < 13 then
          392#32
        else
          400#32
      else
        if r.val < 15 then
          408#32
        else
          384#32
def k0_off4 (i : grid0.Coords) (c8_i32_373 : BitVec 32) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c512_i32 : BitVec 32 := 512#32
  let v25 : BitVec 32 := Scalar.muli v9 c512_i32
  let v26 : BitVec 32 := v25
  let v738 : BitVec 32 := Scalar.addi v26 c8_i32_373
  let v739 : Index := Scalar.indexCast v738
  let c384_374 : Index := 384#32
  ![v739.toNat, 384]
def k0_off4_at (r : Fin 16) : BitVec 32 :=
  if r.val < 8 then
    if r.val < 4 then
      if r.val < 2 then
        if r.val < 1 then
          8#32
        else
          16#32
      else
        if r.val < 3 then
          24#32
        else
          0#32
    else
      if r.val < 6 then
        if r.val < 5 then
          136#32
        else
          144#32
      else
        if r.val < 7 then
          152#32
        else
          128#32
  else
    if r.val < 12 then
      if r.val < 10 then
        if r.val < 9 then
          264#32
        else
          272#32
      else
        if r.val < 11 then
          280#32
        else
          256#32
    else
      if r.val < 14 then
        if r.val < 13 then
          392#32
        else
          400#32
      else
        if r.val < 15 then
          408#32
        else
          384#32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S32768x512 : Shape := ⟨2, ![32768, 512]⟩
abbrev S32768x128 : Shape := ⟨2, ![32768, 128]⟩
abbrev S31x512 : Shape := ⟨2, ![31, 512]⟩
abbrev S512 : Shape := ⟨1, ![512]⟩
abbrev S32x1024x512 : Shape := ⟨3, ![32, 1024, 512]⟩
abbrev S32x512x1024 : Shape := ⟨3, ![32, 512, 1024]⟩
abbrev S16x2048x512 : Shape := ⟨3, ![16, 2048, 512]⟩
abbrev S_ : Shape := ⟨0, ![]⟩
abbrev S16x2078x512 : Shape := ⟨3, ![16, 2078, 512]⟩
abbrev S1x512 : Shape := ⟨2, ![1, 512]⟩
abbrev S1x1x512 : Shape := ⟨3, ![1, 1, 512]⟩
abbrev S16x2048 : Shape := ⟨2, ![16, 2048]⟩
abbrev S16x2048x1 : Shape := ⟨3, ![16, 2048, 1]⟩
abbrev S16x2048x8x64 : Shape := ⟨4, ![16, 2048, 8, 64]⟩
abbrev S16x2048x2x64 : Shape := ⟨4, ![16, 2048, 2, 64]⟩
abbrev S16x2048x2x4x64 : Shape := ⟨5, ![16, 2048, 2, 4, 64]⟩
abbrev S16x2x4x2048x64 : Shape := ⟨5, ![16, 2, 4, 2048, 64]⟩
abbrev S16x2x2048x64 : Shape := ⟨4, ![16, 2, 2048, 64]⟩
abbrev S16x2x4x2048x2048 : Shape := ⟨5, ![16, 2, 4, 2048, 2048]⟩
abbrev S16x2x4x2048 : Shape := ⟨4, ![16, 2, 4, 2048]⟩
abbrev S16x2x4x2048x1 : Shape := ⟨5, ![16, 2, 4, 2048, 1]⟩
abbrev S16384x1024 : Shape := ⟨2, ![16384, 1024]⟩

abbrev nBuf : Space → Nat
  | .hbm => 313
  | .vmem => 0
  | .smem => 0
  | _ => 0

abbrev hbmTy0_0 (i : Nat) : BufTy := match i % 128 with
  | 0 => ⟨S32768x512, .f32⟩
  | 1 => ⟨S32768x128, .f32⟩
  | 2 => ⟨S32768x128, .f32⟩
  | 3 => ⟨S32768x512, .f32⟩
  | 4 => ⟨S31x512, .f32⟩
  | 5 => ⟨S512, .f32⟩
  | 6 => ⟨S512, .f32⟩
  | 7 => ⟨S512, .f32⟩
  | 8 => ⟨S32x1024x512, .f32⟩
  | 9 => ⟨S32x1024x512, .f32⟩
  | 10 => ⟨S32x512x1024, .f32⟩
  | 11 => ⟨S16x2048x512, .f32⟩
  | 12 => ⟨S_, .i32⟩
  | 13 => ⟨S_, .f32⟩
  | 14 => ⟨S16x2078x512, .f32⟩
  | 15 => ⟨S_, .f32⟩
  | 16 => ⟨S16x2048x512, .f32⟩
  | 17 => ⟨S16x2048x512, .f32⟩
  | 18 => ⟨S1x512, .f32⟩
  | 19 => ⟨S512, .f32⟩
  | 20 => ⟨S1x1x512, .f32⟩
  | 21 => ⟨S16x2048x512, .f32⟩
  | 22 => ⟨S16x2048x512, .f32⟩
  | 23 => ⟨S16x2048x512, .f32⟩
  | 24 => ⟨S16x2048x512, .f32⟩
  | 25 => ⟨S1x512, .f32⟩
  | 26 => ⟨S512, .f32⟩
  | 27 => ⟨S1x1x512, .f32⟩
  | 28 => ⟨S16x2048x512, .f32⟩
  | 29 => ⟨S16x2048x512, .f32⟩
  | 30 => ⟨S16x2048x512, .f32⟩
  | 31 => ⟨S16x2048x512, .f32⟩
  | 32 => ⟨S1x512, .f32⟩
  | 33 => ⟨S512, .f32⟩
  | 34 => ⟨S1x1x512, .f32⟩
  | 35 => ⟨S16x2048x512, .f32⟩
  | 36 => ⟨S16x2048x512, .f32⟩
  | 37 => ⟨S16x2048x512, .f32⟩
  | 38 => ⟨S16x2048x512, .f32⟩
  | 39 => ⟨S1x512, .f32⟩
  | 40 => ⟨S512, .f32⟩
  | 41 => ⟨S1x1x512, .f32⟩
  | 42 => ⟨S16x2048x512, .f32⟩
  | 43 => ⟨S16x2048x512, .f32⟩
  | 44 => ⟨S16x2048x512, .f32⟩
  | 45 => ⟨S16x2048x512, .f32⟩
  | 46 => ⟨S1x512, .f32⟩
  | 47 => ⟨S512, .f32⟩
  | 48 => ⟨S1x1x512, .f32⟩
  | 49 => ⟨S16x2048x512, .f32⟩
  | 50 => ⟨S16x2048x512, .f32⟩
  | 51 => ⟨S16x2048x512, .f32⟩
  | 52 => ⟨S16x2048x512, .f32⟩
  | 53 => ⟨S1x512, .f32⟩
  | 54 => ⟨S512, .f32⟩
  | 55 => ⟨S1x1x512, .f32⟩
  | 56 => ⟨S16x2048x512, .f32⟩
  | 57 => ⟨S16x2048x512, .f32⟩
  | 58 => ⟨S16x2048x512, .f32⟩
  | 59 => ⟨S16x2048x512, .f32⟩
  | 60 => ⟨S1x512, .f32⟩
  | 61 => ⟨S512, .f32⟩
  | 62 => ⟨S1x1x512, .f32⟩
  | 63 => ⟨S16x2048x512, .f32⟩
  | 64 => ⟨S16x2048x512, .f32⟩
  | 65 => ⟨S16x2048x512, .f32⟩
  | 66 => ⟨S16x2048x512, .f32⟩
  | 67 => ⟨S1x512, .f32⟩
  | 68 => ⟨S512, .f32⟩
  | 69 => ⟨S1x1x512, .f32⟩
  | 70 => ⟨S16x2048x512, .f32⟩
  | 71 => ⟨S16x2048x512, .f32⟩
  | 72 => ⟨S16x2048x512, .f32⟩
  | 73 => ⟨S16x2048x512, .f32⟩
  | 74 => ⟨S1x512, .f32⟩
  | 75 => ⟨S512, .f32⟩
  | 76 => ⟨S1x1x512, .f32⟩
  | 77 => ⟨S16x2048x512, .f32⟩
  | 78 => ⟨S16x2048x512, .f32⟩
  | 79 => ⟨S16x2048x512, .f32⟩
  | 80 => ⟨S16x2048x512, .f32⟩
  | 81 => ⟨S1x512, .f32⟩
  | 82 => ⟨S512, .f32⟩
  | 83 => ⟨S1x1x512, .f32⟩
  | 84 => ⟨S16x2048x512, .f32⟩
  | 85 => ⟨S16x2048x512, .f32⟩
  | 86 => ⟨S16x2048x512, .f32⟩
  | 87 => ⟨S16x2048x512, .f32⟩
  | 88 => ⟨S1x512, .f32⟩
  | 89 => ⟨S512, .f32⟩
  | 90 => ⟨S1x1x512, .f32⟩
  | 91 => ⟨S16x2048x512, .f32⟩
  | 92 => ⟨S16x2048x512, .f32⟩
  | 93 => ⟨S16x2048x512, .f32⟩
  | 94 => ⟨S16x2048x512, .f32⟩
  | 95 => ⟨S1x512, .f32⟩
  | 96 => ⟨S512, .f32⟩
  | 97 => ⟨S1x1x512, .f32⟩
  | 98 => ⟨S16x2048x512, .f32⟩
  | 99 => ⟨S16x2048x512, .f32⟩
  | 100 => ⟨S16x2048x512, .f32⟩
  | 101 => ⟨S16x2048x512, .f32⟩
  | 102 => ⟨S1x512, .f32⟩
  | 103 => ⟨S512, .f32⟩
  | 104 => ⟨S1x1x512, .f32⟩
  | 105 => ⟨S16x2048x512, .f32⟩
  | 106 => ⟨S16x2048x512, .f32⟩
  | 107 => ⟨S16x2048x512, .f32⟩
  | 108 => ⟨S16x2048x512, .f32⟩
  | 109 => ⟨S1x512, .f32⟩
  | 110 => ⟨S512, .f32⟩
  | 111 => ⟨S1x1x512, .f32⟩
  | 112 => ⟨S16x2048x512, .f32⟩
  | 113 => ⟨S16x2048x512, .f32⟩
  | 114 => ⟨S16x2048x512, .f32⟩
  | 115 => ⟨S16x2048x512, .f32⟩
  | 116 => ⟨S1x512, .f32⟩
  | 117 => ⟨S512, .f32⟩
  | 118 => ⟨S1x1x512, .f32⟩
  | 119 => ⟨S16x2048x512, .f32⟩
  | 120 => ⟨S16x2048x512, .f32⟩
  | 121 => ⟨S16x2048x512, .f32⟩
  | 122 => ⟨S16x2048x512, .f32⟩
  | 123 => ⟨S1x512, .f32⟩
  | 124 => ⟨S512, .f32⟩
  | 125 => ⟨S1x1x512, .f32⟩
  | 126 => ⟨S16x2048x512, .f32⟩
  | 127 => ⟨S16x2048x512, .f32⟩
  | _ => ⟨S32768x512, .f32⟩

abbrev hbmTy0_1 (i : Nat) : BufTy := match i % 128 with
  | 0 => ⟨S16x2048x512, .f32⟩
  | 1 => ⟨S16x2048x512, .f32⟩
  | 2 => ⟨S1x512, .f32⟩
  | 3 => ⟨S512, .f32⟩
  | 4 => ⟨S1x1x512, .f32⟩
  | 5 => ⟨S16x2048x512, .f32⟩
  | 6 => ⟨S16x2048x512, .f32⟩
  | 7 => ⟨S16x2048x512, .f32⟩
  | 8 => ⟨S16x2048x512, .f32⟩
  | 9 => ⟨S1x512, .f32⟩
  | 10 => ⟨S512, .f32⟩
  | 11 => ⟨S1x1x512, .f32⟩
  | 12 => ⟨S16x2048x512, .f32⟩
  | 13 => ⟨S16x2048x512, .f32⟩
  | 14 => ⟨S16x2048x512, .f32⟩
  | 15 => ⟨S16x2048x512, .f32⟩
  | 16 => ⟨S1x512, .f32⟩
  | 17 => ⟨S512, .f32⟩
  | 18 => ⟨S1x1x512, .f32⟩
  | 19 => ⟨S16x2048x512, .f32⟩
  | 20 => ⟨S16x2048x512, .f32⟩
  | 21 => ⟨S16x2048x512, .f32⟩
  | 22 => ⟨S16x2048x512, .f32⟩
  | 23 => ⟨S1x512, .f32⟩
  | 24 => ⟨S512, .f32⟩
  | 25 => ⟨S1x1x512, .f32⟩
  | 26 => ⟨S16x2048x512, .f32⟩
  | 27 => ⟨S16x2048x512, .f32⟩
  | 28 => ⟨S16x2048x512, .f32⟩
  | 29 => ⟨S16x2048x512, .f32⟩
  | 30 => ⟨S1x512, .f32⟩
  | 31 => ⟨S512, .f32⟩
  | 32 => ⟨S1x1x512, .f32⟩
  | 33 => ⟨S16x2048x512, .f32⟩
  | 34 => ⟨S16x2048x512, .f32⟩
  | 35 => ⟨S16x2048x512, .f32⟩
  | 36 => ⟨S16x2048x512, .f32⟩
  | 37 => ⟨S1x512, .f32⟩
  | 38 => ⟨S512, .f32⟩
  | 39 => ⟨S1x1x512, .f32⟩
  | 40 => ⟨S16x2048x512, .f32⟩
  | 41 => ⟨S16x2048x512, .f32⟩
  | 42 => ⟨S16x2048x512, .f32⟩
  | 43 => ⟨S16x2048x512, .f32⟩
  | 44 => ⟨S1x512, .f32⟩
  | 45 => ⟨S512, .f32⟩
  | 46 => ⟨S1x1x512, .f32⟩
  | 47 => ⟨S16x2048x512, .f32⟩
  | 48 => ⟨S16x2048x512, .f32⟩
  | 49 => ⟨S16x2048x512, .f32⟩
  | 50 => ⟨S16x2048x512, .f32⟩
  | 51 => ⟨S1x512, .f32⟩
  | 52 => ⟨S512, .f32⟩
  | 53 => ⟨S1x1x512, .f32⟩
  | 54 => ⟨S16x2048x512, .f32⟩
  | 55 => ⟨S16x2048x512, .f32⟩
  | 56 => ⟨S16x2048x512, .f32⟩
  | 57 => ⟨S16x2048x512, .f32⟩
  | 58 => ⟨S1x512, .f32⟩
  | 59 => ⟨S512, .f32⟩
  | 60 => ⟨S1x1x512, .f32⟩
  | 61 => ⟨S16x2048x512, .f32⟩
  | 62 => ⟨S16x2048x512, .f32⟩
  | 63 => ⟨S16x2048x512, .f32⟩
  | 64 => ⟨S16x2048x512, .f32⟩
  | 65 => ⟨S1x512, .f32⟩
  | 66 => ⟨S512, .f32⟩
  | 67 => ⟨S1x1x512, .f32⟩
  | 68 => ⟨S16x2048x512, .f32⟩
  | 69 => ⟨S16x2048x512, .f32⟩
  | 70 => ⟨S16x2048x512, .f32⟩
  | 71 => ⟨S16x2048x512, .f32⟩
  | 72 => ⟨S1x512, .f32⟩
  | 73 => ⟨S512, .f32⟩
  | 74 => ⟨S1x1x512, .f32⟩
  | 75 => ⟨S16x2048x512, .f32⟩
  | 76 => ⟨S16x2048x512, .f32⟩
  | 77 => ⟨S16x2048x512, .f32⟩
  | 78 => ⟨S16x2048x512, .f32⟩
  | 79 => ⟨S1x512, .f32⟩
  | 80 => ⟨S512, .f32⟩
  | 81 => ⟨S1x1x512, .f32⟩
  | 82 => ⟨S16x2048x512, .f32⟩
  | 83 => ⟨S16x2048x512, .f32⟩
  | 84 => ⟨S16x2048x512, .f32⟩
  | 85 => ⟨S16x2048x512, .f32⟩
  | 86 => ⟨S1x512, .f32⟩
  | 87 => ⟨S512, .f32⟩
  | 88 => ⟨S1x1x512, .f32⟩
  | 89 => ⟨S16x2048x512, .f32⟩
  | 90 => ⟨S16x2048x512, .f32⟩
  | 91 => ⟨S16x2048x512, .f32⟩
  | 92 => ⟨S16x2048x512, .f32⟩
  | 93 => ⟨S1x512, .f32⟩
  | 94 => ⟨S512, .f32⟩
  | 95 => ⟨S1x1x512, .f32⟩
  | 96 => ⟨S16x2048x512, .f32⟩
  | 97 => ⟨S16x2048x512, .f32⟩
  | 98 => ⟨S16x2048x512, .f32⟩
  | 99 => ⟨S16x2048x512, .f32⟩
  | 100 => ⟨S1x512, .f32⟩
  | 101 => ⟨S512, .f32⟩
  | 102 => ⟨S1x1x512, .f32⟩
  | 103 => ⟨S16x2048x512, .f32⟩
  | 104 => ⟨S16x2048x512, .f32⟩
  | 105 => ⟨S16x2048x512, .f32⟩
  | 106 => ⟨S1x1x512, .f32⟩
  | 107 => ⟨S16x2048x512, .f32⟩
  | 108 => ⟨S16x2048x512, .f32⟩
  | 109 => ⟨S_, .f32⟩
  | 110 => ⟨S16x2048, .f32⟩
  | 111 => ⟨S16x2048x1, .f32⟩
  | 112 => ⟨S_, .f32⟩
  | 113 => ⟨S16x2048x1, .f32⟩
  | 114 => ⟨S16x2048x1, .f32⟩
  | 115 => ⟨S16x2048x512, .f32⟩
  | 116 => ⟨S16x2048x512, .f32⟩
  | 117 => ⟨S16x2048x512, .f32⟩
  | 118 => ⟨S_, .f32⟩
  | 119 => ⟨S16x2048, .f32⟩
  | 120 => ⟨S16x2048x1, .f32⟩
  | 121 => ⟨S_, .f32⟩
  | 122 => ⟨S16x2048x1, .f32⟩
  | 123 => ⟨S16x2048x1, .f32⟩
  | 124 => ⟨S16x2048x512, .f32⟩
  | 125 => ⟨S16x2048x512, .f32⟩
  | 126 => ⟨S_, .f32⟩
  | 127 => ⟨S16x2048x1, .f32⟩
  | _ => ⟨S32768x512, .f32⟩

abbrev hbmTy0_2 (i : Nat) : BufTy := match i % 128 with
  | 0 => ⟨S16x2048x1, .f32⟩
  | 1 => ⟨S16x2048x1, .f32⟩
  | 2 => ⟨S16x2048x512, .f32⟩
  | 3 => ⟨S16x2048x512, .f32⟩
  | 4 => ⟨S1x1x512, .f32⟩
  | 5 => ⟨S16x2048x512, .f32⟩
  | 6 => ⟨S16x2048x512, .f32⟩
  | 7 => ⟨S1x1x512, .f32⟩
  | 8 => ⟨S16x2048x512, .f32⟩
  | 9 => ⟨S16x2048x512, .f32⟩
  | 10 => ⟨S16x2048x8x64, .f32⟩
  | 11 => ⟨S16x2048x2x64, .f32⟩
  | 12 => ⟨S16x2048x2x64, .f32⟩
  | 13 => ⟨S16x2048x2x4x64, .f32⟩
  | 14 => ⟨S16x2x4x2048x64, .f32⟩
  | 15 => ⟨S16x2x2048x64, .f32⟩
  | 16 => ⟨S16x2x2048x64, .f32⟩
  | 17 => ⟨S16x2x4x2048x2048, .f32⟩
  | 18 => ⟨S_, .f32⟩
  | 19 => ⟨S16x2x4x2048x2048, .f32⟩
  | 20 => ⟨S16x2x4x2048x2048, .f32⟩
  | 21 => ⟨S_, .f32⟩
  | 22 => ⟨S16x2x4x2048, .f32⟩
  | 23 => ⟨S_, .f32⟩
  | 24 => ⟨S16x2x4x2048, .f32⟩
  | 25 => ⟨S16x2x4x2048, .f32⟩
  | 26 => ⟨S16x2x4x2048x1, .f32⟩
  | 27 => ⟨S16x2x4x2048x2048, .f32⟩
  | 28 => ⟨S16x2x4x2048x2048, .f32⟩
  | 29 => ⟨S16x2x4x2048x2048, .f32⟩
  | 30 => ⟨S_, .f32⟩
  | 31 => ⟨S16x2x4x2048, .f32⟩
  | 32 => ⟨S16x2x4x2048x1, .f32⟩
  | 33 => ⟨S16x2x4x2048x2048, .f32⟩
  | 34 => ⟨S16x2x4x2048x2048, .f32⟩
  | 35 => ⟨S16x2x4x2048x64, .f32⟩
  | 36 => ⟨S16x2048x2x4x64, .f32⟩
  | 37 => ⟨S16x2048x512, .f32⟩
  | 38 => ⟨S32768x512, .f32⟩
  | 39 => ⟨S16x2048x512, .f32⟩
  | 40 => ⟨S16x2048x512, .f32⟩
  | 41 => ⟨S_, .f32⟩
  | 42 => ⟨S16x2048x512, .f32⟩
  | 43 => ⟨S16x2048x512, .f32⟩
  | 44 => ⟨S_, .f32⟩
  | 45 => ⟨S16x2048x512, .f32⟩
  | 46 => ⟨S16x2048x512, .f32⟩
  | 47 => ⟨S16x2048x512, .f32⟩
  | 48 => ⟨S32768x512, .f32⟩
  | 49 => ⟨S32768x512, .f32⟩
  | 50 => ⟨S32768x512, .f32⟩
  | 51 => ⟨S16384x1024, .f32⟩
  | 52 => ⟨S32768x512, .bf16⟩
  | 53 => ⟨S32768x512, .bf16⟩
  | 54 => ⟨S32768x512, .bf16⟩
  | 55 => ⟨S32768x512, .bf16⟩
  | 56 => ⟨S16384x1024, .bf16⟩
  | _ => ⟨S32768x512, .f32⟩

abbrev hbmTy (i : Nat) : BufTy := match i / 128 with
  | 0 => hbmTy0_0 i
  | 1 => hbmTy0_1 i
  | 2 => hbmTy0_2 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_cst_0 : Ref sig .tc := ⟨.hbm, 237, rfl⟩
abbrev main_v223 : Ref sig .tc := ⟨.hbm, 238, rfl⟩
abbrev main_v224 : Ref sig .tc := ⟨.hbm, 239, rfl⟩
abbrev main_cst_1 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_cst_2 : Ref sig .tc := ⟨.hbm, 246, rfl⟩
abbrev main_v230 : Ref sig .tc := ⟨.hbm, 247, rfl⟩
abbrev main_v231 : Ref sig .tc := ⟨.hbm, 248, rfl⟩
abbrev main_cst_3 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_cst_4 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_cst_5 : Ref sig .tc := ⟨.hbm, 274, rfl⟩
abbrev main_v255 : Ref sig .tc := ⟨.hbm, 275, rfl⟩
abbrev main_v256 : Ref sig .tc := ⟨.hbm, 276, rfl⟩
abbrev main_cst_6 : Ref sig .tc := ⟨.hbm, 277, rfl⟩
abbrev main_v257 : Ref sig .tc := ⟨.hbm, 278, rfl⟩
abbrev main_cst_7 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_cst_8 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_call1_v0 : Ref sig .tc := ⟨.hbm, 295, rfl⟩
abbrev main_call1_v1 : Ref sig .tc := ⟨.hbm, 296, rfl⟩
abbrev main_call1_cst : Ref sig .tc := ⟨.hbm, 297, rfl⟩
abbrev main_call1_v2 : Ref sig .tc := ⟨.hbm, 298, rfl⟩
abbrev main_call1_v3 : Ref sig .tc := ⟨.hbm, 299, rfl⟩
abbrev main_call1_cst_0 : Ref sig .tc := ⟨.hbm, 300, rfl⟩
abbrev main_call1_v4 : Ref sig .tc := ⟨.hbm, 301, rfl⟩
abbrev main_call1_v5 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x6144 : Shape := ⟨2, ![16, 6144]⟩
abbrev S1024 : Shape := ⟨1, ![1024]⟩
abbrev S1024x3840 : Shape := ⟨2, ![1024, 3840]⟩
abbrev S64 : Shape := ⟨1, ![64]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32768x1024 : Shape := ⟨2, ![32768, 1024]⟩
abbrev S16x6x1024 : Shape := ⟨3, ![16, 6, 1024]⟩
abbrev S1x1024 : Shape := ⟨2, ![1, 1024]⟩
abbrev S1x64 : Shape := ⟨2, ![1, 64]⟩
abbrev S2x64 : Shape := ⟨2, ![2, 64]⟩
abbrev S32768x512 : Shape := ⟨2, ![32768, 512]⟩
abbrev S32768x128 : Shape := ⟨2, ![32768, 128]⟩
abbrev S512x1024 : Shape := ⟨2, ![512, 1024]⟩
abbrev S1x6x1024 : Shape := ⟨3, ![1, 6, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x1x1024 : Shape := ⟨3, ![1, 1, 1024]⟩
abbrev S512x3840 : Shape := ⟨2, ![512, 3840]⟩

abbrev nBuf : Space → Nat
  | .hbm => 137
  | .vmem => 25
  | .smem => 0
  | _ => 0

abbrev hbmTy0_0 (i : Nat) : BufTy := match i % 128 with
  | 0 => ⟨S16x2048x1024, .f32⟩
  | 1 => ⟨S16x6144, .f32⟩
  | 2 => ⟨S1024, .f32⟩
  | 3 => ⟨S1024x3840, .f32⟩
  | 4 => ⟨S64, .f32⟩
  | 5 => ⟨S64, .f32⟩
  | 6 => ⟨S2048, .i32⟩
  | 7 => ⟨S_, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S2048, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i1⟩
  | 37 => ⟨S_, .i32⟩
  | 38 => ⟨S2048, .i32⟩
  | 39 => ⟨S2048, .i1⟩
  | 40 => ⟨S_, .i32⟩
  | 41 => ⟨S_, .i1⟩
  | 42 => ⟨S2048, .i1⟩
  | 43 => ⟨S2048, .i1⟩
  | 44 => ⟨S2048, .i1⟩
  | 45 => ⟨S2048, .i32⟩
  | 46 => ⟨S2048, .i32⟩
  | 47 => ⟨S2048, .i32⟩
  | 48 => ⟨S2048, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S2048x1, .f32⟩
  | 64 => ⟨S1x16, .f32⟩
  | 65 => ⟨S2048x16, .f32⟩
  | 66 => ⟨S2048x16, .f32⟩
  | 67 => ⟨S2048x16, .f32⟩
  | 68 => ⟨S2048x1, .f32⟩
  | 69 => ⟨S1x16, .f32⟩
  | 70 => ⟨S2048x16, .f32⟩
  | 71 => ⟨S2048x16, .f32⟩
  | 72 => ⟨S2048x16, .f32⟩
  | 73 => ⟨S2048x16, .f32⟩
  | 74 => ⟨S2048x16, .f32⟩
  | 75 => ⟨S2048x16, .f32⟩
  | 76 => ⟨S2048x16, .f32⟩
  | 77 => ⟨S2048x64, .f32⟩
  | 78 => ⟨S2048x16, .f32⟩
  | 79 => ⟨S2048x16, .f32⟩
  | 80 => ⟨S2048x16, .f32⟩
  | 81 => ⟨S2048x16, .f32⟩
  | 82 => ⟨S2048x16, .f32⟩
  | 83 => ⟨S2048x16, .f32⟩
  | 84 => ⟨S2048x64, .f32⟩
  | 85 => ⟨S1x2048x1x64, .f32⟩
  | 86 => ⟨S1x2048x2x64, .f32⟩
  | 87 => ⟨S2048x128, .f32⟩
  | 88 => ⟨S1x2048x1x64, .f32⟩
  | 89 => ⟨S1x2048x2x64, .f32⟩
  | 90 => ⟨S2048x128, .f32⟩
  | 91 => ⟨S128, .i32⟩
  | 92 => ⟨S_, .i32⟩
  | 93 => ⟨S_, .i32⟩
  | 94 => ⟨S128, .i32⟩
  | 95 => ⟨S128, .i32⟩
  | 96 => ⟨S128, .i32⟩
  | 97 => ⟨S_, .i32⟩
  | 98 => ⟨S128, .i32⟩
  | 99 => ⟨S128, .i1⟩
  | 100 => ⟨S128, .i32⟩
  | 101 => ⟨S128, .i32⟩
  | 102 => ⟨S_, .i32⟩
  | 103 => ⟨S128, .i32⟩
  | 104 => ⟨S128, .i1⟩
  | 105 => ⟨S128, .i1⟩
  | 106 => ⟨S_, .i32⟩
  | 107 => ⟨S128, .i32⟩
  | 108 => ⟨S128, .i32⟩
  | 109 => ⟨S128, .i32⟩
  | 110 => ⟨S128x1, .i32⟩
  | 111 => ⟨S1x128, .i32⟩
  | 112 => ⟨S128x128, .i32⟩
  | 113 => ⟨S128x128, .i32⟩
  | 114 => ⟨S128x128, .i1⟩
  | 115 => ⟨S128x128, .f32⟩
  | 116 => ⟨S_, .f32⟩
  | 117 => ⟨S128x128, .f32⟩
  | 118 => ⟨S128x128, .f32⟩
  | 119 => ⟨S32768x1024, .f32⟩
  | 120 => ⟨S16x6x1024, .f32⟩
  | 121 => ⟨S1x1024, .f32⟩
  | 122 => ⟨S1024x3840, .bf16⟩
  | 123 => ⟨S1x64, .f32⟩
  | 124 => ⟨S2x64, .f32⟩
  | 125 => ⟨S128, .f32⟩
  | 126 => ⟨S1x128, .f32⟩
  | 127 => ⟨S1x64, .f32⟩
  | _ => ⟨S16x2048x1024, .f32⟩

abbrev hbmTy0_1 (i : Nat) : BufTy := match i % 128 with
  | 0 => ⟨S2x64, .f32⟩
  | 1 => ⟨S128, .f32⟩
  | 2 => ⟨S1x128, .f32⟩
  | 3 => ⟨S32768x512, .bf16⟩
  | 4 => ⟨S32768x512, .bf16⟩
  | 5 => ⟨S32768x128, .bf16⟩
  | 6 => ⟨S32768x128, .bf16⟩
  | 7 => ⟨S32768x1024, .bf16⟩
  | 8 => ⟨S32768x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3840, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_cst : Ref sig .tc := ⟨.hbm, 50, rfl⟩
abbrev main_v6 : Ref sig .tc := ⟨.hbm, 51, rfl⟩
abbrev main_v7 : Ref sig .tc := ⟨.hbm, 52, rfl⟩
abbrev main_cst_1 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_cst_2 : Ref sig .tc := ⟨.hbm, 57, rfl⟩
abbrev main_v11 : Ref sig .tc := ⟨.hbm, 58, rfl⟩
abbrev main_v12 : Ref sig .tc := ⟨.hbm, 59, rfl⟩
abbrev main_cst_3 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_4 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_c : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_0 : Ref sig .tc := ⟨.hbm, 106, rfl⟩
abbrev main_call2_v12 : Ref sig .tc := ⟨.hbm, 107, rfl⟩
abbrev main_call2_v13 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_cst_5 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65_0 : Ref sig .tc := ⟨.hbm, 131, rfl⟩
abbrev main_v65_1 : Ref sig .tc := ⟨.hbm, 132, rfl⟩
abbrev main_v65_2 : Ref sig .tc := ⟨.hbm, 133, rfl⟩
abbrev main_v65_3 : Ref sig .tc := ⟨.hbm, 134, rfl⟩
abbrev main_v65_4 : Ref sig .tc := ⟨.hbm, 135, rfl⟩
abbrev main_v65_5 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16x2048x1024 : Shape := ⟨3, ![16, 2048, 1024]⟩
abbrev S16x6144 : Shape := ⟨2, ![16, 6144]⟩
abbrev S1024 : Shape := ⟨1, ![1024]⟩
abbrev S1024x3840 : Shape := ⟨2, ![1024, 3840]⟩
abbrev S64 : Shape := ⟨1, ![64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S16x1x6144 : Shape := ⟨3, ![16, 1, 6144]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3840 : Shape := ⟨3, ![16, 2048, 3840]⟩
abbrev S16x2048x512 : Shape := ⟨3, ![16, 2048, 512]⟩
abbrev S16x2048x128 : Shape := ⟨3, ![16, 2048, 128]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x8x32 : Shape := ⟨4, ![16, 2048, 8, 32]⟩
abbrev S1x2048x1x16 : Shape := ⟨4, ![1, 2048, 1, 16]⟩
abbrev S16x2048x8x16 : Shape := ⟨4, ![16, 2048, 8, 16]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x2x32 : Shape := ⟨4, ![16, 2048, 2, 32]⟩
abbrev S16x2048x2x16 : Shape := ⟨4, ![16, 2048, 2, 16]⟩
abbrev S32768x512 : Shape := ⟨2, ![32768, 512]⟩
abbrev S32768x128 : Shape := ⟨2, ![32768, 128]⟩
abbrev S32768x1024 : Shape := ⟨2, ![32768, 1024]⟩

abbrev nBuf : Space → Nat
  | .hbm => 226
  | .vmem => 0
  | .smem => 0
  | _ => 0

abbrev hbmTy0_0 (i : Nat) : BufTy := match i % 128 with
  | 0 => ⟨S16x2048x1024, .f32⟩
  | 1 => ⟨S16x6144, .f32⟩
  | 2 => ⟨S1024, .f32⟩
  | 3 => ⟨S1024x3840, .f32⟩
  | 4 => ⟨S64, .f32⟩
  | 5 => ⟨S64, .f32⟩
  | 6 => ⟨S32, .i32⟩
  | 7 => ⟨S32x64, .i32⟩
  | 8 => ⟨S2048, .i32⟩
  | 9 => ⟨S2048, .f32⟩
  | 10 => ⟨S64, .i32⟩
  | 11 => ⟨S1x64, .i32⟩
  | 12 => ⟨S32x64, .i32⟩
  | 13 => ⟨S2048, .i32⟩
  | 14 => ⟨S2048, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S2048x1, .f32⟩
  | 30 => ⟨S1x16, .f32⟩
  | 31 => ⟨S2048x16, .f32⟩
  | 32 => ⟨S2048x16, .f32⟩
  | 33 => ⟨S2048x16, .f32⟩
  | 34 => ⟨S2048x1, .f32⟩
  | 35 => ⟨S1x16, .f32⟩
  | 36 => ⟨S2048x16, .f32⟩
  | 37 => ⟨S2048x16, .f32⟩
  | 38 => ⟨S2048x16, .f32⟩
  | 39 => ⟨S16x1x6144, .f32⟩
  | 40 => ⟨S16x1x1024, .f32⟩
  | 41 => ⟨S16x1x1024, .f32⟩
  | 42 => ⟨S16x1x1024, .f32⟩
  | 43 => ⟨S16x1x1024, .f32⟩
  | 44 => ⟨S16x1x1024, .f32⟩
  | 45 => ⟨S16x1x1024, .f32⟩
  | 46 => ⟨S16x2048x1024, .f32⟩
  | 47 => ⟨S_, .f32⟩
  | 48 => ⟨S16x2048, .f32⟩
  | 49 => ⟨S16x2048x1, .f32⟩
  | 50 => ⟨S_, .f32⟩
  | 51 => ⟨S16x2048x1, .f32⟩
  | 52 => ⟨S16x2048x1, .f32⟩
  | 53 => ⟨S_, .f32⟩
  | 54 => ⟨S16x2048x1, .f32⟩
  | 55 => ⟨S16x2048x1, .f32⟩
  | 56 => ⟨S16x2048x1, .f32⟩
  | 57 => ⟨S16x2048x1024, .f32⟩
  | 58 => ⟨S16x2048x1024, .f32⟩
  | 59 => ⟨S1x1x1024, .f32⟩
  | 60 => ⟨S16x2048x1024, .f32⟩
  | 61 => ⟨S16x2048x1024, .f32⟩
  | 62 => ⟨S_, .f32⟩
  | 63 => ⟨S16x1x1024, .f32⟩
  | 64 => ⟨S16x1x1024, .f32⟩
  | 65 => ⟨S16x2048x1024, .f32⟩
  | 66 => ⟨S16x2048x1024, .f32⟩
  | 67 => ⟨S16x2048x1024, .f32⟩
  | 68 => ⟨S16x2048x1024, .f32⟩
  | 69 => ⟨S16x2048x3840, .f32⟩
  | 70 => ⟨S16x2048x1024, .f32⟩
  | 71 => ⟨S16x2048x512, .f32⟩
  | 72 => ⟨S16x2048x128, .f32⟩
  | 73 => ⟨S16x2048x128, .f32⟩
  | 74 => ⟨S16x2048x1024, .f32⟩
  | 75 => ⟨S16x2048x1024, .f32⟩
  | 76 => ⟨S16x2048x512, .f32⟩
  | 77 => ⟨S16x2048x512, .f32⟩
  | 78 => ⟨S16x2048x8x64, .f32⟩
  | 79 => ⟨S16x2048x8x64, .f32⟩
  | 80 => ⟨S_, .f32⟩
  | 81 => ⟨S16x2048x8, .f32⟩
  | 82 => ⟨S16x2048x8x1, .f32⟩
  | 83 => ⟨S_, .f32⟩
  | 84 => ⟨S16x2048x8x1, .f32⟩
  | 85 => ⟨S16x2048x8x1, .f32⟩
  | 86 => ⟨S_, .f32⟩
  | 87 => ⟨S16x2048x8x1, .f32⟩
  | 88 => ⟨S16x2048x8x1, .f32⟩
  | 89 => ⟨S16x2048x8x1, .f32⟩
  | 90 => ⟨S16x2048x8x64, .f32⟩
  | 91 => ⟨S16x2048x8x64, .f32⟩
  | 92 => ⟨S1x1x1x64, .f32⟩
  | 93 => ⟨S16x2048x8x64, .f32⟩
  | 94 => ⟨S16x2048x8x64, .f32⟩
  | 95 => ⟨S16x2048x8x32, .f32⟩
  | 96 => ⟨S16x2048x8x32, .f32⟩
  | 97 => ⟨S2048x16, .f32⟩
  | 98 => ⟨S1x2048x1x16, .f32⟩
  | 99 => ⟨S2048x16, .f32⟩
  | 100 => ⟨S1x2048x1x16, .f32⟩
  | 101 => ⟨S16x2048x8x16, .f32⟩
  | 102 => ⟨S16x2048x8x16, .f32⟩
  | 103 => ⟨S16x2048x8x16, .f32⟩
  | 104 => ⟨S16x2048x8x16, .f32⟩
  | 105 => ⟨S16x2048x8x16, .f32⟩
  | 106 => ⟨S16x2048x8x16, .f32⟩
  | 107 => ⟨S16x2048x8x16, .f32⟩
  | 108 => ⟨S16x2048x8x16, .f32⟩
  | 109 => ⟨S16x2048x8x16, .f32⟩
  | 110 => ⟨S16x2048x8x16, .f32⟩
  | 111 => ⟨S16x2048x8x16, .f32⟩
  | 112 => ⟨S16x2048x8x16, .f32⟩
  | 113 => ⟨S16x2048x8x32, .f32⟩
  | 114 => ⟨S2048x16, .f32⟩
  | 115 => ⟨S1x2048x1x16, .f32⟩
  | 116 => ⟨S2048x16, .f32⟩
  | 117 => ⟨S1x2048x1x16, .f32⟩
  | 118 => ⟨S16x2048x8x16, .f32⟩
  | 119 => ⟨S16x2048x8x16, .f32⟩
  | 120 => ⟨S16x2048x8x16, .f32⟩
  | 121 => ⟨S16x2048x8x16, .f32⟩
  | 122 => ⟨S16x2048x8x16, .f32⟩
  | 123 => ⟨S16x2048x8x16, .f32⟩
  | 124 => ⟨S16x2048x8x16, .f32⟩
  | 125 => ⟨S16x2048x8x16, .f32⟩
  | 126 => ⟨S16x2048x8x16, .f32⟩
  | 127 => ⟨S16x2048x8x16, .f32⟩
  | _ => ⟨S16x2048x1024, .f32⟩

abbrev hbmTy0_1 (i : Nat) : BufTy := match i % 128 with
  | 0 => ⟨S16x2048x8x16, .f32⟩
  | 1 => ⟨S16x2048x8x16, .f32⟩
  | 2 => ⟨S16x2048x8x32, .f32⟩
  | 3 => ⟨S16x2048x8x64, .f32⟩
  | 4 => ⟨S16x2048x2x64, .f32⟩
  | 5 => ⟨S16x2048x2x64, .f32⟩
  | 6 => ⟨S_, .f32⟩
  | 7 => ⟨S16x2048x2, .f32⟩
  | 8 => ⟨S16x2048x2x1, .f32⟩
  | 9 => ⟨S_, .f32⟩
  | 10 => ⟨S16x2048x2x1, .f32⟩
  | 11 => ⟨S16x2048x2x1, .f32⟩
  | 12 => ⟨S_, .f32⟩
  | 13 => ⟨S16x2048x2x1, .f32⟩
  | 14 => ⟨S16x2048x2x1, .f32⟩
  | 15 => ⟨S16x2048x2x1, .f32⟩
  | 16 => ⟨S16x2048x2x64, .f32⟩
  | 17 => ⟨S16x2048x2x64, .f32⟩
  | 18 => ⟨S1x1x1x64, .f32⟩
  | 19 => ⟨S16x2048x2x64, .f32⟩
  | 20 => ⟨S16x2048x2x64, .f32⟩
  | 21 => ⟨S16x2048x2x32, .f32⟩
  | 22 => ⟨S16x2048x2x32, .f32⟩
  | 23 => ⟨S2048x16, .f32⟩
  | 24 => ⟨S1x2048x1x16, .f32⟩
  | 25 => ⟨S2048x16, .f32⟩
  | 26 => ⟨S1x2048x1x16, .f32⟩
  | 27 => ⟨S16x2048x2x16, .f32⟩
  | 28 => ⟨S16x2048x2x16, .f32⟩
  | 29 => ⟨S16x2048x2x16, .f32⟩
  | 30 => ⟨S16x2048x2x16, .f32⟩
  | 31 => ⟨S16x2048x2x16, .f32⟩
  | 32 => ⟨S16x2048x2x16, .f32⟩
  | 33 => ⟨S16x2048x2x16, .f32⟩
  | 34 => ⟨S16x2048x2x16, .f32⟩
  | 35 => ⟨S16x2048x2x16, .f32⟩
  | 36 => ⟨S16x2048x2x16, .f32⟩
  | 37 => ⟨S16x2048x2x16, .f32⟩
  | 38 => ⟨S16x2048x2x16, .f32⟩
  | 39 => ⟨S16x2048x2x32, .f32⟩
  | 40 => ⟨S2048x16, .f32⟩
  | 41 => ⟨S1x2048x1x16, .f32⟩
  | 42 => ⟨S2048x16, .f32⟩
  | 43 => ⟨S1x2048x1x16, .f32⟩
  | 44 => ⟨S16x2048x2x16, .f32⟩
  | 45 => ⟨S16x2048x2x16, .f32⟩
  | 46 => ⟨S16x2048x2x16, .f32⟩
  | 47 => ⟨S16x2048x2x16, .f32⟩
  | 48 => ⟨S16x2048x2x16, .f32⟩
  | 49 => ⟨S16x2048x2x16, .f32⟩
  | 50 => ⟨S16x2048x2x16, .f32⟩
  | 51 => ⟨S16x2048x2x16, .f32⟩
  | 52 => ⟨S16x2048x2x16, .f32⟩
  | 53 => ⟨S16x2048x2x16, .f32⟩
  | 54 => ⟨S16x2048x2x16, .f32⟩
  | 55 => ⟨S16x2048x2x16, .f32⟩
  | 56 => ⟨S16x2048x2x32, .f32⟩
  | 57 => ⟨S16x2048x2x64, .f32⟩
  | 58 => ⟨S16x2048x512, .f32⟩
  | 59 => ⟨S16x2048x512, .f32⟩
  | 60 => ⟨S_, .f32⟩
  | 61 => ⟨S16x2048x512, .f32⟩
  | 62 => ⟨S16x2048x512, .f32⟩
  | 63 => ⟨S_, .f32⟩
  | 64 => ⟨S16x2048x512, .f32⟩
  | 65 => ⟨S16x2048x512, .f32⟩
  | 66 => ⟨S16x2048x512, .f32⟩
  | 67 => ⟨S_, .f32⟩
  | 68 => ⟨S16x2048x8x64, .f32⟩
  | 69 => ⟨S16x2048x8x64, .f32⟩
  | 70 => ⟨S16x2048x1024, .f32⟩
  | 71 => ⟨S16x2048x1024, .f32⟩
  | 72 => ⟨S_, .f32⟩
  | 73 => ⟨S16x2048x1024, .f32⟩
  | 74 => ⟨S16x2048x1024, .f32⟩
  | 75 => ⟨S_, .f32⟩
  | 76 => ⟨S16x2048x1024, .f32⟩
  | 77 => ⟨S16x2048x1024, .f32⟩
  | 78 => ⟨S16x2048x1024, .f32⟩
  | 79 => ⟨S16x2048x1024, .f32⟩
  | 80 => ⟨S_, .f32⟩
  | 81 => ⟨S16x2048x1024, .f32⟩
  | 82 => ⟨S16x2048x1024, .f32⟩
  | 83 => ⟨S_, .f32⟩
  | 84 => ⟨S16x2048x1024, .f32⟩
  | 85 => ⟨S16x2048x1024, .f32⟩
  | 86 => ⟨S32768x512, .f32⟩
  | 87 => ⟨S32768x512, .bf16⟩
  | 88 => ⟨S32768x512, .f32⟩
  | 89 => ⟨S32768x512, .bf16⟩
  | 90 => ⟨S32768x128, .f32⟩
  | 91 => ⟨S32768x128, .bf16⟩
  | 92 => ⟨S32768x128, .f32⟩
  | 93 => ⟨S32768x128, .bf16⟩
  | 94 => ⟨S32768x1024, .f32⟩
  | 95 => ⟨S32768x1024, .bf16⟩
  | 96 => ⟨S32768x1024, .f32⟩
  | 97 => ⟨S32768x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_cst_10 : Ref sig .tc := ⟨.hbm, 134, rfl⟩
abbrev main_v117 : Ref sig .tc := ⟨.hbm, 135, rfl⟩
abbrev main_v118 : Ref sig .tc := ⟨.hbm, 136, rfl⟩
abbrev main_cst_11 : Ref sig .tc := ⟨.hbm, 137, rfl⟩
abbrev main_v119 : Ref sig .tc := ⟨.hbm, 138, rfl⟩
abbrev main_v120 : Ref sig .tc := ⟨.hbm, 139, rfl⟩
abbrev main_cst_12 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_cst_13 : Ref sig .tc := ⟨.hbm, 188, rfl⟩
abbrev main_v168 : Ref sig .tc := ⟨.hbm, 189, rfl⟩
abbrev main_v169 : Ref sig .tc := ⟨.hbm, 190, rfl⟩
abbrev main_cst_14 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_cst_15 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_cst_16 : Ref sig .tc := ⟨.hbm, 200, rfl⟩
abbrev main_v177 : Ref sig .tc := ⟨.hbm, 201, rfl⟩
abbrev main_v178 : Ref sig .tc := ⟨.hbm, 202, rfl⟩
abbrev main_cst_17 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_cst_18 : Ref sig .tc := ⟨.hbm, 208, rfl⟩
abbrev main_v183 : Ref sig .tc := ⟨.hbm, 209, rfl⟩
abbrev main_v184 : Ref sig .tc := ⟨.hbm, 210, rfl⟩
abbrev main_cst_19 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩

abbrev nD : Nat := 1
abbrev τ : Topo := Topo.v7x

variable {F : FTy → Type} [FloatOps F]
-- ==== Kernel3.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel4.lean ====
abbrev S16x2048x512 : Shape := ⟨3, ![16, 2048, 512]⟩
abbrev S16x2048x1024 : Shape := ⟨3, ![16, 2048, 1024]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S1024x256 : Shape := ⟨2, ![1024, 256]⟩
abbrev S92 : Shape := ⟨1, ![92]⟩
abbrev S128 : Shape := ⟨1, ![128]⟩
abbrev S1x128 : Shape := ⟨2, ![1, 128]⟩
abbrev S32768x512 : Shape := ⟨2, ![32768, 512]⟩
abbrev S32768x1024 : Shape := ⟨2, ![32768, 1024]⟩
abbrev S16x6x1024 : Shape := ⟨3, ![16, 6, 1024]⟩
abbrev S1x1024 : Shape := ⟨2, ![1, 1024]⟩
abbrev S20480x1024 : Shape := ⟨2, ![20480, 1024]⟩
abbrev S20480x128 : Shape := ⟨2, ![20480, 128]⟩
abbrev S2x20480 : Shape := ⟨2, ![2, 20480]⟩
abbrev S512x512 : Shape := ⟨2, ![512, 512]⟩
abbrev S1x6x1024 : Shape := ⟨3, ![1, 6, 1024]⟩
abbrev S512x128 : Shape := ⟨2, ![512, 128]⟩
abbrev S2x512 : Shape := ⟨2, ![2, 512]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩
abbrev S128x512 : Shape := ⟨2, ![128, 512]⟩

abbrev nBuf : Space → Nat
  | .hbm => 46
  | .vmem => 30
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S16x6144, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1024x256, .bf16⟩
  | .hbm, ⟨23, _⟩ => ⟨S_, .f32⟩
  | .hbm, ⟨24, _⟩ => ⟨S92, .f32⟩
  | .hbm, ⟨25, _⟩ => ⟨S128, .f32⟩
  | .hbm, ⟨26, _⟩ => ⟨S1x128, .f32⟩
  | .hbm, ⟨27, _⟩ => ⟨S512x1024, .bf16⟩
  | .hbm, ⟨28, _⟩ => ⟨S512x1024, .bf16⟩
  | .hbm, ⟨29, _⟩ => ⟨S1024x1024, .bf16⟩
  | .hbm, ⟨30, _⟩ => ⟨S32768x512, .f32⟩
  | .hbm, ⟨31, _⟩ => ⟨S32768x512, .bf16⟩
  | .hbm, ⟨32, _⟩ => ⟨S32768x512, .f32⟩
  | .hbm, ⟨33, _⟩ => ⟨S32768x512, .bf16⟩
  | .hbm, ⟨34, _⟩ => ⟨S32768x1024, .f32⟩
  | .hbm, ⟨35, _⟩ => ⟨S32768x1024, .bf16⟩
  | .hbm, ⟨36, _⟩ => ⟨S32768x1024, .f32⟩
  | .hbm, ⟨37, _⟩ => ⟨S32768x1024, .bf16⟩
  | .hbm, ⟨38, _⟩ => ⟨S32768x1024, .f32⟩
  | .hbm, ⟨39, _⟩ => ⟨S16x6x1024, .f32⟩
  | .hbm, ⟨40, _⟩ => ⟨S1x1024, .f32⟩
  | .hbm, ⟨41, _⟩ => ⟨S1x1024, .f32⟩
  | .hbm, ⟨42, _⟩ => ⟨S20480x1024, .f32⟩
  | .hbm, ⟨43, _⟩ => ⟨S20480x1024, .bf16⟩
  | .hbm, ⟨44, _⟩ => ⟨S20480x128, .f32⟩
  | .hbm, ⟨45, _⟩ => ⟨S2x20480, .i32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x6x1024, .f32⟩
  | .local _ .vmem, ⟨13, _⟩ => ⟨S1x6x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1024x256, .bf16⟩
  | .local _ .vmem, ⟨20, _⟩ => ⟨S1x128, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x128, .f32⟩
  | .local _ .vmem, ⟨26, _⟩ => ⟨S512x128, .f32⟩
  | .local _ .vmem, ⟨27, _⟩ => ⟨S2x512, .i32⟩
  | .local _ .vmem, ⟨28, _⟩ => ⟨S2x512, .i32⟩
  | .local _ .vmem, ⟨29, _⟩ => ⟨S512x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev main_v25_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c39_i32 : BitVec 32 := 39#32
  let v0 : BitVec 32 := Scalar.minsi arg0 c39_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c39_i32 : BitVec 32 := 39#32
  let v0 : BitVec 32 := Scalar.minsi arg0 c39_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c39_i32 : BitVec 32 := 39#32
  let v0 : BitVec 32 := Scalar.minsi arg0 c39_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c39_i32 : BitVec 32 := 39#32
  let v0 : BitVec 32 := Scalar.minsi arg0 c39_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c39_i32 : BitVec 32 := 39#32
  let v0 : BitVec 32 := Scalar.minsi arg0 c39_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c39_i32 : BitVec 32 := 39#32
  let v0 : BitVec 32 := Scalar.minsi arg0 c39_i32
  let c0_i32 : BitVec 32 := 0#32
  let v1 : BitVec 32 := Scalar.addi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 32 := Scalar.addi v1 c0_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let c0_i32_8 : BitVec 32 := 0#32
  let c0_i32_9 : BitVec 32 := 0#32
  ![v19.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c39_i32 : BitVec 32 := 39#32
  let v0 : BitVec 32 := Scalar.minsi arg0 c39_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S16x2048x512 : Shape := ⟨3, ![16, 2048, 512]⟩
abbrev S16x2048x1024 : Shape := ⟨3, ![16, 2048, 1024]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩
abbrev S20480x1024 : Shape := ⟨2, ![20480, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S16x6144, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S16x1x6144, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1, .f32⟩
  | .hbm, ⟨58, _⟩ => ⟨S16x2048x1024, .f32⟩
  | .hbm, ⟨59, _⟩ => ⟨S16x2048x1024, .f32⟩
  | .hbm, ⟨60, _⟩ => ⟨S1x1x1024, .f32⟩
  | .hbm, ⟨61, _⟩ => ⟨S16x2048x1024, .f32⟩
  | .hbm, ⟨62, _⟩ => ⟨S16x2048x1024, .f32⟩
  | .hbm, ⟨63, _⟩ => ⟨S_, .f32⟩
  | .hbm, ⟨64, _⟩ => ⟨S16x1x1024, .f32⟩
  | .hbm, ⟨65, _⟩ => ⟨S16x1x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S32768x1024, .f32⟩
  | .hbm, ⟨71, _⟩ => ⟨S20480x1024, .f32⟩
  | .hbm, ⟨72, _⟩ => ⟨S32768x1024, .f32⟩
  | .hbm, ⟨73, _⟩ => ⟨S20480x1024, .f32⟩
  | .hbm, ⟨74, _⟩ => ⟨S20480x1024, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Proof.Fill.lean ====
/- The first stretch of the mixers' body (`k0_part1`): at the first tile of a sequence it fills the padded copy of the
   convolution's input in the scratch, at every tile it casts the point's three blocks of expert weights and reads the first
   head's values. Its triple, in one statement for both kinds of tile: afterwards the scratch holds the padded sequence
   (`padOf`), whether it was filled here or at an earlier tile. -/
module

public import proofs.«01_k».proof.Proof.Gen.KernelIdeal.Skeleton
public import proofs.«01_k».proof.Proof.Gen.KernelIdeal.Frame
public import Idealize.ShloMosaic.Lib.Tactic.Stretches
public import Idealize.ShloMosaic.Lib.VecWindow

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The number of the tile within its sequence, as the body computes it from the grid point. -/
abbrev tileOf (i : grid0.Coords) : BitVec 32 :=
  Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))

/-- The tile's first row within its sequence. -/
abbrev rowOf (i : grid0.Coords) : BitVec 32 :=
  Scalar.muli (Scalar.select (Scalar.andi (Scalar.xori (Scalar.cmpi .slt (Scalar.remsi (BitVec.ofNat 32 (i 0).val) 4#32) 0#32) 0#1)
    (Scalar.cmpi .ne (Scalar.remsi (BitVec.ofNat 32 (i 0).val) 4#32) 0#32)) (Scalar.addi (Scalar.remsi (BitVec.ofNat 32 (i 0).val) 4#32) 4#32)
    (Scalar.remsi (BitVec.ofNat 32 (i 0).val) 4#32)) 512#32

/-- The body's one condition: the tile is the first of its sequence. -/
abbrev first (i : grid0.Coords) : Prop := Scalar.cmpi .ne (Scalar.extui (Scalar.cmpi .eq (tileOf i) 0#32)) 0#32 = 1#1

/-- It holds at every fourth point. -/
theorem first_iff : ∀ t : Fin grid0.N, first (grid0.coords t) ↔ t.val % 4 = 0 := by decide +kernel

/-- The scratch that holds the padded sequence, as a view. -/
abbrev padV : View sig .tc .vmem S2080x512 .f32 := (Memref.whole cc0_scratch0).view

/-- The three stores that fill it, last first: the sequence between sixteen rows of zeros on either side. -/
def padL (x4 : Vec F S2048x512 .bf16) : List (View.Piece (Elt F) S2080x512 .f32) :=
  [⟨Rect.unit (s := S2080x512) ![16, 0] S2048x512.size inb_S2080x512_S2048x512_16_0, k0_pay5 x4⟩,
   ⟨Rect.unit (s := S2080x512) ![2064, 0] S16x512.size inb_S2080x512_S16x512_2064_0, k0_pay4⟩,
   ⟨Rect.unit (s := S2080x512) ![0, 0] S16x512.size inb_S2080x512_S16x512_0_0, k0_pay3⟩]

/-- The padded sequence. -/
def padOf (x4 : Vec F S2048x512 .bf16) : Vec F S2080x512 .f32 := padV.read (Elt F) (padV.writes (Elt F) padV.junk (padL x4))

/-- The pieces cover the scratch. -/
theorem padL_cover (x4 : Vec F S2048x512 .bf16) (y : S2080x512.Idx) : ∃ pc ∈ padL (F := F) x4, y ∈ pc.1.set := by
  unfold padL
  have h1 : (y 1).val < 512 := (y 1).isLt
  have h0 : (y 0).val < 2080 := (y 0).isLt
  by_cases ha : (y 0).val < 16
  · refine ⟨_, List.Mem.tail _ (List.Mem.tail _ (List.Mem.head _)), ?_⟩
    rw [Rect.mem_set_unit]; intro a
    fin_cases a
    · exact ⟨Nat.zero_le _, by simpa using ha⟩
    · exact ⟨Nat.zero_le _, by simpa using h1⟩
  by_cases hb : (y 0).val < 2064
  · refine ⟨_, List.Mem.head _, ?_⟩
    rw [Rect.mem_set_unit]; intro a
    fin_cases a
    · exact ⟨not_lt.mp ha, by simpa using hb⟩
    · exact ⟨Nat.zero_le _, by simpa using h1⟩
  · refine ⟨_, List.Mem.tail _ (List.Mem.head _), ?_⟩
    rw [Rect.mem_set_unit]; intro a
    fin_cases a
    · exact ⟨not_lt.mp hb, by simpa using h0⟩
    · exact ⟨Nat.zero_le _, by simpa using h1⟩

/-- A scratch with the three pieces written holds the padded sequence, whatever it held before. -/
theorem read_pad (v : View sig .tc .vmem S2080x512 .f32) (f) (x4 : Vec F S2048x512 .bf16) :
    v.read (Elt F) (v.writes (Elt F) f (padL x4)) = padOf x4 :=
  View.read_writes_of_cover _ _ _ _ _ (padL_cover x4)

section
variable (c : Dev nD) (i : grid0.Coords)
  (arg1 : Memref sig .tc .vmem S512x512 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S2048x512 .bf16) (harg4 : arg4.IsWhole)
  (arg5 : Memref sig .tc .vmem S31x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1x512 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S256x1024 .f32) (harg11 : arg11.IsWhole) (arg12 : Memref sig .tc .vmem S512x512 .bf16) (harg12 : arg12.IsWhole)
  (arg13 : Memref sig .tc .vmem S512x512 .bf16) (harg13 : arg13.IsWhole) (arg14 : Memref sig .tc .vmem S512x512 .bf16) (harg14 : arg14.IsWhole)
  (arg15 : Memref sig .tc .vmem S512x512 .bf16) (harg15 : arg15.IsWhole) (arg16 : Memref sig .tc .vmem S256x1024 .bf16) (harg16 : arg16.IsWhole)
  (arg17 : Memref sig .tc .vmem S2080x512 .f32) (harg17 : arg17.IsWhole) (arg18 : Memref sig .tc .vmem S512x512 .f32) (harg18 : arg18.IsWhole)

/-- Memref `M`'s elements on core `c`, held at the contents that read as `x`. -/
abbrev pt {S : Shape} {e : EltTy} (M : Memref sig .tc .vmem S e) (f : Buf (Elt F) (M.view.loc (c : Thread nD τ))) : sProp 𝕄 :=
  M.view.loc (c : Thread nD τ) ↦[M.view.set]{fullShare} f

set_option maxHeartbeats 1000000 in
/-- The part's run: the scratch at anything where the tile is the first of its sequence and at the padded sequence where it
    is not; what the part returns and the pieces it leaves in the three weight results are the run's witnesses. -/
def part1Run (x3 : Vec F S2048x128 .bf16) (x4 : Vec F S2048x512 .bf16) (x9 x10 : Vec F S512x512 .f32) (x11 : Vec F S256x1024 .f32) :
    { W : (Σ' (v26 : BitVec 32) (v27 : FVec F S2048x64 .bf16), FVec F S2048x128 .bf16) × List (View.Piece (Elt F) S512x512 .bf16)
        × List (View.Piece (Elt F) S512x512 .bf16) × List (View.Piece (Elt F) S256x1024 .bf16) //
      ∀ (f14 : Buf (Elt F) (arg14.view.loc (c : Thread nD τ))) (f15 : Buf (Elt F) (arg15.view.loc (c : Thread nD τ)))
        (f16 : Buf (Elt F) (arg16.view.loc (c : Thread nD τ))) (d17 : Vec F S2080x512 .f32) (hd : ¬first i → d17 = padOf x4) (E : Set ℕ)
        (K : (Σ' (v26 : BitVec 32) (v27 : FVec F S2048x64 .bf16), FVec F S2048x128 .bf16) → sProp 𝕄),
        iprop(pt c arg3 (harg3.unread x3) ∗ pt c arg4 (harg4.unread x4) ∗ pt c arg9 (harg9.unread x9)
            ∗ pt c arg10 (harg10.unread x10) ∗ pt c arg11 (harg11.unread x11)
            ∗ pt c arg14 f14 ∗ pt c arg15 f15 ∗ pt c arg16 f16 ∗ pt c arg17 (harg17.unread d17)
            ∗ (iprop(pt c arg3 (harg3.unread x3) ∗ pt c arg4 (harg4.unread x4) ∗ pt c arg9 (harg9.unread x9)
            ∗ pt c arg10 (harg10.unread x10) ∗ pt c arg11 (harg11.unread x11)
            ∗ pt c arg14 (arg14.view.writes (Elt F) f14 W.2.1) ∗ pt c arg15 (arg15.view.writes (Elt F) f15 W.2.2.1)
            ∗ pt c arg16 (arg16.view.writes (Elt F) f16 W.2.2.2) ∗ pt c arg17 (harg17.unread (padOf x4))) -∗ K W.1))
          ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨⟨rowOf i, k0_pay9,
      k0_pay10 (arg3.view.readAt (Elt F) (Rect.unit (s := S2048x128) ![0, 0] S2048x64.size inb_S2048x128_S2048x64_0_0).toLoadRect (harg3.unread x3))⟩,
    [⟨Rect.unit ![0, 0] S512x512.size inb_S512x512_S512x512_0_0, k0_pay6 x9⟩],
    [⟨Rect.unit ![0, 0] S512x512.size inb_S512x512_S512x512_0_0, k0_pay7 x10⟩],
    [⟨Rect.unit ![0, 0] S256x1024.size inb_S256x1024_S256x1024_0_0, k0_pay8 x11⟩]⟩, fun f14 f15 f16 d17 hd E K => ?run⟩
  case run =>
    have e4 := (View.readAt_full arg4.view (harg4.unread x4) inb_S2048x512_S2048x512_0_0).trans (harg4.read_unread x4)
    have e9 := (View.readAt_full arg9.view (harg9.unread x9) inb_S512x512_S512x512_0_0).trans (harg9.read_unread x9)
    have e10 := (View.readAt_full arg10.view (harg10.unread x10) inb_S512x512_S512x512_0_0).trans (harg10.read_unread x10)
    have e11 := (View.readAt_full arg11.view (harg11.unread x11) inb_S256x1024_S256x1024_0_0).trans (harg11.read_unread x11)
    rw [k0_part1_eq_skeleton]; unfold k0_part1_skel
    iintro ⟨H3, H4, H9, H10, H11, H14, H15, H16, H17, Hk⟩
    by_cases h0 : first i
    · sl_exec (disch := sl_exact h0)
      sl_step
      sl_open_run
      simp only [e4, e9, e10, e11]
      dsimp only [rowOf]
      iapply Hk
      isplitl [H3]; · iexact H3
      isplitl [H4]; · iexact H4
      isplitl [H9]; · iexact H9
      isplitl [H10]; · iexact H10
      isplitl [H11]; · iexact H11
      isplitl [H14]; · iexact H14
      isplitl [H15]; · iexact H15
      isplitl [H16]; · iexact H16
      have e17 : harg17.unread (padOf x4) = arg17.view.writes (Elt F) (harg17.unread d17) (padL x4) :=
        (harg17.eq_unread (read_pad _ _ _)).symm
      rw [e17]
      iexact H17
    · obtain rfl := hd h0
      sl_exec (disch := sl_exact h0)
      sl_step
      sl_open_run
      simp only [e9, e10, e11]
      dsimp only [rowOf]
      iapply Hk
      isplitl [H3]; · iexact H3
      isplitl [H4]; · iexact H4
      isplitl [H9]; · iexact H9
      isplitl [H10]; · iexact H10
      isplitl [H11]; · iexact H11
      isplitl [H14]; · iexact H14
      isplitl [H15]; · iexact H15
      isplitl [H16]; · iexact H16
      iexact H17
end

end Cert.KernelIdeal.Mix

end
-- ==== Proof.Run.lean ====
/- The mixers' body as a whole, run once for both kinds of tile: the first stretch by its triple (`part1Run`), the rest by the
   executor. What it leaves in the five results is a list of stored pieces for each, found by the run. -/
module

public import proofs.«01_k».proof.Proof.Fill

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
  (arg1 : Memref sig .tc .vmem S512x512 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S2048x512 .bf16) (harg4 : arg4.IsWhole)
  (arg5 : Memref sig .tc .vmem S31x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1x512 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S256x1024 .f32) (harg11 : arg11.IsWhole) (arg12 : Memref sig .tc .vmem S512x512 .bf16) (harg12 : arg12.IsWhole)
  (arg13 : Memref sig .tc .vmem S512x512 .bf16) (harg13 : arg13.IsWhole) (arg14 : Memref sig .tc .vmem S512x512 .bf16) (harg14 : arg14.IsWhole)
  (arg15 : Memref sig .tc .vmem S512x512 .bf16) (harg15 : arg15.IsWhole) (arg16 : Memref sig .tc .vmem S256x1024 .bf16) (harg16 : arg16.IsWhole)
  (arg17 : Memref sig .tc .vmem S2080x512 .f32) (harg17 : arg17.IsWhole) (arg18 : Memref sig .tc .vmem S512x512 .f32) (harg18 : arg18.IsWhole)

set_option maxHeartbeats 4000000 in
set_option sl_exec.partsLeafInline true in
/-- The body's run: the inputs and the padded sequence are kept; each result is left with its pieces written. -/
def bodyRun (x1 : Vec F S512x512 .bf16) (x2 : Vec F S2048x128 .bf16) (x3 : Vec F S2048x128 .bf16) (x4 : Vec F S2048x512 .bf16) (x5 : Vec F S31x512 .f32) (x6 : Vec F S1x512 .f32) (x7 : Vec F S1x512 .f32) (x8 : Vec F S1x512 .f32) (x9 : Vec F S512x512 .f32) (x10 : Vec F S512x512 .f32) (x11 : Vec F S256x1024 .f32) :
    { W : List (View.Piece (Elt F) S512x512 .bf16) × List (View.Piece (Elt F) S512x512 .bf16) × List (View.Piece (Elt F) S512x512 .bf16) × List (View.Piece (Elt F) S512x512 .bf16) × List (View.Piece (Elt F) S256x1024 .bf16) //
      ∀ (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f18 : Buf (Elt F) (arg18.view.loc (c : Thread nD τ))) (d17 : Vec F S2080x512 .f32) (hd : ¬first i → d17 = padOf x4) (E : Set ℕ) (K : Unit → sProp 𝕄),
        iprop(pt c arg1 (harg1.unread x1) ∗ pt c arg2 (harg2.unread x2) ∗ pt c arg3 (harg3.unread x3) ∗ pt c arg4 (harg4.unread x4) ∗ pt c arg5 (harg5.unread x5) ∗ pt c arg6 (harg6.unread x6) ∗ pt c arg7 (harg7.unread x7) ∗ pt c arg8 (harg8.unread x8) ∗ pt c arg9 (harg9.unread x9) ∗ pt c arg10 (harg10.unread x10) ∗ pt c arg11 (harg11.unread x11) ∗ pt c arg12 f12 ∗ pt c arg13 f13 ∗ pt c arg14 f14 ∗ pt c arg15 f15 ∗ pt c arg16 f16 ∗ pt c arg17 (harg17.unread d17) ∗ pt c arg18 f18
            ∗ (iprop(pt c arg1 (harg1.unread x1) ∗ pt c arg2 (harg2.unread x2) ∗ pt c arg3 (harg3.unread x3) ∗ pt c arg4 (harg4.unread x4) ∗ pt c arg5 (harg5.unread x5) ∗ pt c arg6 (harg6.unread x6) ∗ pt c arg7 (harg7.unread x7) ∗ pt c arg8 (harg8.unread x8) ∗ pt c arg9 (harg9.unread x9) ∗ pt c arg10 (harg10.unread x10) ∗ pt c arg11 (harg11.unread x11) ∗ pt c arg12 (arg12.view.writes (Elt F) f12 W.1) ∗ pt c arg13 (arg13.view.writes (Elt F) f13 W.2.1) ∗ pt c arg14 (arg14.view.writes (Elt F) f14 W.2.2.1) ∗ pt c arg15 (arg15.view.writes (Elt F) f15 W.2.2.2.1) ∗ pt c arg16 (arg16.view.writes (Elt F) f16 W.2.2.2.2) ∗ pt c arg17 (harg17.unread (padOf x4)) ∗ (∃ g18, pt c arg18 g18)) -∗ K ()))
          ⊢ wp frame (wpE (defs₀ (F := F)) Variants.none c none) E (cc0__mixers_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, ?_⟩, fun f12 f13 f14 f15 f16 f18 d17 hd E K => ?run⟩
  case run =>
    rw [cc0__mixers_kernel_eq_skeleton]; unfold cc0__mixers_kernel_skel
    rw [wp_bind, k0_part115_eq_skeleton]; unfold k0_part115_skel
    rw [wp_bind]
    iintro ⟨H1, H2, H3, H4, H5, H6, H7, H8, H9, H10, H11, H12, H13, H14, H15, H16, H17, H18, Hk⟩
    iapply (part1Run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x9 x10 x11).2 f14 f15 f16 d17 hd
    isplitl [H3]; · iexact H3
    isplitl [H4]; · iexact H4
    isplitl [H9]; · iexact H9
    isplitl [H10]; · iexact H10
    isplitl [H11]; · iexact H11
    isplitl [H14]; · iexact H14
    isplitl [H15]; · iexact H15
    isplitl [H16]; · iexact H16
    isplitl [H17]; · iexact H17
    iintro ⟨H3, H4, H9, H10, H11, H14, H15, H16, H17⟩
    dsimp only [part1Run]
    sl_exec_parts
    try sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexists _; iexact H18
end

end Cert.KernelIdeal.Mix

end
-- ==== Proof.Body.lean ====
/- The body's triple with every memref owned at what it holds: the results' pieces cover them, so each result ends at one
   content whatever it held before. -/
module

public import proofs.«01_k».proof.Proof.Run

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole memref owned at `x` is held at the one content that reads as `x`. -/
theorem owns_unread {c : Dev nD} {S : Shape} {e : EltTy} (M : Memref sig .tc .vmem S e) (h : M.IsWhole) (x : S.Idx → Elt F e) :
    (owns (c : Thread nD τ) M fullShare x : sProp 𝕄) ⊢ pt c M (h.unread x) := by
  unfold owns; iintro ⟨%f, %hf, H⟩; obtain rfl := h.eq_unread hf; iexact H

/-- Held at a content that reads as `x`, a memref is owned at `x`. -/
theorem owns_of {c : Dev nD} {S : Shape} {e : EltTy} (M : Memref sig .tc .vmem S e) (f : Buf (Elt F) (M.view.loc (c : Thread nD τ)))
    (x : S.Idx → Elt F e) (hx : M.view.read (Elt F) f = x) : pt c M f ⊢ (owns (c : Thread nD τ) M fullShare x : sProp 𝕄) := by
  unfold owns; iintro H; iexists f; isplitr; · ipureintro; exact hx
  iexact H

section
variable (c : Dev nD) (i : grid0.Coords)
  (arg1 : Memref sig .tc .vmem S512x512 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S2048x512 .bf16) (harg4 : arg4.IsWhole)
  (arg5 : Memref sig .tc .vmem S31x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1x512 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S256x1024 .f32) (harg11 : arg11.IsWhole) (arg12 : Memref sig .tc .vmem S512x512 .bf16) (harg12 : arg12.IsWhole)
  (arg13 : Memref sig .tc .vmem S512x512 .bf16) (harg13 : arg13.IsWhole) (arg14 : Memref sig .tc .vmem S512x512 .bf16) (harg14 : arg14.IsWhole)
  (arg15 : Memref sig .tc .vmem S512x512 .bf16) (harg15 : arg15.IsWhole) (arg16 : Memref sig .tc .vmem S256x1024 .bf16) (harg16 : arg16.IsWhole)
  (arg17 : Memref sig .tc .vmem S2080x512 .f32) (harg17 : arg17.IsWhole) (arg18 : Memref sig .tc .vmem S512x512 .f32) (harg18 : arg18.IsWhole)

variable (x1 : Vec F S512x512 .bf16) (x2 : Vec F S2048x128 .bf16) (x3 : Vec F S2048x128 .bf16) (x4 : Vec F S2048x512 .bf16) (x5 : Vec F S31x512 .f32) (x6 : Vec F S1x512 .f32) (x7 : Vec F S1x512 .f32) (x8 : Vec F S1x512 .f32) (x9 : Vec F S512x512 .f32) (x10 : Vec F S512x512 .f32) (x11 : Vec F S256x1024 .f32)

/-- The pieces stored to result 0 cover it. -/
theorem cover12 (y : Shape.Idx S512x512) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.1 S512x512.size (by sl_kernel_rfl) y

/-- What the body leaves in result 0. -/
def out12 : Vec F S512x512 .bf16 := arg12.view.read (Elt F) (arg12.view.writes (Elt F) arg12.view.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.1)

/-- The pieces stored to result 1 cover it. -/
theorem cover13 (y : Shape.Idx S512x512) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.1 ![32, 512] (by sl_kernel_rfl) y

/-- What the body leaves in result 1. -/
def out13 : Vec F S512x512 .bf16 := arg13.view.read (Elt F) (arg13.view.writes (Elt F) arg13.view.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.1)

/-- The pieces stored to result 2 cover it. -/
theorem cover14 (y : Shape.Idx S512x512) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.2.1 S512x512.size (by sl_kernel_rfl) y

/-- What the body leaves in result 2. -/
def out14 : Vec F S512x512 .bf16 := arg14.view.read (Elt F) (arg14.view.writes (Elt F) arg14.view.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.2.1)

/-- The pieces stored to result 3 cover it. -/
theorem cover15 (y : Shape.Idx S512x512) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.2.2.1 S512x512.size (by sl_kernel_rfl) y

/-- What the body leaves in result 3. -/
def out15 : Vec F S512x512 .bf16 := arg15.view.read (Elt F) (arg15.view.writes (Elt F) arg15.view.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.2.2.1)

/-- The pieces stored to result 4 cover it. -/
theorem cover16 (y : Shape.Idx S256x1024) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.2.2.2, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.2.2.2 S256x1024.size (by sl_kernel_rfl) y

/-- What the body leaves in result 4. -/
def out16 : Vec F S256x1024 .bf16 := arg16.view.read (Elt F) (arg16.view.writes (Elt F) arg16.view.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.2.2.2)

/-- THE BODY: from its inputs owned at blocks, its results at anything, and the scratch at the padded sequence unless the tile
    is the first, it leaves the inputs as they were, the results at `out12` … `out16` and the scratch at the padded sequence. -/
theorem body_triple (d17 : Vec F S2080x512 .f32) (hd : ¬first i → d17 = padOf x4) (K : Unit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ owns (c : Thread nD τ) arg17 fullShare d17 ∗ (∃ d, owns (c : Thread nD τ) arg18 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11) ∗ owns (c : Thread nD τ) arg13 fullShare (out13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11) ∗ owns (c : Thread nD τ) arg14 fullShare (out14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11) ∗ owns (c : Thread nD τ) arg15 fullShare (out15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11) ∗ owns (c : Thread nD τ) arg16 fullShare (out16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11)
        ∗ owns (c : Thread nD τ) arg17 fullShare (padOf x4) ∗ (∃ d, owns (c : Thread nD τ) arg18 fullShare d)) -∗ K ()))
      ⊢ wp frame (wpE (defs₀ (F := F)) Variants.none c none) Set.univ (cc0__mixers_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H2, H3, H4, H5, H6, H7, H8, H9, H10, H11, ⟨%d12, H12⟩, ⟨%d13, H13⟩, ⟨%d14, H14⟩, ⟨%d15, H15⟩, ⟨%d16, H16⟩, H17, ⟨%d18, H18⟩, Hk⟩
  iapply (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).2 (harg12.unread d12) (harg13.unread d13) (harg14.unread d14) (harg15.unread d15) (harg16.unread d16) (harg18.unread d18) d17 hd Set.univ K
  isplitl [H1]; · iapply (owns_unread arg1 harg1 _); iexact H1
  isplitl [H2]; · iapply (owns_unread arg2 harg2 _); iexact H2
  isplitl [H3]; · iapply (owns_unread arg3 harg3 _); iexact H3
  isplitl [H4]; · iapply (owns_unread arg4 harg4 _); iexact H4
  isplitl [H5]; · iapply (owns_unread arg5 harg5 _); iexact H5
  isplitl [H6]; · iapply (owns_unread arg6 harg6 _); iexact H6
  isplitl [H7]; · iapply (owns_unread arg7 harg7 _); iexact H7
  isplitl [H8]; · iapply (owns_unread arg8 harg8 _); iexact H8
  isplitl [H9]; · iapply (owns_unread arg9 harg9 _); iexact H9
  isplitl [H10]; · iapply (owns_unread arg10 harg10 _); iexact H10
  isplitl [H11]; · iapply (owns_unread arg11 harg11 _); iexact H11
  isplitl [H12]; · iapply (owns_unread arg12 harg12 _); iexact H12
  isplitl [H13]; · iapply (owns_unread arg13 harg13 _); iexact H13
  isplitl [H14]; · iapply (owns_unread arg14 harg14 _); iexact H14
  isplitl [H15]; · iapply (owns_unread arg15 harg15 _); iexact H15
  isplitl [H16]; · iapply (owns_unread arg16 harg16 _); iexact H16
  isplitl [H17]; · iapply (owns_unread arg17 harg17 _); iexact H17
  isplitl [H18]; · iapply (owns_unread arg18 harg18 _); iexact H18
  iintro ⟨H1, H2, H3, H4, H5, H6, H7, H8, H9, H10, H11, H12, H13, H14, H15, H16, H17, ⟨%g18, H18⟩⟩
  iapply Hk
  isplitl [H1]; · iapply (owns_of arg1 _ _ (harg1.read_unread _)); iexact H1
  isplitl [H2]; · iapply (owns_of arg2 _ _ (harg2.read_unread _)); iexact H2
  isplitl [H3]; · iapply (owns_of arg3 _ _ (harg3.read_unread _)); iexact H3
  isplitl [H4]; · iapply (owns_of arg4 _ _ (harg4.read_unread _)); iexact H4
  isplitl [H5]; · iapply (owns_of arg5 _ _ (harg5.read_unread _)); iexact H5
  isplitl [H6]; · iapply (owns_of arg6 _ _ (harg6.read_unread _)); iexact H6
  isplitl [H7]; · iapply (owns_of arg7 _ _ (harg7.read_unread _)); iexact H7
  isplitl [H8]; · iapply (owns_of arg8 _ _ (harg8.read_unread _)); iexact H8
  isplitl [H9]; · iapply (owns_of arg9 _ _ (harg9.read_unread _)); iexact H9
  isplitl [H10]; · iapply (owns_of arg10 _ _ (harg10.read_unread _)); iexact H10
  isplitl [H11]; · iapply (owns_of arg11 _ _ (harg11.read_unread _)); iexact H11
  isplitl [H12]
  · iapply (owns_of arg12 _ _ (View.read_writes_of_cover _ _ _ _ _ (cover12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11))); iexact H12
  isplitl [H13]
  · iapply (owns_of arg13 _ _ (View.read_writes_of_cover _ _ _ _ _ (cover13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11))); iexact H13
  isplitl [H14]
  · iapply (owns_of arg14 _ _ (View.read_writes_of_cover _ _ _ _ _ (cover14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11))); iexact H14
  isplitl [H15]
  · iapply (owns_of arg15 _ _ (View.read_writes_of_cover _ _ _ _ _ (cover15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11))); iexact H15
  isplitl [H16]
  · iapply (owns_of arg16 _ _ (View.read_writes_of_cover _ _ _ _ _ (cover16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11))); iexact H16
  isplitl [H17]; · iapply (owns_of arg17 _ _ (harg17.read_unread _)); iexact H17
  iexists _; iapply (owns_of arg18 _ _ rfl); iexact H18
end

end Cert.KernelIdeal.Mix

end
-- ==== Proof.Frame.lean ====
/- The mixers' frame: what the scratch holds point by point, the pipeline's proof data, the body obligation at a generic point,
   the launch, and the claim that the program ends with its arguments as it found them. -/
module

public import proofs.«01_k».proof.Proof.Body
public import Idealize.ShloMosaic.Lib.Claim

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in result 0 at point `t`. -/
def res12 (c : Dev nD) (t : Fin cfg0.N) : Vec F S512x512 .bf16 :=
  out12 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What the body leaves in result 1 at point `t`. -/
def res13 (c : Dev nD) (t : Fin cfg0.N) : Vec F S512x512 .bf16 :=
  out13 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What the body leaves in result 2 at point `t`. -/
def res14 (c : Dev nD) (t : Fin cfg0.N) : Vec F S512x512 .bf16 :=
  out14 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What the body leaves in result 3 at point `t`. -/
def res15 (c : Dev nD) (t : Fin cfg0.N) : Vec F S512x512 .bf16 :=
  out15 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What the body leaves in result 4 at point `t`. -/
def res16 (c : Dev nD) (t : Fin cfg0.N) : Vec F S256x1024 .bf16 :=
  out16 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The padded sequence that the scratch holds after point `t`. -/
def padAt (c : Dev nD) (t : Fin cfg0.N) : Vec F S2080x512 .f32 := padOf (iblk m c 3 t)

/-- The scratch memrefs. -/
abbrev scM0 : Memref sig .tc .vmem S2080x512 .f32 := Memref.whole cc0_scratch0
abbrev scM1 : Memref sig .tc .vmem S512x512 .f32 := Memref.whole cc0_scratch1

/-- What holds before position `n`: before the first point every scratch at anything; afterwards the first scratch at the padded
    sequence of the point before, the second at anything, the generator's register at some state. -/
def PhiS (c : Dev nD) : (n : ℕ) → n ≤ cfg0.N → sProp 𝕄
  | 0, _ => Pipeline.ΦA spec0 c
  | n + 1, hn => iprop((owns (c : Thread nD τ) scM0 fullShare (padAt m c ⟨n, hn⟩) ∗ (∃ d, owns (c : Thread nD τ) scM1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop((owns (c : Thread nD τ) scM0 fullShare (padAt m c ⟨n, hn⟩) ∗ (∃ d, owns (c : Thread nD τ) scM1 fullShare d)) ∗ (∃ r, prngReg c r)) := rfl

theorem PhiS_pos (c : Dev nD) (n : ℕ) (h : n ≤ cfg0.N) (hz : n ≠ 0) :
    PhiS m c n h = iprop((owns (c : Thread nD τ) scM0 fullShare (padAt m c ⟨n - 1, by omega⟩) ∗ (∃ d, owns (c : Thread nD τ) scM1 fullShare d)) ∗ (∃ r, prngReg c r)) := by
  cases n with
  | zero => exact absurd rfl hz
  | succ n => rfl

/-- The launch's invariant with the two scratches as memrefs. -/
theorem PhiA_eq (c : Dev nD) : (Pipeline.ΦA spec0 c : sProp 𝕄)
    = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The pipeline's proof data: the inputs' buffers at their blocks, the results' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => res12 m c t
    | ⟨12, _⟩ => res13 m c t
    | ⟨13, _⟩ => res14 m c t
    | ⟨14, _⟩ => res15 m c t
    | ⟨15, _⟩ => res16 m c t
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = res12 m c t := by dsimp only [dats]
theorem after_12 (c : Dev nD) (t : Fin cfg0.N) : (dats m 0 c).after 12 t = res13 m c t := by dsimp only [dats]
theorem after_13 (c : Dev nD) (t : Fin cfg0.N) : (dats m 0 c).after 13 t = res14 m c t := by dsimp only [dats]
theorem after_14 (c : Dev nD) (t : Fin cfg0.N) : (dats m 0 c).after 14 t = res15 m c t := by dsimp only [dats]
theorem after_15 (c : Dev nD) (t : Fin cfg0.N) : (dats m 0 c).after 15 t = res16 m c t := by dsimp only [dats]

/-- Within a sequence the padded sequence stays: at a point that is not the first of its sequence the block is the one before. -/
theorem padAt_prev (c : Dev nD) (t : Fin cfg0.N) (h0 : ¬t.val % 4 = 0) :
    padAt m c ⟨t.val - 1, Nat.lt_of_le_of_lt (Nat.sub_le _ _) t.isLt⟩ = padAt m c t := by
  have hf : (cfg0.win 3).fetch t = false := by
    cases h : (cfg0.win 3).fetch t with
    | false => rfl
    | true => exact absurd ((fetch0_3 t).mp h) h0
  unfold padAt
  have d : ((cfg0.win 3).block).Idx → Elt F (cfg0.win 3).elt := iblk m c 3 t
  have e := (dats m 0 c).before_unfetched_in 3 rfl t hf (fun _ => rfl) d
  rw [before_3] at e
  rw [e]; unfold Dat.kept; rw [after_3]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 3200000 in
/-- The body at any point: the inputs' memrefs hold their blocks, the scratch what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.succ = PhiS m c (t.val + 1) t.isLt from rfl, PhiS_succ]
  unfold res12 res13 res14 res15 res16
  by_cases hz : t.val = 0
  · rw [PhiS_castSucc m c t, PhiS_zero m c _ _ hz, PhiA_eq]
    iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have h1 : first (grid0.coords t) := (first_iff t).mpr (by omega)
    iapply (body_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) e0 (fun h => absurd h1 h) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [PhiS_castSucc m c t, PhiS_pos m c _ _ hz]
    have hd : ¬first (grid0.coords t) → padAt m c ⟨t.val - 1, by have := t.isLt; omega⟩ = padOf (iblk m c 3 t) :=
      fun h => padAt_prev m c t fun h0 => h ((first_iff t).mpr h0)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _ hd _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point it is given back, what the scratches hold forgotten. -/
theorem hout (c : Dev nD) : (dats m 0 c).Φ (Fin.last cfg0.N) ⊢ Pipeline.ΦA spec0 c := by
  have h64 : cfg0.N = 64 := N_0
  rw [show (dats m 0 c).Φ (Fin.last cfg0.N) = PhiS m c cfg0.N (Nat.le_refl _) from rfl, PhiS_pos m c _ _ (by omega), PhiA_eq]
  iintro ⟨⟨HS0, HS1⟩, Hg⟩
  isplitl [HS0 HS1]
  · isplitl [HS0]; · iexists _; iexact HS0
    iexact HS1
  iexact Hg

set_option backward.isDefEq.respectTransparency.types false in
/-- The launch: every array ends at what the proof data says, every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME, for any values: every argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.KernelIdeal.Mix

end
-- ==== Proof.Arrays.lean ====
/- What the mixers' arrays hold: each operand's block at a grid point, by the arguments as launched. -/
module

public import proofs.«01_k».proof.Proof.Frame
public import Idealize.ShloMosaic.Lib.Pointwise
public import Idealize.ShloMosaic.Lib.Pipeline.ValueKit

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- Each window's block at a point: the tile's rows, the sequence's rows, or the whole array. -/
theorem idx : ∀ t : Fin cfg0.N, win0_0.index t = ![t.val, 0] ∧ win0_1.index t = ![t.val / 4, 0] ∧ win0_2.index t = ![t.val / 4, 0]
    ∧ win0_3.index t = ![t.val / 4, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-- The scale of the queries: an eighth over the logarithm of two. -/
def scale : EReal := Ideal.div (Ideal.ofBits .f32 0x3E000000#32) (Ideal.log (Ideal.ofBits .f32 0x40000000#32))

/-- The arguments as launched. -/
abbrev qA : Vec Ideal S32768x512 .f32 := m ((c : Thread nD τ).loc main_arg0)
abbrev kA : Vec Ideal S32768x128 .f32 := m ((c : Thread nD τ).loc main_arg1)
abbrev vA : Vec Ideal S32768x128 .f32 := m ((c : Thread nD τ).loc main_arg2)
abbrev xA : Vec Ideal S32768x512 .f32 := m ((c : Thread nD τ).loc main_arg3)
abbrev wA : Vec Ideal S31x512 .f32 := m ((c : Thread nD τ).loc main_arg4)
abbrev bA : Vec Ideal S512 .f32 := m ((c : Thread nD τ).loc main_arg5)
abbrev gA : Vec Ideal S512 .f32 := m ((c : Thread nD τ).loc main_arg6)
abbrev hA : Vec Ideal S512 .f32 := m ((c : Thread nD τ).loc main_arg7)

/-- The operands as the pipeline finds them. -/
theorem entry_q (R : Fin 32768) (d : Fin 512) : V m c main_v4 (ix2 R d) = qA m c (ix2 R d) * scale := by
  entry_read
  pointwise [scale]

theorem entry_k (R : Fin 32768) (d : Fin 128) : V m c main_v5 (ix2 R d) = kA m c (ix2 R d) := by
  entry_read
  pointwise

theorem entry_v (R : Fin 32768) (d : Fin 128) : V m c main_v6 (ix2 R d) = vA m c (ix2 R d) := by
  entry_read
  pointwise

theorem entry_x (R : Fin 32768) (d : Fin 512) : V m c main_v7 (ix2 R d) = xA m c (ix2 R d) := by
  entry_read
  pointwise

theorem entry_b (d : Fin 512) : V m c main_v8 (ix2 0 d) = bA m c (ix1 d) := by
  entry_read
  pointwise

theorem entry_g (d : Fin 512) : V m c main_v9 (ix2 0 d) = gA m c (ix1 d) := by
  entry_read
  pointwise

theorem entry_h (d : Fin 512) : V m c main_v10 (ix2 0 d) = hA m c (ix1 d) := by
  entry_read
  pointwise

theorem lt64 (t : Fin cfg0.N) : t.val < 64 := t.isLt

/-- The blocks, by the arguments: the tile's queries, scaled; the sequence's keys, values and inputs; the taps, the bias, the norm's rows. -/
theorem blk_q (t : Fin cfg0.N) (r d : Fin 512) : iblk m c 0 t (ix2 r d) = qA m c (ix2 ⟨t.val * 512 + r.val, by have := lt64 t; omega⟩ d) * scale :=
  (show iblk m c 0 t (ix2 r d) = V m c main_v4 (ix2 ⟨t.val * 512 + r.val, by have := lt64 t; omega⟩ d) by blk_ext [iblk, idx t]).trans (entry_q m c _ d)

theorem blk_k (t : Fin cfg0.N) (r : Fin 2048) (d : Fin 128) : iblk m c 1 t (ix2 r d) = kA m c (ix2 ⟨t.val / 4 * 2048 + r.val, by have := lt64 t; omega⟩ d) :=
  (show iblk m c 1 t (ix2 r d) = V m c main_v5 (ix2 ⟨t.val / 4 * 2048 + r.val, by have := lt64 t; omega⟩ d) by blk_ext [iblk, idx t]).trans (entry_k m c _ d)

theorem blk_v (t : Fin cfg0.N) (r : Fin 2048) (d : Fin 128) : iblk m c 2 t (ix2 r d) = vA m c (ix2 ⟨t.val / 4 * 2048 + r.val, by have := lt64 t; omega⟩ d) :=
  (show iblk m c 2 t (ix2 r d) = V m c main_v6 (ix2 ⟨t.val / 4 * 2048 + r.val, by have := lt64 t; omega⟩ d) by blk_ext [iblk, idx t]).trans (entry_v m c _ d)

theorem blk_x (t : Fin cfg0.N) (r : Fin 2048) (d : Fin 512) : iblk m c 3 t (ix2 r d) = xA m c (ix2 ⟨t.val / 4 * 2048 + r.val, by have := lt64 t; omega⟩ d) :=
  (show iblk m c 3 t (ix2 r d) = V m c main_v7 (ix2 ⟨t.val / 4 * 2048 + r.val, by have := lt64 t; omega⟩ d) by blk_ext [iblk, idx t]).trans (entry_x m c _ d)

theorem blk_w (t : Fin cfg0.N) (k : Fin 31) (d : Fin 512) : iblk m c 4 t (ix2 k d) = wA m c (ix2 k d) := by
  have e : iblk m c 4 t (ix2 k d) = V m c main_arg4 (ix2 k d) := by blk_ext [iblk, idx t]
  rw [V_main_arg4] at e
  exact e

theorem blk_b (t : Fin cfg0.N) (d : Fin 512) : iblk m c 5 t (ix2 0 d) = bA m c (ix1 d) :=
  (show iblk m c 5 t (ix2 0 d) = V m c main_v8 (ix2 0 d) by blk_ext [iblk, idx t]).trans (entry_b m c d)

theorem blk_g (t : Fin cfg0.N) (d : Fin 512) : iblk m c 6 t (ix2 0 d) = gA m c (ix1 d) :=
  (show iblk m c 6 t (ix2 0 d) = V m c main_v9 (ix2 0 d) by blk_ext [iblk, idx t]).trans (entry_g m c d)

theorem blk_h (t : Fin cfg0.N) (d : Fin 512) : iblk m c 7 t (ix2 0 d) = hA m c (ix1 d) :=
  (show iblk m c 7 t (ix2 0 d) = V m c main_v10 (ix2 0 d) by blk_ext [iblk, idx t]).trans (entry_h m c d)

end Cert.KernelIdeal.Mix

end
-- ==== Proof.Heads.lean ====
/- The attention of one tile: every one of the eight heads is the same composition of operations, and what the body stores in its first
   result is the eight of them side by side. -/
module

public import proofs.«01_k».proof.Proof.Body
public import Idealize.ShloMosaic.Lib.Tactic.Stretches
public import Idealize.ShloMosaic.Lib.Pipeline.ValueKit

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One head over a tile: scores of the tile's queries against the sequence's keys, their exponentials in base two below the row's
    maximum, and the product with the values and a block of ones, the first half over the second. -/
def head (qh : Vec F S512x64 .bf16) (kj : Vec F S2048x64 .bf16) (vo : FVec F S2048x128 .bf16) : FVec F S512x64 .f32 :=
  let s : FVec F S512x2048 .f32 := matmul dot_S512x64_S2048x64_S512x2048_1_1_0_0_n_n none (shapeCast S512x64 qh shapeCasts_S512x64_S512x64)
    (shapeCast S2048x64 kj shapeCasts_S2048x64_S2048x64) (constant S512x2048 .f32 0x00000000#32)
  let m : FVec F S512 .f32 := multiReduction .maximumf [1] S512 s 0xFF800000#32 reduces_S512x2048_S512 (.inl rfl) rfl
  let p : FVec F S512x2048 .f32 := exp2 (subf s (broadcastTo S512x2048 (shapeCast S512x1 m shapeCasts_S512_S512x1) broadcasts_S512x1_S512x2048))
  let ol : FVec F S512x128 .f32 := matmul dot_S512x2048_S2048x128_S512x128_1_0_0_1_n_n none (truncf .bf16 p bitsLt_bf16_f32) vo (constant S512x128 .f32 0x00000000#32)
  divf (extractStridedSlice S512x64 ![0, 0] ol slices_S512x128_o0_0_S512x64) (extractStridedSlice S512x64 ![0, 64] ol slices_S512x128_o0_64_S512x64)

/-- A key/value head's values beside a block of ones. -/
def vones (vj : Vec F S2048x64 .bf16) : FVec F S2048x128 .bf16 :=
  concatenate S2048x128 1 [⟨S2048x64, shapeCast S2048x64 vj shapeCasts_S2048x64_S2048x64⟩, ⟨S2048x64, broadcast S2048x64 (Scalar.ofBits .bf16 0x3F80#16)⟩] concatenates_S2048x64_S2048x64_S2048x128_d1

/-- The sixty-four lanes of the queries from lane `o`. -/
abbrev qAt (x1 : Vec F S512x512 .bf16) (o : ℕ) (h : ∀ a, (![0, o] : Fin 2 → ℕ) a + S512x64.size a ≤ S512x512.size a) : Vec F S512x64 .bf16 :=
  View.ld x1 (Rect.unit (s := S512x512) ![0, o] S512x64.size h)

/-- The sixty-four lanes of the keys or the values from lane `o`. -/
abbrev kvAt (x : Vec F S2048x128 .bf16) (o : ℕ) (h : ∀ a, (![0, o] : Fin 2 → ℕ) a + S2048x64.size a ≤ S2048x128.size a) : Vec F S2048x64 .bf16 :=
  View.ld x (Rect.unit (s := S2048x128) ![0, o] S2048x64.size h)

/-- The eight heads of a tile side by side: heads 0 to 3 read the first key/value head, heads 4 to 7 the second. -/
def heads (x1 : Vec F S512x512 .bf16) (x2 x3 : Vec F S2048x128 .bf16) : FVec F S512x512 .bf16 :=
  truncf .bf16 (concatenate S512x512 1 [
    ⟨S512x64, head (qAt x1 0 inb_S512x512_S512x64_0_0) (kvAt x2 0 inb_S2048x128_S2048x64_0_0) (vones (kvAt x3 0 inb_S2048x128_S2048x64_0_0))⟩,
    ⟨S512x64, head (qAt x1 64 inb_S512x512_S512x64_0_64) (kvAt x2 0 inb_S2048x128_S2048x64_0_0) (vones (kvAt x3 0 inb_S2048x128_S2048x64_0_0))⟩,
    ⟨S512x64, head (qAt x1 128 inb_S512x512_S512x64_0_128) (kvAt x2 0 inb_S2048x128_S2048x64_0_0) (vones (kvAt x3 0 inb_S2048x128_S2048x64_0_0))⟩,
    ⟨S512x64, head (qAt x1 192 inb_S512x512_S512x64_0_192) (kvAt x2 0 inb_S2048x128_S2048x64_0_0) (vones (kvAt x3 0 inb_S2048x128_S2048x64_0_0))⟩,
    ⟨S512x64, head (qAt x1 256 inb_S512x512_S512x64_0_256) (kvAt x2 64 inb_S2048x128_S2048x64_0_64) (vones (kvAt x3 64 inb_S2048x128_S2048x64_0_64))⟩,
    ⟨S512x64, head (qAt x1 320 inb_S512x512_S512x64_0_320) (kvAt x2 64 inb_S2048x128_S2048x64_0_64) (vones (kvAt x3 64 inb_S2048x128_S2048x64_0_64))⟩,
    ⟨S512x64, head (qAt x1 384 inb_S512x512_S512x64_0_384) (kvAt x2 64 inb_S2048x128_S2048x64_0_64) (vones (kvAt x3 64 inb_S2048x128_S2048x64_0_64))⟩,
    ⟨S512x64, head (qAt x1 448 inb_S512x512_S512x64_0_448) (kvAt x2 64 inb_S2048x128_S2048x64_0_64) (vones (kvAt x3 64 inb_S2048x128_S2048x64_0_64))⟩] concatenates_S512x64_S512x64_S512x64_S512x64_S512x64_S512x64_S512x64_S512x64_S512x512_d1) bitsLt_bf16_f32

section
variable (c : Dev nD) (i : grid0.Coords)
  (arg1 : Memref sig .tc .vmem S512x512 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S2048x512 .bf16) (harg4 : arg4.IsWhole)
  (arg5 : Memref sig .tc .vmem S31x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1x512 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S256x1024 .f32) (harg11 : arg11.IsWhole) (arg12 : Memref sig .tc .vmem S512x512 .bf16) (harg12 : arg12.IsWhole)
  (arg13 : Memref sig .tc .vmem S512x512 .bf16) (harg13 : arg13.IsWhole) (arg14 : Memref sig .tc .vmem S512x512 .bf16) (harg14 : arg14.IsWhole)
  (arg15 : Memref sig .tc .vmem S512x512 .bf16) (harg15 : arg15.IsWhole) (arg16 : Memref sig .tc .vmem S256x1024 .bf16) (harg16 : arg16.IsWhole)
  (arg17 : Memref sig .tc .vmem S2080x512 .f32) (harg17 : arg17.IsWhole) (arg18 : Memref sig .tc .vmem S512x512 .f32) (harg18 : arg18.IsWhole)

variable (x1 : Vec F S512x512 .bf16) (x2 : Vec F S2048x128 .bf16) (x3 : Vec F S2048x128 .bf16) (x4 : Vec F S2048x512 .bf16) (x5 : Vec F S31x512 .f32) (x6 : Vec F S1x512 .f32) (x7 : Vec F S1x512 .f32) (x8 : Vec F S1x512 .f32) (x9 : Vec F S512x512 .f32) (x10 : Vec F S512x512 .f32) (x11 : Vec F S256x1024 .f32)

set_option maxHeartbeats 2000000 in
/-- What the body stores in result 0 is the eight heads. -/
theorem pieces12 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.1 = [⟨Rect.unit ![0, 0] S512x512.size inb_S512x512_S512x512_0_0, heads x1 x2 x3⟩] := by
  dsimp only [bodyRun, part1Run]
  sl_open_run
  simp only [View.readAt_eq_ld, Memref.IsWhole.read_unread]
  unfold heads head vones
  sl_open_pay
  rfl

set_option maxHeartbeats 2000000 in
/-- What the body leaves in result 0: the eight heads. -/
theorem out12_eq : out12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 = heads x1 x2 x3 := by
  unfold out12
  rw [View.read_writes_junk_eq_canon, pieces12]
  exact View.canon_cons_unit_lit _ _ [] (by decide)

/-- What the body leaves in results 2 to 4: the weights' blocks, cast. -/
theorem out14_eq : out14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 = k0_pay6 x9 := by
  unfold out14
  rw [View.read_writes_junk_eq_canon]
  exact View.canon_cons_unit_lit _ _ [] (by decide)

theorem out15_eq : out15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 = k0_pay7 x10 := by
  unfold out15
  rw [View.read_writes_junk_eq_canon]
  exact View.canon_cons_unit_lit _ _ [] (by decide)

theorem out16_eq : out16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 = k0_pay8 x11 := by
  unfold out16
  rw [View.read_writes_junk_eq_canon]
  exact View.canon_cons_unit_lit _ _ [] (by decide)
end

end Cert.KernelIdeal.Mix

end
-- ==== Proof.HeadsAt.lean ====
/- The attention of one tile, element by element over the extended reals. -/
module

public import proofs.«01_k».proof.Proof.Heads
public import Idealize.ShloMosaic.Lib.Pointwise

@[expose] public section

set_option maxRecDepth 16384

noncomputable section

namespace Cert.KernelIdeal.Mix

open Cert.KernelIdeal.Gen
open Idealize.ShloMosaic Idealize.ShloMosaic.TcCoe Idealize.ShloMosaic.Tactic

/-- One query's attention over a sequence: the sum of the values' column, weighted by the scores' exponentials in base two below their
    maximum, over the sum of those. -/
def attnAt (q : Fin 64 → EReal) (k : Fin 2048 → Fin 64 → EReal) (v : Fin 2048 → EReal) : EReal :=
  Ideal.div
    (∑ x : Fin 2048, Ideal.exp2 ((∑ d : Fin 64, q d * k x d) - Finset.univ.fold max (Ideal.ofBits .f32 0xFF800000#32) (fun y : Fin 2048 => ∑ d : Fin 64, q d * k y d)) * v x)
    (∑ x : Fin 2048, Ideal.exp2 ((∑ d : Fin 64, q d * k x d) - Finset.univ.fold max (Ideal.ofBits .f32 0xFF800000#32) (fun y : Fin 2048 => ∑ d : Fin 64, q d * k y d)) * 1)

theorem attnAt_congr {q q' : Fin 64 → EReal} {k k' : Fin 2048 → Fin 64 → EReal} {v v' : Fin 2048 → EReal} (hq : ∀ d, q d = q' d) (hk : ∀ x d, k x d = k' x d)
    (hv : ∀ x, v x = v' x) : attnAt q k v = attnAt q' k' v' := by
  rw [funext hq, funext hv, funext fun x => funext (hk x)]

theorem vones_left (v : Vec Ideal S2048x64 .bf16) (x : Fin 2048) (j : Fin 64) (h) : vones v (ix2 x ⟨j.val, h⟩) = v (ix2 x j) := by
  pointwise [vones]

theorem vones_right (v : Vec Ideal S2048x64 .bf16) (x : Fin 2048) (j : Fin 64) (h) : vones v (ix2 x ⟨64 + j.val, h⟩) = 1 := by
  pointwise [vones]

theorem head_apply (q : Vec Ideal S512x64 .bf16) (k v : Vec Ideal S2048x64 .bf16) (r : Fin 512) (j : Fin 64) :
    head q k (vones v) (ix2 r j) = attnAt (fun d => q (ix2 r d)) (fun x d => k (ix2 x d)) (fun x => v (ix2 x j)) := by
  pointwise [head]
  unfold attnAt
  refine congrArg₂ Ideal.div (Finset.sum_congr rfl fun x _ => ?_) (Finset.sum_congr rfl fun x _ => ?_)
  · exact congrArg _ (vones_left v x j _)
  · exact congrArg _ (vones_right v x j _)

/-- A head of the tile at its own lane: the queries' lanes from `o`, the keys' and the values' from `p`. -/
theorem head_at (x1 : Vec Ideal S512x512 .bf16) (x2 x3 : Vec Ideal S2048x128 .bf16) (o p : ℕ) (ho hp) (r : Fin 512) (c : Fin 512) (j : Fin 64)
    (e1 : o = c.val / 64 * 64) (e2 : p = c.val / 256 * 64) (e3 : j.val = c.val % 64) :
    head (qAt x1 o ho) (kvAt x2 p hp) (vones (kvAt x3 p hp)) (ix2 r j)
      = attnAt (fun d => x1 (ix2 r ⟨c.val / 64 * 64 + d.val, by omega⟩)) (fun x d => x2 (ix2 x ⟨c.val / 256 * 64 + d.val, by omega⟩))
          (fun x => x3 (ix2 x ⟨c.val / 256 * 64 + c.val % 64, by omega⟩)) := by
  rw [head_apply]
  have hq : ∀ d : Fin 64, qAt x1 o ho (ix2 r d) = x1 (ix2 r ⟨c.val / 64 * 64 + d.val, by omega⟩) := fun d => congrArg x1 (funext fun a => by
    fin_cases a
    · exact Fin.ext ((Rect.idx_unit_val (s := S512x512) ![0, o] S512x64.size ho (ix2 r d) 0).trans (Nat.zero_add _))
    · exact Fin.ext ((Rect.idx_unit_val (s := S512x512) ![0, o] S512x64.size ho (ix2 r d) 1).trans (congrArg (· + d.val) e1)))
  have hk : ∀ (y : Vec Ideal S2048x128 .bf16) (x : Fin 2048) (d : Fin 64), kvAt y p hp (ix2 x d) = y (ix2 x ⟨c.val / 256 * 64 + d.val, by omega⟩) :=
    fun y x d => congrArg y (funext fun a => by
      fin_cases a
      · exact Fin.ext ((Rect.idx_unit_val (s := S2048x128) ![0, p] S2048x64.size hp (ix2 x d) 0).trans (Nat.zero_add _))
      · exact Fin.ext ((Rect.idx_unit_val (s := S2048x128) ![0, p] S2048x64.size hp (ix2 x d) 1).trans (congrArg (· + d.val) e2)))
  exact attnAt_congr hq (hk x2) fun x => (hk x3 x j).trans (congrArg (fun z => x3 (ix2 x z)) (Fin.ext (congrArg (c.val / 256 * 64 + ·) e3)))

/-- The tile's element of row `r`, lane `c`: the head of `c`, its key/value head, and `c`'s place in them. -/
theorem heads_apply (x1 : Vec Ideal S512x512 .bf16) (x2 x3 : Vec Ideal S2048x128 .bf16) (r c : Fin 512) :
    heads x1 x2 x3 (ix2 r c)
      = attnAt (fun d => x1 (ix2 r ⟨c.val / 64 * 64 + d.val, by omega⟩)) (fun x d => x2 (ix2 x ⟨c.val / 256 * 64 + d.val, by omega⟩))
          (fun x => x3 (ix2 x ⟨c.val / 256 * 64 + c.val % 64, by omega⟩)) := by
  pointwise [heads]
  split_ifs
  all_goals refine head_at x1 x2 x3 _ _ _ _ r c _ ?_ ?_ ?_
  all_goals first | omega | (dsimp only; omega) | (exfalso; simp_all)

end Cert.KernelIdeal.Mix

end
-- ==== Proof.Conv.lean ====
/- The convolution module of one tile: the sum of thirty-one shifted products of each block of 128 rows and 128 lanes is one composition
   of operations, so is the normalisation and the activation of each 32 rows, and what the body stores in its second result is
   sixteen of the latter. -/
module

public import proofs.«01_k».proof.Proof.Body
public import Idealize.ShloMosaic.Lib.Tactic.Stretches
public import Idealize.ShloMosaic.Lib.Pipeline.ValueKit

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One tap over a block and the eight rows below it. -/
def tap (L : Vec F S136x128 .f32) (w : Vec F S1x128 .f32) : FVec F S136x128 .f32 := mulf L (broadcastTo S136x128 w broadcasts_S1x128_S136x128)

/-- The taps whose shifts are `k + 1`, `k + 9`, `k + 17`, `k + 25`, before the shift by their common remainder. -/
def taps (L : Fin 4 → Vec F S136x128 .f32) (W : Fin 31 → Vec F S1x128 .f32) (k : ℕ) (h : k + 24 < 31) : FVec F S136x128 .f32 :=
  addf (addf (addf (tap (L 0) (W ⟨k, by omega⟩)) (tap (L 1) (W ⟨k + 8, by omega⟩))) (tap (L 2) (W ⟨k + 16, by omega⟩))) (tap (L 3) (W ⟨k + 24, h⟩))

/-- The sum of a block's thirty-one taps and its bias, in the body's order: the shifts are gathered by their remainder by eight. -/
def convBlk (L : Fin 4 → Vec F S136x128 .f32) (W : Fin 31 → Vec F S1x128 .f32) (b : Vec F S1x128 .f32) : FVec F S128x128 .f32 :=
  addf (addf (addf (addf (addf (addf (addf (addf
    (addf (broadcast S128x128 (Scalar.ofBits .f32 0x00000000#32)) (broadcastTo S128x128 (shapeCast S1x128 b shapeCasts_S1x128_S1x128) broadcasts_S1x128_S128x128))
    (extractStridedSlice S128x128 ![0, 0] (addf (addf (tap (L 1) (W ⟨7, by decide⟩)) (tap (L 2) (W ⟨15, by decide⟩))) (tap (L 3) (W ⟨23, by decide⟩))) slices_S136x128_o0_0_S128x128))
    (extractStridedSlice S128x128 ![1, 0] (taps L W 0 (by decide)) slices_S136x128_o1_0_S128x128))
    (extractStridedSlice S128x128 ![2, 0] (taps L W 1 (by decide)) slices_S136x128_o2_0_S128x128))
    (extractStridedSlice S128x128 ![3, 0] (taps L W 2 (by decide)) slices_S136x128_o3_0_S128x128))
    (extractStridedSlice S128x128 ![4, 0] (taps L W 3 (by decide)) slices_S136x128_o4_0_S128x128))
    (extractStridedSlice S128x128 ![5, 0] (taps L W 4 (by decide)) slices_S136x128_o5_0_S128x128))
    (extractStridedSlice S128x128 ![6, 0] (taps L W 5 (by decide)) slices_S136x128_o6_0_S128x128))
    (extractStridedSlice S128x128 ![7, 0] (taps L W 6 (by decide)) slices_S136x128_o7_0_S128x128)

/-- Thirty-two rows normalised over their lanes, scaled, shifted, and multiplied by their sigmoid. -/
def normRows (x : Vec F S32x512 .f32) (g b : Vec F S1x512 .f32) : FVec F S32x512 .bf16 :=
  let mu : FVec F S32x1 .f32 := divf (shapeCast S32x1 (multiReduction .add [1] S32 x 0x00000000#32 reduces_S32x512_S32 (.inl rfl) rfl) shapeCasts_S32_S32x1) (broadcast S32x1 (Scalar.ofBits .f32 0x44000000#32))
  let cen : FVec F S32x512 .f32 := subf x (broadcastTo S32x512 mu broadcasts_S32x1_S32x512)
  let var : FVec F S32x1 .f32 := divf (shapeCast S32x1 (multiReduction .add [1] S32 (mulf cen cen) 0x00000000#32 reduces_S32x512_S32 (.inl rfl) rfl) shapeCasts_S32_S32x1) (broadcast S32x1 (Scalar.ofBits .f32 0x44000000#32))
  let y : FVec F S32x512 .f32 := addf (mulf (mulf cen (broadcastTo S32x512 (rsqrt (addf var (broadcast S32x1 (Scalar.ofBits .f32 0x358637BD#32)))) broadcasts_S32x1_S32x512))
    (broadcastTo S32x512 (shapeCast S1x512 g shapeCasts_S1x512_S1x512) broadcasts_S1x512_S32x512)) (broadcastTo S32x512 (shapeCast S1x512 b shapeCasts_S1x512_S1x512) broadcasts_S1x512_S32x512)
  truncf .bf16 (mulf y (addf (mulf (broadcast S32x512 (Scalar.ofBits .f32 0x3F000000#32)) (tanh (mulf (broadcast S32x512 (Scalar.ofBits .f32 0x3F000000#32)) y))) (broadcast S32x512 (Scalar.ofBits .f32 0x3F000000#32)))) bitsLt_bf16_f32

/-- Where the body reads the padded sequence for the lanes of group `l`, by the row's word. -/
def offs (l : Fin 4) (i : grid0.Coords) (w : BitVec 32) : Fin 2 → ℕ :=
  match l with
  | 0 => k0_off1 i w
  | 1 => k0_off2 i w
  | 2 => k0_off3 i w
  | 3 => k0_off4 i w

/-- The row of chunk `r`'s `a`-th read, within the tile. -/
abbrev wordOf (r a : Fin 4) : BitVec 32 := BitVec.ofNat 32 (128 * r.val + 8 * a.val)

/-- The closed form of a read's place: the tile's first row, the chunk's, the read's; the lanes' group. -/
theorem offs_eq : ∀ (l : Fin 4) (t : Fin grid0.N) (r a : Fin 4),
    offs l (grid0.coords t) (wordOf r a) = ![t.val % 4 * 512 + (128 * r.val + 8 * a.val), 128 * l.val] := by decide +kernel

theorem offs_inb : ∀ (l : Fin 4) (i : grid0.Coords) (r a : Fin 4) (d : Fin 2), offs l i (wordOf r a) d + S136x128.size d ≤ S2080x512.size d := by
  decide +kernel

/-- The block of chunk `r` and lane group `l`. -/
def blk (i : grid0.Coords) (X : Vec F S2080x512 .f32) (x5 : Vec F S31x512 .f32) (x6 : Vec F S1x512 .f32) (r l : Fin 4) : FVec F S128x128 .f32 :=
  convBlk (fun a => View.ld X (Rect.unit (s := S2080x512) (offs l i (wordOf r a)) S136x128.size (offs_inb l i r a)))
    (fun k => View.ld x5 (Rect.unit (s := S31x512) ![k.val, 128 * l.val] S1x128.size (by intro d; fin_cases d; exacts [by show k.val + 1 ≤ 31; omega, by show 128 * l.val + 128 ≤ 512; omega])))
    (View.ld x6 (Rect.unit (s := S1x512) ![0, 128 * l.val] S1x128.size (by intro d; fin_cases d; exacts [by show 0 + 1 ≤ 1; omega, by show 128 * l.val + 128 ≤ 512; omega])))

/-- Its place in the accumulator. -/
def blkPiece (i : grid0.Coords) (X : Vec F S2080x512 .f32) (x5 : Vec F S31x512 .f32) (x6 : Vec F S1x512 .f32) (r l : Fin 4) : View.Piece (Elt F) S512x512 .f32 :=
  ⟨Rect.unit (s := S512x512) ![128 * r.val, 128 * l.val] S128x128.size (by intro d; fin_cases d; exacts [by show 128 * r.val + 128 ≤ 512; omega, by show 128 * l.val + 128 ≤ 512; omega]), shapeCast S128x128 (blk i X x5 x6 r l) shapeCasts_S128x128_S128x128⟩

/-- The accumulator's pieces once chunk `r` is summed, last first. -/
def accL (i : grid0.Coords) (X : Vec F S2080x512 .f32) (x5 : Vec F S31x512 .f32) (x6 : Vec F S1x512 .f32) : ℕ → List (View.Piece (Elt F) S512x512 .f32)
  | 0 => []
  | n + 1 => blkPiece i X x5 x6 (Fin.ofNat 4 n) 3 :: blkPiece i X x5 x6 (Fin.ofNat 4 n) 2 :: blkPiece i X x5 x6 (Fin.ofNat 4 n) 1 :: blkPiece i X x5 x6 (Fin.ofNat 4 n) 0
      :: accL i X x5 x6 n

/-- The rectangle of rows `32 n` to `32 n + 31`. -/
abbrev rowRect (n : Fin 16) : Rect S512x512 :=
  Rect.unit (s := S512x512) ![32 * n.val, 0] S32x512.size (by intro d; fin_cases d; exacts [by show 32 * n.val + 32 ≤ 512; omega, by show 0 + 512 ≤ 512; omega])

/-- The piece of rows `32 n` to `32 n + 31`, from a reading of them in the accumulator. -/
def rowPiece0 (x : Vec F S32x512 .f32) (x7 x8 : Vec F S1x512 .f32) (n : Fin 16) : View.Piece (Elt F) S512x512 .bf16 :=
  ⟨rowRect n, normRows x
      (View.ld x7 (Rect.unit (s := S1x512) ![0, 0] S1x512.size inb_S1x512_S1x512_0_0)) (View.ld x8 (Rect.unit (s := S1x512) ![0, 0] S1x512.size inb_S1x512_S1x512_0_0))⟩

/-- The piece of rows `32 n` to `32 n + 31`, from the accumulator at its chunk. -/
def rowPiece (i : grid0.Coords) (X : Vec F S2080x512 .f32) (x5 : Vec F S31x512 .f32) (x6 x7 x8 : Vec F S1x512 .f32) (n : Fin 16) : View.Piece (Elt F) S512x512 .bf16 :=
  rowPiece0 (View.ld (View.canon (accL i X x5 x6 (n.val / 4 + 1))) (rowRect n)) x7 x8 n

/-- A reading of a buffer's writes, nothing before them, is a window of what they leave. -/
theorem readCov_ld {s : Shape} {e : EltTy} (v : View sig .tc .vmem s e) (L : List (View.Piece (Elt F) s e)) (r : Rect s) :
    v.readCov L r.toLoadRect = View.ld (View.canon L) r :=
  funext fun j => View.read_writes_junk_apply_eq_canon v _ L

section
variable (c : Dev nD) (i : grid0.Coords)
  (arg1 : Memref sig .tc .vmem S512x512 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S2048x512 .bf16) (harg4 : arg4.IsWhole)
  (arg5 : Memref sig .tc .vmem S31x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1x512 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S256x1024 .f32) (harg11 : arg11.IsWhole) (arg12 : Memref sig .tc .vmem S512x512 .bf16) (harg12 : arg12.IsWhole)
  (arg13 : Memref sig .tc .vmem S512x512 .bf16) (harg13 : arg13.IsWhole) (arg14 : Memref sig .tc .vmem S512x512 .bf16) (harg14 : arg14.IsWhole)
  (arg15 : Memref sig .tc .vmem S512x512 .bf16) (harg15 : arg15.IsWhole) (arg16 : Memref sig .tc .vmem S256x1024 .bf16) (harg16 : arg16.IsWhole)
  (arg17 : Memref sig .tc .vmem S2080x512 .f32) (harg17 : arg17.IsWhole) (arg18 : Memref sig .tc .vmem S512x512 .f32) (harg18 : arg18.IsWhole)

variable (x1 : Vec F S512x512 .bf16) (x2 : Vec F S2048x128 .bf16) (x3 : Vec F S2048x128 .bf16) (x4 : Vec F S2048x512 .bf16) (x5 : Vec F S31x512 .f32) (x6 : Vec F S1x512 .f32) (x7 : Vec F S1x512 .f32) (x8 : Vec F S1x512 .f32) (x9 : Vec F S512x512 .f32) (x10 : Vec F S512x512 .f32) (x11 : Vec F S256x1024 .f32)

set_option maxHeartbeats 8000000 in
/-- What the body stores in result 1: its sixteen pieces of 32 rows. -/
theorem pieces13 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11).1.2.1 = [rowPiece i (padOf x4) x5 x6 x7 x8 15, rowPiece i (padOf x4) x5 x6 x7 x8 14, rowPiece i (padOf x4) x5 x6 x7 x8 13, rowPiece i (padOf x4) x5 x6 x7 x8 12, rowPiece i (padOf x4) x5 x6 x7 x8 11, rowPiece i (padOf x4) x5 x6 x7 x8 10, rowPiece i (padOf x4) x5 x6 x7 x8 9, rowPiece i (padOf x4) x5 x6 x7 x8 8, rowPiece i (padOf x4) x5 x6 x7 x8 7, rowPiece i (padOf x4) x5 x6 x7 x8 6, rowPiece i (padOf x4) x5 x6 x7 x8 5, rowPiece i (padOf x4) x5 x6 x7 x8 4, rowPiece i (padOf x4) x5 x6 x7 x8 3, rowPiece i (padOf x4) x5 x6 x7 x8 2, rowPiece i (padOf x4) x5 x6 x7 x8 1, rowPiece i (padOf x4) x5 x6 x7 x8 0] := by
  dsimp only [bodyRun, part1Run]
  sl_open_run
  simp only [View.readAt_eq_ld, Memref.IsWhole.read_unread, readCov_ld]
  sl_open_pay
  rfl
end

end Cert.KernelIdeal.Mix

end
-- ==== Proof.Rows.lean ====
/- The layer norm of a row, over the extended reals: the form that both programs' rows take. -/
module

public import Idealize.ShloMosaic.Lib.Pipeline.ValueKit
public import Idealize.ShloMosaic.Lib.Pointwise

@[expose] public section

noncomputable section

namespace Cert.Rows

open Idealize.ShloMosaic

/-- A row's mean. -/
def mean (u : Fin 512 → EReal) : EReal := Ideal.div (∑ c : Fin 512, u c) (Ideal.ofBits .f32 0x44000000#32)

/-- A row's layer norm. -/
def layerNorm (u g h : Fin 512 → EReal) (c : Fin 512) : EReal :=
  (u c - mean u) * Ideal.rsqrt (Ideal.div (∑ x : Fin 512, (u x - mean u) * (u x - mean u)) (Ideal.ofBits .f32 0x44000000#32) + Ideal.ofBits .f32 0x358637BD#32)
    * g c + h c

end Cert.Rows

end
-- ==== Proof.ConvAt.lean ====
/- The convolution module of one tile, element by element over the extended reals: the padded sequence, the accumulator's rows, and
   the second result. -/
module

public import proofs.«01_k».proof.Proof.Conv
public import proofs.«01_k».proof.Proof.Rows
public import Idealize.ShloMosaic.Lib.Pointwise
public import Idealize.ShloMosaic.Lib.Pipeline.CanonAppend

@[expose] public section

noncomputable section

namespace Cert.KernelIdeal.Mix

open Cert.KernelIdeal.Gen
open Idealize.ShloMosaic Idealize.ShloMosaic.TcCoe Idealize.ShloMosaic.Tactic

set_option maxRecDepth 16384

/-- A block's element: its thirty-one products, named by their number, and the bias. -/
theorem blk_apply_of (i : grid0.Coords) (X : Vec Ideal S2080x512 .f32) (x5 : Vec Ideal S31x512 .f32) (x6 : Vec Ideal S1x512 .f32) (r l : Fin 4) (p c : Fin 128) (T : ℕ → EReal)
    (h0 : ∀ (a : Fin 4) (k : ℕ) (hk : k < 31) (e : k + 1 = 8 * a.val) (h h'), X (ix2 ⟨offs l i (wordOf r a) 0 + p.val, h⟩ ⟨offs l i (wordOf r a) 1 + c.val, h'⟩)
      * x5 (ix2 ⟨k, hk⟩ ⟨128 * l.val + c.val, by omega⟩) = T k)
    (hT : ∀ (a : Fin 4) (s k : ℕ) (hk : k < 31) (e : k + 1 = 8 * a.val + s) (h h'), X (ix2 ⟨offs l i (wordOf r a) 0 + (s + p.val), h⟩ ⟨offs l i (wordOf r a) 1 + c.val, h'⟩)
      * x5 (ix2 ⟨k, hk⟩ ⟨128 * l.val + c.val, by omega⟩) = T k) :
   shapeCast S128x128 (blk i X x5 x6 r l) shapeCasts_S128x128_S128x128 (ix2 p c) = (∑ k ∈ Finset.range 31, T k) + x6 (ix2 0 ⟨128 * l.val + c.val, by omega⟩) := by
  have e : (∑ k ∈ Finset.range 31, T k) + x6 (ix2 0 ⟨128 * l.val + c.val, by omega⟩) = x6 (ix2 0 ⟨128 * l.val + c.val, by omega⟩)
      + (T 7 + T 15 + T 23) + (T 0 + T 8 + T 16 + T 24) + (T 1 + T 9 + T 17 + T 25) + (T 2 + T 10 + T 18 + T 26) + (T 3 + T 11 + T 19 + T 27)
      + (T 4 + T 12 + T 20 + T 28) + (T 5 + T 13 + T 21 + T 29) + (T 6 + T 14 + T 22 + T 30) := by
    simp only [Finset.sum_range_succ, Finset.sum_range_zero, zero_add]
    abel
  rw [e]
  pointwise [blk, convBlk, taps, tap]
  refine congrArg₂ (· + ·) (congrArg₂ (· + ·) (congrArg₂ (· + ·) (congrArg₂ (· + ·) (congrArg₂ (· + ·) (congrArg₂ (· + ·) (congrArg₂ (· + ·) (congrArg₂ (· + ·) rfl ?_) ?_) ?_) ?_) ?_) ?_) ?_) ?_
  · exact congrArg₂ (· + ·) (congrArg₂ (· + ·) (by refine h0 _ _ ?_ ?_ _ _ <;> decide) (by refine h0 _ _ ?_ ?_ _ _ <;> decide)) (by refine h0 _ _ ?_ ?_ _ _ <;> decide)
  all_goals exact congrArg₂ (· + ·) (congrArg₂ (· + ·) (congrArg₂ (· + ·) (by refine hT _ _ _ ?_ ?_ _ _ <;> decide) (by refine hT _ _ _ ?_ ?_ _ _ <;> decide)) (by refine hT _ _ _ ?_ ?_ _ _ <;> decide)) (by refine hT _ _ _ ?_ ?_ _ _ <;> decide)

/-- A block's element, at the grid's points: the padded sequence's rows from the element's own on, times the taps, and the bias. -/
theorem blk_apply (t : Fin grid0.N) (X : Vec Ideal S2080x512 .f32) (x5 : Vec Ideal S31x512 .f32) (x6 : Vec Ideal S1x512 .f32) (r l : Fin 4) (p c : Fin 128) :
    shapeCast S128x128 (blk (grid0.coords t) X x5 x6 r l) shapeCasts_S128x128_S128x128 (ix2 p c)
      = (∑ k : Fin 31, X (ix2 ⟨t.val % 4 * 512 + (128 * r.val + p.val) + (k.val + 1), by omega⟩ ⟨128 * l.val + c.val, by omega⟩) * x5 (ix2 k ⟨128 * l.val + c.val, by omega⟩))
        + x6 (ix2 0 ⟨128 * l.val + c.val, by omega⟩) := by
  refine (blk_apply_of (grid0.coords t) X x5 x6 r l p c
    (fun k => if hk : k < 31 then X (ix2 ⟨t.val % 4 * 512 + (128 * r.val + p.val) + (k + 1), by omega⟩ ⟨128 * l.val + c.val, by omega⟩) * x5 (ix2 ⟨k, hk⟩ ⟨128 * l.val + c.val, by omega⟩) else 0)
    ?_ ?_).trans ?_
  · intro a k hk e h h'
    refine Eq.trans ?_ (dif_pos hk).symm
    have e0 : offs l (grid0.coords t) (wordOf r a) 0 = t.val % 4 * 512 + (128 * r.val + 8 * a.val) := congrFun (offs_eq l t r a) 0
    have e1 : offs l (grid0.coords t) (wordOf r a) 1 = 128 * l.val := congrFun (offs_eq l t r a) 1
    refine congrArg₂ (fun y z => X (ix2 y z) * x5 (ix2 ⟨k, hk⟩ ⟨128 * l.val + c.val, by omega⟩)) (Fin.ext ?_) (Fin.ext ?_)
    · show offs l (grid0.coords t) (wordOf r a) 0 + p.val = _
      rw [e0]; show _ = t.val % 4 * 512 + (128 * r.val + p.val) + (k + 1); omega
    · show offs l (grid0.coords t) (wordOf r a) 1 + c.val = _
      rw [e1]
  · intro a s k hk e h h'
    refine Eq.trans ?_ (dif_pos hk).symm
    have e0 : offs l (grid0.coords t) (wordOf r a) 0 = t.val % 4 * 512 + (128 * r.val + 8 * a.val) := congrFun (offs_eq l t r a) 0
    have e1 : offs l (grid0.coords t) (wordOf r a) 1 = 128 * l.val := congrFun (offs_eq l t r a) 1
    refine congrArg₂ (fun y z => X (ix2 y z) * x5 (ix2 ⟨k, hk⟩ ⟨128 * l.val + c.val, by omega⟩)) (Fin.ext ?_) (Fin.ext ?_)
    · show offs l (grid0.coords t) (wordOf r a) 0 + (s + p.val) = _
      rw [e0]; show _ = t.val % 4 * 512 + (128 * r.val + p.val) + (k + 1); omega
    · show offs l (grid0.coords t) (wordOf r a) 1 + c.val = _
      rw [e1]
  · rw [Finset.sum_range]
    exact congrArg (· + _) (Finset.sum_congr rfl fun k _ => dif_pos k.isLt)

/-- An element of thirty-two normalised rows: the row's layer norm times its sigmoid, by the hyperbolic tangent. -/
theorem normRows_apply (x : Vec Ideal S32x512 .f32) (g b : Vec Ideal S1x512 .f32) (r : Fin 32) (c : Fin 512) (y : EReal)
    (hy : Rows.layerNorm (fun c => x (ix2 r c)) (fun c => g (ix2 0 c)) (fun c => b (ix2 0 c)) c = y) : normRows x g b (ix2 r c)
    = y * (Ideal.ofBits .f32 0x3F000000#32 * Ideal.tanh (Ideal.ofBits .f32 0x3F000000#32 * y) + Ideal.ofBits .f32 0x3F000000#32) := by
  subst hy
  pointwise [normRows]
  rfl

/-- An element of the padded sequence: sixteen rows of zeros, the sequence, sixteen rows of zeros. -/
def padAtIdx (x4 : Vec Ideal S2048x512 .bf16) (r : ℕ) (c : Fin 512) : EReal :=
  if h : 16 ≤ r ∧ r - 16 < 2048 then x4 (ix2 ⟨r - 16, h.2⟩ c) else 0

theorem padAtIdx_neg (x4 : Vec Ideal S2048x512 .bf16) (r : ℕ) (c : Fin 512) (h : ¬(16 ≤ r ∧ r - 16 < 2048)) : padAtIdx x4 r c = 0 := dif_neg h

theorem pay3_apply (j : S16x512.Idx) : (k0_pay3 (F := Ideal)) j = 0 := by
  idx_vars j
  pointwise [k0_pay3, k0_pay2]

theorem pay4_apply (j : S16x512.Idx) : (k0_pay4 (F := Ideal)) j = 0 := by
  idx_vars j
  pointwise [k0_pay4, k0_pay2]

theorem pay5_apply (x4 : Vec Ideal S2048x512 .bf16) (j : S2048x512.Idx) : k0_pay5 x4 j = x4 j := by
  idx_vars j
  pointwise [k0_pay5]

theorem padOf_apply (x4 : Vec Ideal S2048x512 .bf16) (y : S2080x512.Idx) : padOf x4 y = padAtIdx x4 (y 0).val ⟨(y 1).val, (y 1).isLt⟩ := by
  unfold padOf
  rw [View.read_writes_junk_eq_canon, ← List.append_nil (padL x4)]
  refine View.canon_append_of_pieces (fun y => padAtIdx x4 (y 0).val ⟨(y 1).val, (y 1).isLt⟩) [] (padL x4) ?_ y (padL_cover x4 y)
  intro p hp
  simp only [padL, List.mem_cons, List.not_mem_nil, or_false] at hp
  obtain rfl | rfl | rfl := hp
  · intro x
    refine (pay5_apply x4 x).trans ?_
    have h0 : (x 0).val < 2048 := (x 0).isLt
    have h1 : (x 1).val < 512 := (x 1).isLt
    refine Eq.trans ?_ (congrArg₂ (padAtIdx x4) (Rect.idx_unit_val (s := S2080x512) ![16, 0] S2048x512.size inb_S2080x512_S2048x512_16_0 x 0).symm
      (Fin.ext (Rect.idx_unit_val (s := S2080x512) ![16, 0] S2048x512.size inb_S2080x512_S2048x512_16_0 x 1).symm : (⟨0 + (x 1).val, by omega⟩ : Fin 512) = _))
    show x4 x = padAtIdx x4 (16 + (x 0).val) ⟨0 + (x 1).val, _⟩
    unfold padAtIdx
    rw [dif_pos ⟨by omega, by omega⟩]
    refine congrArg x4 (funext fun a => ?_)
    fin_cases a
    · exact Fin.ext (show (x 0).val = 16 + (x 0).val - 16 by omega)
    · exact Fin.ext (show (x 1).val = 0 + (x 1).val by omega)
  · intro x
    refine (pay4_apply x).trans ?_
    have h1 := Rect.idx_unit_val (s := S2080x512) ![2064, 0] S16x512.size inb_S2080x512_S16x512_2064_0 x 0
    have h2 : (![2064, 0] : Fin 2 → ℕ) 0 = 2064 := rfl
    refine (padAtIdx_neg x4 _ _ fun h => ?_).symm
    change 16 ≤ (((Rect.unit (s := S2080x512) ![2064, 0] S16x512.size inb_S2080x512_S16x512_2064_0).idx x 0 : Fin _) : ℕ) ∧ (((Rect.unit (s := S2080x512) ![2064, 0] S16x512.size inb_S2080x512_S16x512_2064_0).idx x 0 : Fin _) : ℕ) - 16 < 2048 at h
    rw [h1, h2] at h
    omega
  · intro x
    refine (pay3_apply x).trans ?_
    have h0 : (x 0).val < 16 := (x 0).isLt
    have h1 := Rect.idx_unit_val (s := S2080x512) ![0, 0] S16x512.size inb_S2080x512_S16x512_0_0 x 0
    have h2 : (![0, 0] : Fin 2 → ℕ) 0 = 0 := rfl
    refine (padAtIdx_neg x4 _ _ fun h => ?_).symm
    change 16 ≤ (((Rect.unit (s := S2080x512) ![0, 0] S16x512.size inb_S2080x512_S16x512_0_0).idx x 0 : Fin _) : ℕ) ∧ (((Rect.unit (s := S2080x512) ![0, 0] S16x512.size inb_S2080x512_S16x512_0_0).idx x 0 : Fin _) : ℕ) - 16 < 2048 at h
    rw [h1, h2] at h
    omega

/-- A tile's function of row and lane, on its indices. -/
def at2 (f : Fin 512 → Fin 512 → EReal) (y : S512x512.Idx) : EReal := f ⟨(y 0).val, (y 0).isLt⟩ ⟨(y 1).val, (y 1).isLt⟩

theorem at2_idx (f : Fin 512 → Fin 512 → EReal) (off size : Fin 2 → ℕ) (inb) (x : (Rect.unit (s := S512x512) off size inb).shape.Idx) (r c : Fin 512)
    (h0 : off 0 + (x 0).val = r.val) (h1 : off 1 + (x 1).val = c.val) : at2 f ((Rect.unit (s := S512x512) off size inb).idx x) = f r c :=
  have e0 : (((Rect.unit (s := S512x512) off size inb).idx x 0 : Fin _) : ℕ) = r.val := (Rect.idx_unit_val (s := S512x512) off size inb x 0).trans h0
  have e1 : (((Rect.unit (s := S512x512) off size inb).idx x 1 : Fin _) : ℕ) = c.val := (Rect.idx_unit_val (s := S512x512) off size inb x 1).trans h1
  congrArg₂ f (Fin.ext e0) (Fin.ext e1)

/-- The convolution of a tile's row `r`, lane `c`: the padded sequence's rows from the next one on, times the taps, and the bias. -/
def convAt (t : Fin grid0.N) (X : Vec Ideal S2080x512 .f32) (x5 : Vec Ideal S31x512 .f32) (x6 : Vec Ideal S1x512 .f32) (r c : Fin 512) : EReal :=
  (∑ k : Fin 31, X (ix2 ⟨t.val % 4 * 512 + r.val + (k.val + 1), by omega⟩ c) * x5 (ix2 k c)) + x6 (ix2 0 c)

theorem blk_inb (r l : Fin 4) (a : Fin 2) : (![128 * r.val, 128 * l.val] : Fin 2 → ℕ) a + S128x128.size a ≤ S512x512.size a := by
  fin_cases a; exacts [by show 128 * r.val + 128 ≤ 512; omega, by show 128 * l.val + 128 ≤ 512; omega]

/-- An element of a chunk's block of lanes. -/
theorem blkPiece_apply (t : Fin grid0.N) (X : Vec Ideal S2080x512 .f32) (x5 : Vec Ideal S31x512 .f32) (x6 : Vec Ideal S1x512 .f32) (r l : Fin 4)
    (x : S128x128.Idx) :
    shapeCast S128x128 (blk (grid0.coords t) X x5 x6 r l) shapeCasts_S128x128_S128x128 x = at2 (convAt t X x5 x6) ((blkPiece (grid0.coords t) X x5 x6 r l).1.emb x) := by
  obtain ⟨p, c, rfl⟩ : ∃ (p c : Fin 128), x = ix2 p c := ⟨⟨(x 0).val, (x 0).isLt⟩, ⟨(x 1).val, (x 1).isLt⟩, eq_ix2 x⟩
  refine (blk_apply t X x5 x6 r l p c).trans ?_
  exact (at2_idx (convAt t X x5 x6) ![128 * r.val, 128 * l.val] S128x128.size (blk_inb r l) (ix2 p c) ⟨128 * r.val + p.val, by omega⟩ ⟨128 * l.val + c.val, by omega⟩ rfl rfl).symm

/-- The accumulator at a row of its last chunk. -/
theorem acc_apply (t : Fin grid0.N) (X : Vec Ideal S2080x512 .f32) (x5 : Vec Ideal S31x512 .f32) (x6 : Vec Ideal S1x512 .f32) (n : Fin 4) (y : S512x512.Idx)
    (hy : 128 * n.val ≤ (y 0).val ∧ (y 0).val < 128 * n.val + 128) :
    View.canon (accL (grid0.coords t) X x5 x6 (n.val + 1)) y = at2 (convAt t X x5 x6) y := by
  have e : accL (grid0.coords t) X x5 x6 (n.val + 1) = [blkPiece (grid0.coords t) X x5 x6 n 3, blkPiece (grid0.coords t) X x5 x6 n 2,
      blkPiece (grid0.coords t) X x5 x6 n 1, blkPiece (grid0.coords t) X x5 x6 n 0] ++ accL (grid0.coords t) X x5 x6 n.val := by
    rw [accL, show Fin.ofNat 4 n.val = n from Fin.ext (Nat.mod_eq_of_lt n.isLt)]; rfl
  rw [e]
  refine View.canon_append_of_pieces (Val := Elt Ideal) (e := .f32) (at2 (convAt t X x5 x6)) _ _ ?_ y ?_
  · intro p hp
    simp only [List.mem_cons, List.not_mem_nil, or_false] at hp
    obtain rfl | rfl | rfl | rfl := hp <;> exact fun x => blkPiece_apply t X x5 x6 n _ x
  · have h1 : (y 1).val < 512 := (y 1).isLt
    have key : ∀ l : Fin 4, 128 * l.val ≤ (y 1).val → (y 1).val < 128 * l.val + 128 → y ∈ (blkPiece (grid0.coords t) X x5 x6 n l).1.set := by
      intro l ha hb
      show y ∈ (Rect.unit (s := S512x512) ![128 * n.val, 128 * l.val] S128x128.size (blk_inb n l)).set
      rw [Rect.mem_set_unit]; intro a
      fin_cases a
      · exact hy
      · exact ⟨ha, hb⟩
    by_cases a3 : 384 ≤ (y 1).val
    · exact ⟨_, List.mem_cons_self, key 3 a3 (by show _ < 128 * 3 + 128; omega)⟩
    by_cases a2 : 256 ≤ (y 1).val
    · exact ⟨_, List.mem_cons_of_mem _ List.mem_cons_self, key 2 a2 (by show _ < 128 * 2 + 128; omega)⟩
    by_cases a1 : 128 ≤ (y 1).val
    · exact ⟨_, List.mem_cons_of_mem _ (List.mem_cons_of_mem _ List.mem_cons_self), key 1 a1 (by show _ < 128 * 1 + 128; omega)⟩
    · exact ⟨_, List.mem_cons_of_mem _ (List.mem_cons_of_mem _ (List.mem_cons_of_mem _ List.mem_cons_self)), key 0 (by show 128 * 0 ≤ _; omega) (by show _ < 128 * 0 + 128; omega)⟩

/-- The layer norm of the convolution at a tile's row `r`, lane `c`. -/
def modAt (t : Fin grid0.N) (x4 : Vec Ideal S2048x512 .bf16) (x5 : Vec Ideal S31x512 .f32) (x6 x7 x8 : Vec Ideal S1x512 .f32) (r c : Fin 512) : EReal :=
  Rows.layerNorm (fun c => convAt t (padOf x4) x5 x6 r c) (fun c => x7 (ix2 0 c)) (fun c => x8 (ix2 0 c)) c

/-- What the convolution module leaves there. -/
def outAt (t : Fin grid0.N) (x4 : Vec Ideal S2048x512 .bf16) (x5 : Vec Ideal S31x512 .f32) (x6 x7 x8 : Vec Ideal S1x512 .f32) (r c : Fin 512) : EReal :=
  modAt t x4 x5 x6 x7 x8 r c * (Ideal.ofBits .f32 0x3F000000#32 * Ideal.tanh (Ideal.ofBits .f32 0x3F000000#32 * modAt t x4 x5 x6 x7 x8 r c) + Ideal.ofBits .f32 0x3F000000#32)

/-- A load of a whole row of lanes. -/
theorem ld_row (x : Vec Ideal S1x512 .f32) (c : Fin 512) : View.ld x (Rect.unit (s := S1x512) ![0, 0] S1x512.size inb_S1x512_S1x512_0_0) (ix2 0 c) = x (ix2 0 c) := by
  pointwise

/-- The accumulator's rows that a piece normalises. -/
theorem ld_acc (t : Fin grid0.N) (X : Vec Ideal S2080x512 .f32) (x5 : Vec Ideal S31x512 .f32) (x6 : Vec Ideal S1x512 .f32) (n : Fin 16) (r : Fin 32) (c : Fin 512) :
    View.ld (View.canon (accL (grid0.coords t) X x5 x6 (n.val / 4 + 1))) (rowRect n) (ix2 r c) = convAt t X x5 x6 ⟨32 * n.val + r.val, by omega⟩ c := by
  rw [View.ld_apply]
  have e0 : ((rowRect n).idx (ix2 r c) 0 : ℕ) = 32 * n.val + r.val := Rect.idx_unit_val (s := S512x512) ![32 * n.val, 0] S32x512.size _ (ix2 r c) 0
  refine (acc_apply t X x5 x6 ⟨n.val / 4, by omega⟩ _ ?_).trans ?_
  · rw [e0]
    show 128 * (n.val / 4) ≤ 32 * n.val + r.val ∧ 32 * n.val + r.val < 128 * (n.val / 4) + 128
    omega
  · exact at2_idx (convAt t X x5 x6) ![32 * n.val, 0] S32x512.size _ (ix2 r c) _ c rfl (Nat.zero_add _)

/-- An element of one of the sixteen pieces. -/
theorem rowPiece_apply (t : Fin grid0.N) (x4 : Vec Ideal S2048x512 .bf16) (x5 : Vec Ideal S31x512 .f32) (x6 x7 x8 : Vec Ideal S1x512 .f32) (n : Fin 16)
    (x : S32x512.Idx) :
    normRows (View.ld (View.canon (accL (grid0.coords t) (padOf x4) x5 x6 (n.val / 4 + 1))) (rowRect n))
      (View.ld x7 (Rect.unit (s := S1x512) ![0, 0] S1x512.size inb_S1x512_S1x512_0_0)) (View.ld x8 (Rect.unit (s := S1x512) ![0, 0] S1x512.size inb_S1x512_S1x512_0_0)) x
      = at2 (outAt t x4 x5 x6 x7 x8) ((rowRect n).idx x) := by
  obtain ⟨r, c, rfl⟩ : ∃ (r : Fin 32) (c : Fin 512), x = ix2 r c := ⟨⟨(x 0).val, (x 0).isLt⟩, ⟨(x 1).val, (x 1).isLt⟩, eq_ix2 x⟩
  rw [at2_idx (outAt t x4 x5 x6 x7 x8) ![32 * n.val, 0] S32x512.size _ (ix2 r c) ⟨32 * n.val + r.val, by omega⟩ c rfl (Nat.zero_add _)]
  refine normRows_apply _ _ _ r c (modAt t x4 x5 x6 x7 x8 ⟨32 * n.val + r.val, by omega⟩ c) ?_
  unfold modAt
  rw [funext (ld_acc t (padOf x4) x5 x6 n r), funext (ld_row x7), funext (ld_row x8)]

section
variable (c : Dev nD) (t : Fin grid0.N)
  (arg1 : Memref sig .tc .vmem S512x512 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S2048x512 .bf16) (harg4 : arg4.IsWhole)
  (arg5 : Memref sig .tc .vmem S31x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1x512 .f32) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S256x1024 .f32) (harg11 : arg11.IsWhole) (arg12 : Memref sig .tc .vmem S512x512 .bf16) (harg12 : arg12.IsWhole)
  (arg13 : Memref sig .tc .vmem S512x512 .bf16) (harg13 : arg13.IsWhole) (arg14 : Memref sig .tc .vmem S512x512 .bf16) (harg14 : arg14.IsWhole)
  (arg15 : Memref sig .tc .vmem S512x512 .bf16) (harg15 : arg15.IsWhole) (arg16 : Memref sig .tc .vmem S256x1024 .bf16) (harg16 : arg16.IsWhole)
  (arg17 : Memref sig .tc .vmem S2080x512 .f32) (harg17 : arg17.IsWhole) (arg18 : Memref sig .tc .vmem S512x512 .f32) (harg18 : arg18.IsWhole)

variable (x1 : Vec Ideal S512x512 .bf16) (x2 : Vec Ideal S2048x128 .bf16) (x3 : Vec Ideal S2048x128 .bf16) (x4 : Vec Ideal S2048x512 .bf16) (x5 : Vec Ideal S31x512 .f32) (x6 : Vec Ideal S1x512 .f32) (x7 : Vec Ideal S1x512 .f32) (x8 : Vec Ideal S1x512 .f32) (x9 : Vec Ideal S512x512 .f32) (x10 : Vec Ideal S512x512 .f32) (x11 : Vec Ideal S256x1024 .f32)

/-- What the body leaves in result 1. -/
theorem out13_apply (r l : Fin 512) : out13 c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 (ix2 r l)
    = outAt t x4 x5 x6 x7 x8 r l := by
  have hc := cover13 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 x11 (ix2 r l)
  unfold out13
  rw [View.read_writes_junk_eq_canon]
  rw [pieces13] at hc ⊢
  rw [← List.append_nil (List.cons _ _)]
  refine View.canon_append_of_pieces (Val := Elt Ideal) (e := .bf16) (at2 (outAt t x4 x5 x6 x7 x8)) [] _ ?_ (ix2 r l) hc
  intro p hp
  simp only [List.mem_cons, List.not_mem_nil, or_false] at hp
  obtain rfl | rfl | rfl | rfl | rfl | rfl | rfl | rfl | rfl | rfl | rfl | rfl | rfl | rfl | rfl | rfl := hp <;>
    exact fun x => rowPiece_apply t x4 x5 x6 x7 x8 _ x
end

end Cert.KernelIdeal.Mix

end
end
-- ==== Proof.Results.lean ====
/- What the mixers' results hold after the run, by the arguments as launched. -/
module

public import proofs.«01_k».proof.Proof.Arrays
public import proofs.«01_k».proof.Proof.HeadsAt
public import proofs.«01_k».proof.Proof.ConvAt

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The attention at row `R`, lane `C`. -/
def attnOut (q : Vec Ideal S32768x512 .f32) (k v : Vec Ideal S32768x128 .f32) (R : Fin 32768) (C : Fin 512) : EReal :=
  attnAt (fun d => q (ix2 R ⟨C.val / 64 * 64 + d.val, by omega⟩) * scale) (fun x d => k (ix2 ⟨R.val / 2048 * 2048 + x.val, by omega⟩ ⟨C.val / 256 * 64 + d.val, by omega⟩))
    (fun x => v (ix2 ⟨R.val / 2048 * 2048 + x.val, by omega⟩ ⟨C.val / 256 * 64 + C.val % 64, by omega⟩))

/-- A row of the convolution at row `R`: the sequence's rows from fifteen before the row's own, zero outside the sequence, times the taps, and
    the bias. -/
def convOut (x : Vec Ideal S32768x512 .f32) (w : Vec Ideal S31x512 .f32) (b : Vec Ideal S512 .f32) (R : Fin 32768) (C : Fin 512) : EReal :=
  (∑ k : Fin 31, (if h : 15 ≤ k.val + R.val % 2048 ∧ k.val + R.val % 2048 - 15 < 2048 then x (ix2 ⟨R.val / 2048 * 2048 + (k.val + R.val % 2048 - 15), by omega⟩ C) else 0) * w (ix2 k C))
    + b (ix1 C)

/-- The convolution's layer norm at row `R`, lane `C`. -/
def normOut (x : Vec Ideal S32768x512 .f32) (w : Vec Ideal S31x512 .f32) (b g h : Vec Ideal S512 .f32) (R : Fin 32768) (C : Fin 512) : EReal :=
  Rows.layerNorm (convOut x w b R) (fun l => g (ix1 l)) (fun l => h (ix1 l)) C

theorem res12_apply (t : Fin cfg0.N) (r l : Fin 512) :
    res12 m c t (ix2 r l) = attnOut (qA m c) (kA m c) (vA m c) ⟨t.val * 512 + r.val, by have := lt64 t; omega⟩ l := by
  have ht := lt64 t
  unfold res12
  rw [out12_eq]
  refine (heads_apply _ _ _ r l).trans ?_
  have e : (t.val * 512 + r.val) / 2048 = t.val / 4 := by omega
  refine attnAt_congr (fun d => blk_q m c t r _) (fun x d => (blk_k m c t x _).trans ?_) (fun x => (blk_v m c t x _).trans ?_)
  · exact congrArg (fun z => kA m c (ix2 z _)) (Fin.ext (congrArg (· * 2048 + x.val) e.symm))
  · exact congrArg (fun z => vA m c (ix2 z _)) (Fin.ext (congrArg (· * 2048 + x.val) e.symm))

theorem conv_eq (t : Fin cfg0.N) (r l : Fin 512) :
    convAt t (padOf (iblk m c 3 t)) (iblk m c 4 t) (iblk m c 5 t) r l = convOut (xA m c) (wA m c) (bA m c) ⟨t.val * 512 + r.val, by have := lt64 t; omega⟩ l := by
  have ht := lt64 t
  unfold convAt convOut
  refine congrArg₂ (· + ·) (Finset.sum_congr rfl fun k _ => congrArg₂ (· * ·) ?_ (blk_w m c t k l)) (blk_b m c t l)
  rw [padOf_apply]
  show padAtIdx _ (t.val % 4 * 512 + r.val + (k.val + 1)) l = _
  unfold padAtIdx
  by_cases h : 15 ≤ k.val + (t.val * 512 + r.val) % 2048 ∧ k.val + (t.val * 512 + r.val) % 2048 - 15 < 2048
  · rw [dif_pos h, dif_pos (by omega), blk_x]
    exact congrArg (fun z => xA m c (ix2 z l)) (Fin.ext (by show t.val / 4 * 2048 + (t.val % 4 * 512 + r.val + (k.val + 1) - 16) = (t.val * 512 + r.val) / 2048 * 2048 + (k.val + (t.val * 512 + r.val) % 2048 - 15); omega))
  · rw [dif_neg h, dif_neg (by omega)]

/-- What the body leaves in result 1 at a point. -/
theorem res13_apply (t : Fin cfg0.N) (r l : Fin 512) (y : EReal)
    (hy : normOut (xA m c) (wA m c) (bA m c) (gA m c) (hA m c) ⟨t.val * 512 + r.val, by have := lt64 t; omega⟩ l = y) :
    res13 m c t (ix2 r l) = y * (Ideal.ofBits .f32 0x3F000000#32 * Ideal.tanh (Ideal.ofBits .f32 0x3F000000#32 * y) + Ideal.ofBits .f32 0x3F000000#32) := by
  subst hy
  unfold res13
  refine (out13_apply c t _ _ _ _ _ _ _ _ _ _ _ _ _ _ _ _ _ _ _ _ _ _ _ _ _ _ _ _ _ _ _ _ _ _ _ _ _ _ _ _ _ _ _ _ _ _ _ r l).trans ?_
  have e : modAt t (iblk m c 3 t) (iblk m c 4 t) (iblk m c 5 t) (iblk m c 6 t) (iblk m c 7 t) r l
      = normOut (xA m c) (wA m c) (bA m c) (gA m c) (hA m c) ⟨t.val * 512 + r.val, by have := lt64 t; omega⟩ l := by
    unfold modAt normOut
    rw [funext (conv_eq m c t r), funext (blk_g m c t), funext (blk_h m c t)]
  unfold outAt
  rw [e]

theorem idx11 (t : Fin cfg0.N) : win0_11.index t = ![t.val, 0] := (idx t).2.2.2.2.2.2.2.2.2.2.2.1
theorem idx12 (t : Fin cfg0.N) : win0_12.index t = ![t.val, 0] := (idx t).2.2.2.2.2.2.2.2.2.2.2.2.1
theorem idx13 (t : Fin cfg0.N) : win0_13.index t = ![t.val, 0] := (idx t).2.2.2.2.2.2.2.2.2.2.2.2.2.1
theorem idx14 (t : Fin cfg0.N) : win0_14.index t = ![t.val, 0] := (idx t).2.2.2.2.2.2.2.2.2.2.2.2.2.2.1
theorem idx15 (t : Fin cfg0.N) : win0_15.index t = ![t.val, 0] := (idx t).2.2.2.2.2.2.2.2.2.2.2.2.2.2.2

/-- A function of row and lane at a tile's place, by its coordinates. -/
theorem at_tile (f : Fin 32768 → Fin 512 → EReal) (t : Fin cfg0.N) (r l : Fin 512) (a b : ℕ) (ha : a < 32768) (hb : b < 512) (p : Fin 2 → ℕ) (hp : p = ![t.val, 0])
    (ea : a = p 0 * 512 + r.val) (eb : b = p 1 * 512 + l.val) : f ⟨t.val * 512 + r.val, by have := lt64 t; omega⟩ l = f ⟨a, ha⟩ ⟨b, hb⟩ := by
  subst hp
  exact congrArg₂ f (Fin.ext ea.symm) (Fin.ext ((Nat.zero_add _).symm.trans ((congrArg (· + l.val) (Nat.zero_mul 512).symm).trans eb.symm)))

/-- Result 0 after the run. -/
theorem arr_attn : (dats m 0 c).arrAt 11 (cfgs 0).N = fun i : S32768x512.Idx => attnOut (qA m c) (kA m c) (vA m c) ⟨(i 0).val, (i 0).isLt⟩ ⟨(i 1).val, (i 1).isLt⟩ := by
  refine (dats m 0 c).arrAt_eq_of_covers 11 _ (by decide +kernel) fun t hf y => ?_
  obtain ⟨r, l, rfl⟩ : ∃ (r l : Fin 512), y = ix2 r l := ⟨⟨(y 0).val, (y 0).isLt⟩, ⟨(y 1).val, (y 1).isLt⟩, eq_ix2 y⟩
  blk_simp
  rw [after_11]
  refine (res12_apply m c t r l).trans (at_tile (attnOut (qA m c) (kA m c) (vA m c)) t r l _ _ _ _ _ (idx11 t) rfl rfl)

/-- The gated layer norm, as the kernel gates it. -/
def gate (y : EReal) : EReal := y * (Ideal.ofBits .f32 0x3F000000#32 * Ideal.tanh (Ideal.ofBits .f32 0x3F000000#32 * y) + Ideal.ofBits .f32 0x3F000000#32)

/-- Result 1 after the run. -/
theorem arr_conv : (dats m 0 c).arrAt 12 (cfgs 0).N
    = fun i : S32768x512.Idx => gate (normOut (xA m c) (wA m c) (bA m c) (gA m c) (hA m c) ⟨(i 0).val, (i 0).isLt⟩ ⟨(i 1).val, (i 1).isLt⟩) := by
  refine (dats m 0 c).arrAt_eq_of_covers 12 _ (by decide +kernel) fun t hf y => ?_
  obtain ⟨r, l, rfl⟩ : ∃ (r l : Fin 512), y = ix2 r l := ⟨⟨(y 0).val, (y 0).isLt⟩, ⟨(y 1).val, (y 1).isLt⟩, eq_ix2 y⟩
  blk_simp
  rw [after_12]
  refine (res13_apply m c t r l _ rfl).trans
    (congrArg gate (at_tile (normOut (xA m c) (wA m c) (bA m c) (gA m c) (hA m c)) t r l _ _ _ _ _ (idx12 t) rfl rfl))

/-- Results 2 to 4 after the run: the expert weights, each expert's rows below the last one's, cast. -/
theorem arr_gate : (dats m 0 c).arrAt 13 (cfgs 0).N = V m c main_v11 := by
  refine (dats m 0 c).arrAt_eq_of_covers 13 _ (by decide +kernel) fun t hf y => ?_
  obtain ⟨r, l, rfl⟩ : ∃ (r l : Fin 512), y = ix2 r l := ⟨⟨(y 0).val, (y 0).isLt⟩, ⟨(y 1).val, (y 1).isLt⟩, eq_ix2 y⟩
  rw [after_13]
  unfold res14
  rw [out14_eq]
  pointwise [k0_pay6]
  blk_ext [iblk, idx t]

theorem arr_up : (dats m 0 c).arrAt 14 (cfgs 0).N = V m c main_v12 := by
  refine (dats m 0 c).arrAt_eq_of_covers 14 _ (by decide +kernel) fun t hf y => ?_
  obtain ⟨r, l, rfl⟩ : ∃ (r l : Fin 512), y = ix2 r l := ⟨⟨(y 0).val, (y 0).isLt⟩, ⟨(y 1).val, (y 1).isLt⟩, eq_ix2 y⟩
  rw [after_14]
  unfold res15
  rw [out15_eq]
  pointwise [k0_pay7]
  blk_ext [iblk, idx t]

theorem arr_down : (dats m 0 c).arrAt 15 (cfgs 0).N = V m c main_v13 := by
  refine (dats m 0 c).arrAt_eq_of_covers 15 _ (by decide +kernel) fun t hf y => ?_
  obtain ⟨r, l, rfl⟩ : ∃ (r : Fin 256) (l : Fin 1024), y = ix2 r l := ⟨⟨(y 0).val, (y 0).isLt⟩, ⟨(y 1).val, (y 1).isLt⟩, eq_ix2 y⟩
  rw [after_15]
  unfold res16
  rw [out16_eq]
  pointwise [k0_pay8]
  blk_ext [iblk, idx t]

end Cert.KernelIdeal.Mix

end
-- ==== Proof.Layer.lean ====
/- The reference's attention and its convolution module, as functions of its arguments: the terms its run leaves in its results. -/
module

public import proofs.«01_k».proof.Proof.Gen.ReferenceIdeal.Run

@[expose] public section

set_option maxRecDepth 16384

noncomputable section

namespace Cert.ReferenceIdeal.Layer

open Cert.ReferenceIdeal.Gen Cert.ReferenceIdeal.Value
open Idealize.ShloMosaic Idealize.ShloMosaic.TcCoe Idealize.ShloMosaic.Tactic
open Idealize.SL Idealize.SL.Sem

variable {F : FTy → Type} [FloatOps F]

/-- The scaled scores. -/
def scores (q : FVec F S32768x512 .f32) (k : FVec F S32768x128 .f32) : FVec F S16x2x4x2048x2048 .f32 :=
  mulf (Host.dotGeneral dot_S16x2x4x2048x64_S16x2x2048x64_S16x2x4x2048x2048_4_3_23_2_01_01 none (transpose S16x2x4x2048x64 [0, 2, 3, 1, 4] (shapeCast _ (shapeCast _ q shapeCasts_S32768x512_S16x2048x8x64) shapeCasts_S16x2048x8x64_S16x2048x2x4x64) transposes_S16x2048x2x4x64_S16x2x4x2048x64_0_2_3_1_4) (transpose S16x2x2048x64 [0, 2, 1, 3] (shapeCast _ k shapeCasts_S32768x128_S16x2048x2x64) transposes_S16x2048x2x64_S16x2x2048x64_0_2_1_3)) (broadcastInDim S16x2x4x2048x2048 ![] bcast_S_S16x2x4x2048x2048 (constant S_ .f32 0x3E000000#32))

/-- Their exponentials below the row's maximum. -/
def weights (s : FVec F S16x2x4x2048x2048 .f32) : FVec F S16x2x4x2048x2048 .f32 :=
  Host.exp (subf s (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) (Host.reduce FloatOps.maximumf s (constant S_ .f32 0xFF800000#32) reducesTo_S16x2x4x2048x2048_S16x2x4x2048_d4 h_S_)))))

/-- The weights over their sums, times the values: the attention. -/
def attn (p : FVec F S16x2x4x2048x2048 .f32) (v : FVec F S32768x128 .f32) : FVec F S32768x512 .bf16 :=
  truncf .bf16 (shapeCast _ (shapeCast _ (transpose S16x2048x2x4x64 [0, 3, 1, 2, 4] (Host.dotGeneral dot_S16x2x4x2048x2048_S16x2x2048x64_S16x2x4x2048x64_4_2_23_3_01_01 none (Host.divf p (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 (Host.reduceAdd p (constant S_ .f32 0x00000000#32) reducesTo_S16x2x4x2048x2048_S16x2x4x2048_d4 h_S_)))) (transpose S16x2x2048x64 [0, 2, 1, 3] (shapeCast _ v shapeCasts_S32768x128_S16x2048x2x64) transposes_S16x2048x2x64_S16x2x2048x64_0_2_1_3)) transposes_S16x2x4x2048x64_S16x2048x2x4x64_0_3_1_2_4) shapeCasts_S16x2048x2x4x64_S16x2048x512) shapeCasts_S16x2048x512_S32768x512) bitsLt_bf16_f32

/-- The sequences padded by fifteen rows before and after. -/
def padded (x : FVec F S32768x512 .f32) : FVec F S16x2078x512 .f32 :=
  pad S16x2078x512 ![0, 15, 0] ![0, 15, 0] ![0, 0, 0] (shapeCast _ x shapeCasts_S32768x512_S16x2048x512) (sitofp .f32 (constantI S_ 32 0#32)) pads_S16x2048x512_S16x2078x512_000_15150_000 h_S_

/-- The first eleven taps. -/
def taps0 (u : FVec F S16x2078x512 .f32) (w : FVec F S31x512 .f32) : FVec F S16x2048x512 .f32 :=
  addf (addf (addf (addf (addf (addf (addf (addf (addf (addf (addf (broadcastInDim S16x2048x512 ![] bcast_S_S16x2048x512 (constant S_ .f32 0x00000000#32)) (mulf (extractStridedSlice S16x2048x512 ![0, 0, 0] u slices_S16x2078x512_S16x2048x512_0_0_0) (broadcastInDim S16x2048x512 ![0, 1, 2] bcast_S1x1x512_S16x2048x512_0_1_2 (broadcastInDim S1x1x512 ![2] bcast_S512_S1x1x512_2 (shapeCast _ (extractStridedSlice S1x512 ![0, 0] w slices_S31x512_S1x512_0_0) shapeCasts_S1x512_S512))))) (mulf (extractStridedSlice S16x2048x512 ![0, 1, 0] u slices_S16x2078x512_S16x2048x512_0_1_0) (broadcastInDim S16x2048x512 ![0, 1, 2] bcast_S1x1x512_S16x2048x512_0_1_2 (broadcastInDim S1x1x512 ![2] bcast_S512_S1x1x512_2 (shapeCast _ (extractStridedSlice S1x512 ![1, 0] w slices_S31x512_S1x512_1_0) shapeCasts_S1x512_S512))))) (mulf (extractStridedSlice S16x2048x512 ![0, 2, 0] u slices_S16x2078x512_S16x2048x512_0_2_0) (broadcastInDim S16x2048x512 ![0, 1, 2] bcast_S1x1x512_S16x2048x512_0_1_2 (broadcastInDim S1x1x512 ![2] bcast_S512_S1x1x512_2 (shapeCast _ (extractStridedSlice S1x512 ![2, 0] w slices_S31x512_S1x512_2_0) shapeCasts_S1x512_S512))))) (mulf (extractStridedSlice S16x2048x512 ![0, 3, 0] u slices_S16x2078x512_S16x2048x512_0_3_0) (broadcastInDim S16x2048x512 ![0, 1, 2] bcast_S1x1x512_S16x2048x512_0_1_2 (broadcastInDim S1x1x512 ![2] bcast_S512_S1x1x512_2 (shapeCast _ (extractStridedSlice S1x512 ![3, 0] w slices_S31x512_S1x512_3_0) shapeCasts_S1x512_S512))))) (mulf (extractStridedSlice S16x2048x512 ![0, 4, 0] u slices_S16x2078x512_S16x2048x512_0_4_0) (broadcastInDim S16x2048x512 ![0, 1, 2] bcast_S1x1x512_S16x2048x512_0_1_2 (broadcastInDim S1x1x512 ![2] bcast_S512_S1x1x512_2 (shapeCast _ (extractStridedSlice S1x512 ![4, 0] w slices_S31x512_S1x512_4_0) shapeCasts_S1x512_S512))))) (mulf (extractStridedSlice S16x2048x512 ![0, 5, 0] u slices_S16x2078x512_S16x2048x512_0_5_0) (broadcastInDim S16x2048x512 ![0, 1, 2] bcast_S1x1x512_S16x2048x512_0_1_2 (broadcastInDim S1x1x512 ![2] bcast_S512_S1x1x512_2 (shapeCast _ (extractStridedSlice S1x512 ![5, 0] w slices_S31x512_S1x512_5_0) shapeCasts_S1x512_S512))))) (mulf (extractStridedSlice S16x2048x512 ![0, 6, 0] u slices_S16x2078x512_S16x2048x512_0_6_0) (broadcastInDim S16x2048x512 ![0, 1, 2] bcast_S1x1x512_S16x2048x512_0_1_2 (broadcastInDim S1x1x512 ![2] bcast_S512_S1x1x512_2 (shapeCast _ (extractStridedSlice S1x512 ![6, 0] w slices_S31x512_S1x512_6_0) shapeCasts_S1x512_S512))))) (mulf (extractStridedSlice S16x2048x512 ![0, 7, 0] u slices_S16x2078x512_S16x2048x512_0_7_0) (broadcastInDim S16x2048x512 ![0, 1, 2] bcast_S1x1x512_S16x2048x512_0_1_2 (broadcastInDim S1x1x512 ![2] bcast_S512_S1x1x512_2 (shapeCast _ (extractStridedSlice S1x512 ![7, 0] w slices_S31x512_S1x512_7_0) shapeCasts_S1x512_S512))))) (mulf (extractStridedSlice S16x2048x512 ![0, 8, 0] u slices_S16x2078x512_S16x2048x512_0_8_0) (broadcastInDim S16x2048x512 ![0, 1, 2] bcast_S1x1x512_S16x2048x512_0_1_2 (broadcastInDim S1x1x512 ![2] bcast_S512_S1x1x512_2 (shapeCast _ (extractStridedSlice S1x512 ![8, 0] w slices_S31x512_S1x512_8_0) shapeCasts_S1x512_S512))))) (mulf (extractStridedSlice S16x2048x512 ![0, 9, 0] u slices_S16x2078x512_S16x2048x512_0_9_0) (broadcastInDim S16x2048x512 ![0, 1, 2] bcast_S1x1x512_S16x2048x512_0_1_2 (broadcastInDim S1x1x512 ![2] bcast_S512_S1x1x512_2 (shapeCast _ (extractStridedSlice S1x512 ![9, 0] w slices_S31x512_S1x512_9_0) shapeCasts_S1x512_S512))))) (mulf (extractStridedSlice S16x2048x512 ![0, 10, 0] u slices_S16x2078x512_S16x2048x512_0_10_0) (broadcastInDim S16x2048x512 ![0, 1, 2] bcast_S1x1x512_S16x2048x512_0_1_2 (broadcastInDim S1x1x512 ![2] bcast_S512_S1x1x512_2 (shapeCast _ (extractStridedSlice S1x512 ![10, 0] w slices_S31x512_S1x512_10_0) shapeCasts_S1x512_S512))))

/-- The next eleven. -/
def taps1 (a : FVec F S16x2048x512 .f32) (u : FVec F S16x2078x512 .f32) (w : FVec F S31x512 .f32) : FVec F S16x2048x512 .f32 :=
  addf (addf (addf (addf (addf (addf (addf (addf (addf (addf (addf a (mulf (extractStridedSlice S16x2048x512 ![0, 11, 0] u slices_S16x2078x512_S16x2048x512_0_11_0) (broadcastInDim S16x2048x512 ![0, 1, 2] bcast_S1x1x512_S16x2048x512_0_1_2 (broadcastInDim S1x1x512 ![2] bcast_S512_S1x1x512_2 (shapeCast _ (extractStridedSlice S1x512 ![11, 0] w slices_S31x512_S1x512_11_0) shapeCasts_S1x512_S512))))) (mulf (extractStridedSlice S16x2048x512 ![0, 12, 0] u slices_S16x2078x512_S16x2048x512_0_12_0) (broadcastInDim S16x2048x512 ![0, 1, 2] bcast_S1x1x512_S16x2048x512_0_1_2 (broadcastInDim S1x1x512 ![2] bcast_S512_S1x1x512_2 (shapeCast _ (extractStridedSlice S1x512 ![12, 0] w slices_S31x512_S1x512_12_0) shapeCasts_S1x512_S512))))) (mulf (extractStridedSlice S16x2048x512 ![0, 13, 0] u slices_S16x2078x512_S16x2048x512_0_13_0) (broadcastInDim S16x2048x512 ![0, 1, 2] bcast_S1x1x512_S16x2048x512_0_1_2 (broadcastInDim S1x1x512 ![2] bcast_S512_S1x1x512_2 (shapeCast _ (extractStridedSlice S1x512 ![13, 0] w slices_S31x512_S1x512_13_0) shapeCasts_S1x512_S512))))) (mulf (extractStridedSlice S16x2048x512 ![0, 14, 0] u slices_S16x2078x512_S16x2048x512_0_14_0) (broadcastInDim S16x2048x512 ![0, 1, 2] bcast_S1x1x512_S16x2048x512_0_1_2 (broadcastInDim S1x1x512 ![2] bcast_S512_S1x1x512_2 (shapeCast _ (extractStridedSlice S1x512 ![14, 0] w slices_S31x512_S1x512_14_0) shapeCasts_S1x512_S512))))) (mulf (extractStridedSlice S16x2048x512 ![0, 15, 0] u slices_S16x2078x512_S16x2048x512_0_15_0) (broadcastInDim S16x2048x512 ![0, 1, 2] bcast_S1x1x512_S16x2048x512_0_1_2 (broadcastInDim S1x1x512 ![2] bcast_S512_S1x1x512_2 (shapeCast _ (extractStridedSlice S1x512 ![15, 0] w slices_S31x512_S1x512_15_0) shapeCasts_S1x512_S512))))) (mulf (extractStridedSlice S16x2048x512 ![0, 16, 0] u slices_S16x2078x512_S16x2048x512_0_16_0) (broadcastInDim S16x2048x512 ![0, 1, 2] bcast_S1x1x512_S16x2048x512_0_1_2 (broadcastInDim S1x1x512 ![2] bcast_S512_S1x1x512_2 (shapeCast _ (extractStridedSlice S1x512 ![16, 0] w slices_S31x512_S1x512_16_0) shapeCasts_S1x512_S512))))) (mulf (extractStridedSlice S16x2048x512 ![0, 17, 0] u slices_S16x2078x512_S16x2048x512_0_17_0) (broadcastInDim S16x2048x512 ![0, 1, 2] bcast_S1x1x512_S16x2048x512_0_1_2 (broadcastInDim S1x1x512 ![2] bcast_S512_S1x1x512_2 (shapeCast _ (extractStridedSlice S1x512 ![17, 0] w slices_S31x512_S1x512_17_0) shapeCasts_S1x512_S512))))) (mulf (extractStridedSlice S16x2048x512 ![0, 18, 0] u slices_S16x2078x512_S16x2048x512_0_18_0) (broadcastInDim S16x2048x512 ![0, 1, 2] bcast_S1x1x512_S16x2048x512_0_1_2 (broadcastInDim S1x1x512 ![2] bcast_S512_S1x1x512_2 (shapeCast _ (extractStridedSlice S1x512 ![18, 0] w slices_S31x512_S1x512_18_0) shapeCasts_S1x512_S512))))) (mulf (extractStridedSlice S16x2048x512 ![0, 19, 0] u slices_S16x2078x512_S16x2048x512_0_19_0) (broadcastInDim S16x2048x512 ![0, 1, 2] bcast_S1x1x512_S16x2048x512_0_1_2 (broadcastInDim S1x1x512 ![2] bcast_S512_S1x1x512_2 (shapeCast _ (extractStridedSlice S1x512 ![19, 0] w slices_S31x512_S1x512_19_0) shapeCasts_S1x512_S512))))) (mulf (extractStridedSlice S16x2048x512 ![0, 20, 0] u slices_S16x2078x512_S16x2048x512_0_20_0) (broadcastInDim S16x2048x512 ![0, 1, 2] bcast_S1x1x512_S16x2048x512_0_1_2 (broadcastInDim S1x1x512 ![2] bcast_S512_S1x1x512_2 (shapeCast _ (extractStridedSlice S1x512 ![20, 0] w slices_S31x512_S1x512_20_0) shapeCasts_S1x512_S512))))) (mulf (extractStridedSlice S16x2048x512 ![0, 21, 0] u slices_S16x2078x512_S16x2048x512_0_21_0) (broadcastInDim S16x2048x512 ![0, 1, 2] bcast_S1x1x512_S16x2048x512_0_1_2 (broadcastInDim S1x1x512 ![2] bcast_S512_S1x1x512_2 (shapeCast _ (extractStridedSlice S1x512 ![21, 0] w slices_S31x512_S1x512_21_0) shapeCasts_S1x512_S512))))

/-- The last nine and the bias. -/
def taps2 (a : FVec F S16x2048x512 .f32) (u : FVec F S16x2078x512 .f32) (w : FVec F S31x512 .f32) (b : FVec F S512 .f32) : FVec F S16x2048x512 .f32 :=
  addf (addf (addf (addf (addf (addf (addf (addf (addf (addf a (mulf (extractStridedSlice S16x2048x512 ![0, 22, 0] u slices_S16x2078x512_S16x2048x512_0_22_0) (broadcastInDim S16x2048x512 ![0, 1, 2] bcast_S1x1x512_S16x2048x512_0_1_2 (broadcastInDim S1x1x512 ![2] bcast_S512_S1x1x512_2 (shapeCast _ (extractStridedSlice S1x512 ![22, 0] w slices_S31x512_S1x512_22_0) shapeCasts_S1x512_S512))))) (mulf (extractStridedSlice S16x2048x512 ![0, 23, 0] u slices_S16x2078x512_S16x2048x512_0_23_0) (broadcastInDim S16x2048x512 ![0, 1, 2] bcast_S1x1x512_S16x2048x512_0_1_2 (broadcastInDim S1x1x512 ![2] bcast_S512_S1x1x512_2 (shapeCast _ (extractStridedSlice S1x512 ![23, 0] w slices_S31x512_S1x512_23_0) shapeCasts_S1x512_S512))))) (mulf (extractStridedSlice S16x2048x512 ![0, 24, 0] u slices_S16x2078x512_S16x2048x512_0_24_0) (broadcastInDim S16x2048x512 ![0, 1, 2] bcast_S1x1x512_S16x2048x512_0_1_2 (broadcastInDim S1x1x512 ![2] bcast_S512_S1x1x512_2 (shapeCast _ (extractStridedSlice S1x512 ![24, 0] w slices_S31x512_S1x512_24_0) shapeCasts_S1x512_S512))))) (mulf (extractStridedSlice S16x2048x512 ![0, 25, 0] u slices_S16x2078x512_S16x2048x512_0_25_0) (broadcastInDim S16x2048x512 ![0, 1, 2] bcast_S1x1x512_S16x2048x512_0_1_2 (broadcastInDim S1x1x512 ![2] bcast_S512_S1x1x512_2 (shapeCast _ (extractStridedSlice S1x512 ![25, 0] w slices_S31x512_S1x512_25_0) shapeCasts_S1x512_S512))))) (mulf (extractStridedSlice S16x2048x512 ![0, 26, 0] u slices_S16x2078x512_S16x2048x512_0_26_0) (broadcastInDim S16x2048x512 ![0, 1, 2] bcast_S1x1x512_S16x2048x512_0_1_2 (broadcastInDim S1x1x512 ![2] bcast_S512_S1x1x512_2 (shapeCast _ (extractStridedSlice S1x512 ![26, 0] w slices_S31x512_S1x512_26_0) shapeCasts_S1x512_S512))))) (mulf (extractStridedSlice S16x2048x512 ![0, 27, 0] u slices_S16x2078x512_S16x2048x512_0_27_0) (broadcastInDim S16x2048x512 ![0, 1, 2] bcast_S1x1x512_S16x2048x512_0_1_2 (broadcastInDim S1x1x512 ![2] bcast_S512_S1x1x512_2 (shapeCast _ (extractStridedSlice S1x512 ![27, 0] w slices_S31x512_S1x512_27_0) shapeCasts_S1x512_S512))))) (mulf (extractStridedSlice S16x2048x512 ![0, 28, 0] u slices_S16x2078x512_S16x2048x512_0_28_0) (broadcastInDim S16x2048x512 ![0, 1, 2] bcast_S1x1x512_S16x2048x512_0_1_2 (broadcastInDim S1x1x512 ![2] bcast_S512_S1x1x512_2 (shapeCast _ (extractStridedSlice S1x512 ![28, 0] w slices_S31x512_S1x512_28_0) shapeCasts_S1x512_S512))))) (mulf (extractStridedSlice S16x2048x512 ![0, 29, 0] u slices_S16x2078x512_S16x2048x512_0_29_0) (broadcastInDim S16x2048x512 ![0, 1, 2] bcast_S1x1x512_S16x2048x512_0_1_2 (broadcastInDim S1x1x512 ![2] bcast_S512_S1x1x512_2 (shapeCast _ (extractStridedSlice S1x512 ![29, 0] w slices_S31x512_S1x512_29_0) shapeCasts_S1x512_S512))))) (mulf (extractStridedSlice S16x2048x512 ![0, 30, 0] u slices_S16x2078x512_S16x2048x512_0_30_0) (broadcastInDim S16x2048x512 ![0, 1, 2] bcast_S1x1x512_S16x2048x512_0_1_2 (broadcastInDim S1x1x512 ![2] bcast_S512_S1x1x512_2 (shapeCast _ (extractStridedSlice S1x512 ![30, 0] w slices_S31x512_S1x512_30_0) shapeCasts_S1x512_S512))))) (broadcastInDim S16x2048x512 ![0, 1, 2] bcast_S1x1x512_S16x2048x512_0_1_2 (broadcastInDim S1x1x512 ![2] bcast_S512_S1x1x512_2 b))

/-- The convolution. -/
def conv (x : FVec F S32768x512 .f32) (w : FVec F S31x512 .f32) (b : FVec F S512 .f32) : FVec F S16x2048x512 .f32 :=
  taps2 (taps1 (taps0 (padded x) w) (padded x) w) (padded x) w b

/-- A row's mean. -/
def rowMean (a : FVec F S16x2048x512 .f32) : FVec F S16x2048x1 .f32 :=
  Host.divf (broadcastInDim S16x2048x1 ![0, 1] bcast_S16x2048_S16x2048x1_0_1 (Host.reduceAdd a (constant S_ .f32 0x00000000#32) reducesTo_S16x2048x512_S16x2048_d2 h_S_)) (broadcastInDim S16x2048x1 ![] bcast_S_S16x2048x1 (constant S_ .f32 0x44000000#32))

/-- The layer norm. -/
def norm (a : FVec F S16x2048x512 .f32) (g h : FVec F S512 .f32) : FVec F S16x2048x512 .f32 :=
  addf (mulf (mulf (subf a (broadcastInDim S16x2048x512 ![0, 1, 2] bcast_S16x2048x1_S16x2048x512_0_1_2 (rowMean a))) (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf (subf a (broadcastInDim S16x2048x512 ![0, 1, 2] bcast_S16x2048x1_S16x2048x512_0_1_2 (rowMean a))) (subf a (broadcastInDim S16x2048x512 ![0, 1, 2] bcast_S16x2048x1_S16x2048x512_0_1_2 (rowMean a)))) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))) (broadcastInDim S16x2048x512 ![0, 1, 2] bcast_S1x1x512_S16x2048x512_0_1_2 (broadcastInDim S1x1x512 ![2] bcast_S512_S1x1x512_2 g))) (broadcastInDim S16x2048x512 ![0, 1, 2] bcast_S1x1x512_S16x2048x512_0_1_2 (broadcastInDim S1x1x512 ![2] bcast_S512_S1x1x512_2 h))

/-- The activation. -/
def act (y : FVec F S16x2048x512 .f32) : FVec F S32768x512 .bf16 :=
  truncf .bf16 (shapeCast _ (mulf y (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf y))))) shapeCasts_S16x2048x512_S32768x512) bitsLt_bf16_f32

/-- What the run leaves in the results and the arguments. -/
theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v277) = attn (weights (scores (m ((c.tc : Thread nD τ).loc main_arg0)) (m ((c.tc : Thread nD τ).loc main_arg1)))) (m ((c.tc : Thread nD τ).loc main_arg2))
      ∧ r.2.mem ((c.tc : Thread nD τ).loc main_v278) = act (norm (conv (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)))
      ∧ r.2.mem ((c.tc : Thread nD τ).loc main_v279) = truncf .bf16 (shapeCast S32768x512 (m ((c.tc : Thread nD τ).loc main_arg8)) shapeCasts_S32x1024x512_S32768x512) bitsLt_bf16_f32
      ∧ r.2.mem ((c.tc : Thread nD τ).loc main_v280) = truncf .bf16 (shapeCast S32768x512 (m ((c.tc : Thread nD τ).loc main_arg9)) shapeCasts_S32x1024x512_S32768x512) bitsLt_bf16_f32
      ∧ r.2.mem ((c.tc : Thread nD τ).loc main_v281) = truncf .bf16 (shapeCast S16384x1024 (m ((c.tc : Thread nD τ).loc main_arg10)) shapeCasts_S32x512x1024_S16384x1024) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => h c) (run m ρ)

end Cert.ReferenceIdeal.Layer

end
-- ==== Proof.LayerAt.lean ====
/- The reference's attention and convolution module at an index, over the extended reals. -/
module

public import proofs.«01_k».proof.Proof.Layer
public import proofs.«01_k».proof.Proof.Rows
public import Idealize.ShloMosaic.Lib.Pipeline.ValueKit
public import Idealize.ShloMosaic.Lib.Pointwise

@[expose] public section

set_option maxRecDepth 16384

noncomputable section

namespace Cert.ReferenceIdeal.Layer

open Cert.ReferenceIdeal.Gen
open Idealize.ShloMosaic Idealize.ShloMosaic.TcCoe Idealize.ShloMosaic.Tactic

/-- A score: a query's product with a key, scaled. -/
theorem scores_apply (q : FVec Ideal S32768x512 .f32) (k : FVec Ideal S32768x128 .f32) (a : Fin 16) (b : Fin 2) (c : Fin 4) (r x : Fin 2048) :
    scores q k (ix5 a b c r x) = (∑ d : Fin 64, q (ix2 ⟨a.val * 2048 + r.val, by omega⟩ ⟨b.val * 256 + c.val * 64 + d.val, by omega⟩)
      * k (ix2 ⟨a.val * 2048 + x.val, by omega⟩ ⟨b.val * 64 + d.val, by omega⟩)) * Ideal.ofBits .f32 0x3E000000#32 := by
  pointwise [scores]

/-- The row's maximum. -/
def rowMax (s : FVec Ideal S16x2x4x2048x2048 .f32) : FVec Ideal S16x2x4x2048 .f32 :=
  Host.reduce FloatOps.maximumf s (constant S_ .f32 0xFF800000#32) reducesTo_S16x2x4x2048x2048_S16x2x4x2048_d4 h_S_

theorem rowMax_apply (s : FVec Ideal S16x2x4x2048x2048 .f32) (a : Fin 16) (b : Fin 2) (c : Fin 4) (d : Fin 2048) :
    rowMax s (ix4 a b c d) = Finset.univ.fold max (Ideal.ofBits .f32 0xFF800000#32) fun x : Fin 2048 => s (ix5 a b c d x) :=
  (Host.reduce_eq_fold FloatOps.maximumf s (constant S_ .f32 0xFF800000#32) reducesTo_S16x2x4x2048x2048_S16x2x4x2048_d4 h_S_ (ix4 a b c d)).trans
    (Shape.ReducesTo.fold_fiber_r5_a4 _ _ _ _ _)

/-- The exponentials, by the scores and a column of maxima. -/
def expBelow (s : FVec Ideal S16x2x4x2048x2048 .f32) (m : FVec Ideal S16x2x4x2048 .f32) : FVec Ideal S16x2x4x2048x2048 .f32 :=
  Host.exp (subf s (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) m))))

theorem weights_eq (s : FVec Ideal S16x2x4x2048x2048 .f32) : weights s = expBelow s (rowMax s) := rfl

theorem expBelow_apply (s : FVec Ideal S16x2x4x2048x2048 .f32) (m : FVec Ideal S16x2x4x2048 .f32) (a : Fin 16) (b : Fin 2) (c : Fin 4) (d x : Fin 2048) :
    expBelow s m (ix5 a b c d x) = Ideal.exp (s (ix5 a b c d x) - max (Ideal.ofBits .f32 0xFF800000#32) (m (ix4 a b c d))) := by
  pointwise [expBelow]

/-- A weight: the score's exponential below its row's maximum. -/
theorem weights_apply (s : FVec Ideal S16x2x4x2048x2048 .f32) (a : Fin 16) (b : Fin 2) (c : Fin 4) (d x : Fin 2048) :
    weights s (ix5 a b c d x) = Ideal.exp (s (ix5 a b c d x)
      - max (Ideal.ofBits .f32 0xFF800000#32) (Finset.univ.fold max (Ideal.ofBits .f32 0xFF800000#32) fun x : Fin 2048 => s (ix5 a b c d x))) :=
  (congrFun (weights_eq s) (ix5 a b c d x)).trans ((expBelow_apply s (rowMax s) a b c d x).trans
    (congrArg (fun z => Ideal.exp (s (ix5 a b c d x) - max (Ideal.ofBits .f32 0xFF800000#32) z)) (rowMax_apply s a b c d)))

/-- An element of the attention: the row's weights, each over their sum, times the values. -/
theorem attn_apply (p : FVec Ideal S16x2x4x2048x2048 .f32) (v : FVec Ideal S32768x128 .f32) (R : Fin 32768) (C : Fin 512) :
    attn p v (ix2 R C) = ∑ x : Fin 2048, Ideal.div (p (ix5 ⟨R.val / 2048, by omega⟩ ⟨C.val / 256, by omega⟩ ⟨C.val / 64 % 4, by omega⟩ ⟨R.val % 2048, by omega⟩ x))
          (∑ y : Fin 2048, p (ix5 ⟨R.val / 2048, by omega⟩ ⟨C.val / 256, by omega⟩ ⟨C.val / 64 % 4, by omega⟩ ⟨R.val % 2048, by omega⟩ y))
        * v (ix2 ⟨R.val / 2048 * 2048 + x.val, by omega⟩ ⟨C.val / 256 * 64 + C.val % 64, by omega⟩) := by
  pointwise [attn]

/-- A row of the padded sequences: zero in the fifteen rows before and after. -/
theorem padded_apply (x : FVec Ideal S32768x512 .f32) (a : Fin 16) (r : Fin 2078) (c : Fin 512) :
    padded x (ix3 a r c) = if h : 15 ≤ r.val ∧ r.val - 15 < 2048 then x (ix2 ⟨a.val * 2048 + (r.val - 15), by omega⟩ c) else 0 := by
  have e : (FloatOps.sitofp (F := Ideal) .f32 (0#32 : BitVec 32)) = (0 : EReal) := by
    show (((0#32 : BitVec 32).toInt : ℝ) : EReal) = 0
    simp
  pointwise [padded]
  rw [e]

/-- The convolution at an index, the products named by their number. -/
theorem conv_apply_of (u : FVec Ideal S16x2078x512 .f32) (w : FVec Ideal S31x512 .f32) (b : FVec Ideal S512 .f32) (a : Fin 16) (r : Fin 2048) (c : Fin 512) (T : ℕ → EReal)
    (hT : ∀ (k : ℕ) (hk : k < 31), u (ix3 a ⟨k + r.val, by omega⟩ c) * w (ix2 ⟨k, hk⟩ c) = T k) :
    taps2 (taps1 (taps0 u w) u w) u w b (ix3 a r c) = (∑ k ∈ Finset.range 31, T k) + b (ix1 c) := by
  have h0 : u (ix3 a ⟨r.val, by omega⟩ c) * w (ix2 0 c) = T 0 := by
    rw [← hT 0 (by omega)]
    exact congrArg (fun z => u (ix3 a z c) * w (ix2 0 c)) (Fin.ext (Nat.zero_add _).symm)
  pointwise [taps2, taps1, taps0]
  rw [Finset.sum_range_succ]
  simp only [Finset.sum_range_succ, Finset.sum_range_zero, zero_add]
  refine congrArg₂ (· + ·) ?_ rfl
  iterate 30 refine congrArg₂ (· + ·) ?_ (hT _ (by decide))
  exact h0

/-- The convolution at an index: thirty-one products and the bias. -/
theorem conv_apply (x : FVec Ideal S32768x512 .f32) (w : FVec Ideal S31x512 .f32) (b : FVec Ideal S512 .f32) (a : Fin 16) (r : Fin 2048) (c : Fin 512) :
    conv x w b (ix3 a r c) = (∑ k : Fin 31, padded x (ix3 a ⟨k.val + r.val, by omega⟩ c) * w (ix2 k c)) + b (ix1 c) := by
  refine (conv_apply_of (padded x) w b a r c
    (fun k => if h : k < 31 then padded x (ix3 a ⟨k + r.val, by omega⟩ c) * w (ix2 ⟨k, h⟩ c) else 0) fun k hk => by rw [dif_pos hk]).trans ?_
  rw [Finset.sum_range]
  exact congrArg (· + b (ix1 c)) (Finset.sum_congr rfl fun k _ => dif_pos k.isLt)

/-- The layer norm at an index. -/
theorem norm_apply (u : FVec Ideal S16x2048x512 .f32) (g h : FVec Ideal S512 .f32) (a : Fin 16) (r : Fin 2048) (c : Fin 512) :
    norm u g h (ix3 a r c) = Rows.layerNorm (fun c => u (ix3 a r c)) (fun c => g (ix1 c)) (fun c => h (ix1 c)) c := by
  have e : rowMean u (ix3 a r 0) = Rows.mean (fun c => u (ix3 a r c)) := by
    pointwise [rowMean, Rows.mean]
  pointwise [norm]
  rw [e]
  rfl

/-- The activation at an index. -/
theorem act_apply (y : FVec Ideal S16x2048x512 .f32) (R : Fin 32768) (c : Fin 512) :
    act y (ix2 R c) = y (ix3 ⟨R.val / 2048, by omega⟩ ⟨R.val % 2048, by omega⟩ c)
      * Ideal.div 1 (1 + Ideal.exp (-y (ix3 ⟨R.val / 2048, by omega⟩ ⟨R.val % 2048, by omega⟩ c))) := by
  pointwise [act]

end Cert.ReferenceIdeal.Layer

end
-- ==== Proof.Scalars.lean ====
/- The equations between the two programs' scalars, over the extended reals: the sigmoid by the hyperbolic tangent and by the exponential;
   the softmax in base two with the sum divided once, and in base e with every weight divided. -/
module

public import Idealize.ShloMosaic.Lib.Pointwise
public import Idealize.ShloMosaic.Lib.IdealHost

@[expose] public section

noncomputable section

namespace Cert.Scalars

open Idealize.ShloMosaic

/-- The words of the two programs' constants. -/
theorem half_eq : Ideal.ofBits .f32 0x3F000000#32 = ((1 / 2 : ℝ) : EReal) := by
  simp [Ideal.ofBits, Ideal.ieee, -EReal.coe_mul]; norm_num

theorem eighth_eq : Ideal.ofBits .f32 0x3E000000#32 = ((1 / 8 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem bot_eq : Ideal.ofBits .f32 0xFF800000#32 = ⊥ := by
  simp [Ideal.ofBits, Ideal.ieee]

theorem top_eq : Ideal.ofBits .f32 0x7F800000#32 = ⊤ := by
  simp [Ideal.ofBits, Ideal.ieee]

/-- The sigmoid's two forms agree at every real. -/
theorem sigmoid_real (r : ℝ) : (1 / 2) * Real.tanh ((1 / 2) * r) + 1 / 2 = (1 + Real.exp (-r))⁻¹ := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have ha := Real.exp_pos (1 / 2 * r)
  have hb := Real.exp_pos (-(1 / 2 * r))
  rw [Real.tanh_eq_sinh_div_cosh, Real.sinh_eq, Real.cosh_eq, h1]
  generalize Real.exp (1 / 2 * r) = a at *
  generalize Real.exp (-(1 / 2 * r)) = b at *
  have hab : a + b ≠ 0 := by positivity
  have hbb : 1 + b * b ≠ 0 := by positivity
  field_simp
  nlinarith

/-- The sigmoid's two forms agree at every extended real. -/
theorem sigmoid_eq (y : EReal) : Ideal.ofBits .f32 0x3F000000#32 * Ideal.tanh (Ideal.ofBits .f32 0x3F000000#32 * y) + Ideal.ofBits .f32 0x3F000000#32
    = Ideal.div 1 (1 + Ideal.exp (-y)) := by
  show _ = Ideal.logistic y
  rw [half_eq]
  induction y using EReal.rec with
  | bot =>
    rw [EReal.coe_mul_bot_of_pos (by norm_num), Ideal.tanh_bot, Ideal.logistic_bot,
      show ((1 / 2 : ℝ) : EReal) * -1 + ((1 / 2 : ℝ) : EReal) = 0 by
        rw [show (-1 : EReal) = ((-1 : ℝ) : EReal) by simp, ← EReal.coe_mul, ← EReal.coe_add]; norm_num]
  | top =>
    rw [EReal.coe_mul_top_of_pos (by norm_num), Ideal.tanh_top, Ideal.logistic_top,
      show ((1 / 2 : ℝ) : EReal) * 1 + ((1 / 2 : ℝ) : EReal) = 1 by
        rw [mul_one, ← EReal.coe_add]; norm_num]
  | coe r =>
    rw [← EReal.coe_mul, Ideal.tanh_coe, ← EReal.coe_mul, ← EReal.coe_add, Ideal.logistic_coe, sigmoid_real]

/-- So do the two gates. -/
theorem gate_eq (y : EReal) : y * (Ideal.ofBits .f32 0x3F000000#32 * Ideal.tanh (Ideal.ofBits .f32 0x3F000000#32 * y) + Ideal.ofBits .f32 0x3F000000#32)
    = y * Ideal.div 1 (1 + Ideal.exp (-y)) := congrArg (y * ·) (sigmoid_eq y)

/-- A sum of reals is a real. -/
theorem coe_sum {n : ℕ} (f : Fin n → ℝ) : (∑ x, (f x : EReal)) = ((∑ x, f x : ℝ) : EReal) := by
  induction (Finset.univ : Finset (Fin n)) using Finset.induction_on with
  | empty => simp
  | insert a s ha ih => rw [Finset.sum_insert ha, Finset.sum_insert ha, ih, EReal.coe_add]

/-- The maximum of finitely many reals, from below everything, is a real, and commutes with a positive factor. -/
theorem fold_max_coe {n : ℕ} [NeZero n] (f : Fin n → ℝ) :
    ∃ M : ℝ, ∀ a : ℝ, 0 < a → Finset.univ.fold max (⊥ : EReal) (fun x => ((a * f x : ℝ) : EReal)) = ((a * M : ℝ) : EReal) := by
  obtain ⟨j, _, hj⟩ := Finset.exists_max_image (Finset.univ : Finset (Fin n)) f ⟨0, Finset.mem_univ _⟩
  refine ⟨f j, fun a ha => le_antisymm ?_ ?_⟩
  · rw [Finset.fold_max_le]
    exact ⟨bot_le, fun x hx => EReal.coe_le_coe_iff.mpr (mul_le_mul_of_nonneg_left (hj x hx) ha.le)⟩
  · rw [Finset.le_fold_max]
    exact Or.inr ⟨j, Finset.mem_univ _, le_rfl⟩

/-- A positive real factor distributes over a finite sum of extended reals. -/
theorem sum_mul_pos {n : ℕ} (f : Fin n → EReal) (a : ℝ) (ha : 0 < a) : (∑ x, f x) * (a : EReal) = ∑ x, f x * (a : EReal) := by
  induction (Finset.univ : Finset (Fin n)) using Finset.induction_on with
  | empty => simp
  | insert b s hb ih =>
    rw [Finset.sum_insert hb, Finset.sum_insert hb, ← ih, EReal.right_distrib_of_nonneg_of_ne_top (EReal.coe_nonneg.mpr ha.le) (EReal.coe_ne_top a)]

/-- The softmax's two forms: on real scores `S`, at the scale `1 / (8 log 2)` in base two and `1 / 8` in base e. -/
theorem softmax_eq (S : Fin 2048 → ℝ) (v : Fin 2048 → EReal) (s₁ s₂ : Fin 2048 → EReal)
    (h₁ : ∀ x, s₁ x = ((1 / 8 / Real.log 2 * S x : ℝ) : EReal)) (h₂ : ∀ x, s₂ x = ((1 / 8 * S x : ℝ) : EReal)) :
    Ideal.div (∑ x, Ideal.exp2 (s₁ x - Finset.univ.fold max ⊥ s₁) * v x) (∑ x, Ideal.exp2 (s₁ x - Finset.univ.fold max ⊥ s₁) * 1)
      = ∑ x, Ideal.div (Ideal.exp (s₂ x - max ⊥ (Finset.univ.fold max ⊥ s₂))) (∑ y, Ideal.exp (s₂ y - max ⊥ (Finset.univ.fold max ⊥ s₂))) * v x := by
  obtain rfl : s₁ = fun x => ((1 / 8 / Real.log 2 * S x : ℝ) : EReal) := funext h₁
  obtain rfl : s₂ = fun x => ((1 / 8 * S x : ℝ) : EReal) := funext h₂
  clear h₁ h₂
  have hl : 0 < Real.log 2 := Real.log_pos (by norm_num)
  obtain ⟨M, hM⟩ := fold_max_coe S
  rw [hM _ (div_pos (by norm_num) hl), hM _ (by norm_num : (0 : ℝ) < 1 / 8), max_eq_right bot_le]
  have e1 : ∀ x, Ideal.exp2 (((1 / 8 / Real.log 2 * S x : ℝ) : EReal) - ((1 / 8 / Real.log 2 * M : ℝ) : EReal)) = ((Real.exp (1 / 8 * (S x - M)) : ℝ) : EReal) := by
    intro x
    rw [← EReal.coe_sub, Ideal.exp2_coe]
    refine congrArg _ ?_
    show (2 : ℝ) ^ (_ : ℝ) = _
    rw [Real.rpow_def_of_pos (by norm_num)]
    congr 1
    field_simp
  have e2 : ∀ x, Ideal.exp (((1 / 8 * S x : ℝ) : EReal) - ((1 / 8 * M : ℝ) : EReal)) = ((Real.exp (1 / 8 * (S x - M)) : ℝ) : EReal) := by
    intro x
    rw [← EReal.coe_sub, Ideal.exp_coe, ← mul_sub]
  simp only [e1, e2, mul_one]
  rw [coe_sum]
  have hL : 0 < ∑ x, Real.exp (1 / 8 * (S x - M)) := Finset.sum_pos (fun x _ => Real.exp_pos _) ⟨0, Finset.mem_univ _⟩
  generalize (∑ x, Real.exp (1 / 8 * (S x - M))) = L at hL
  rw [Ideal.div_coe hL.ne', sum_mul_pos _ _ (by positivity)]
  refine Finset.sum_congr rfl fun x _ => ?_
  rw [Ideal.div_coe hL.ne']
  rw [mul_assoc, mul_assoc, mul_comm (v x)]

/-- The queries' scale. -/
theorem scale_eq : Ideal.div (Ideal.ofBits .f32 0x3E000000#32) (Ideal.log (Ideal.ofBits .f32 0x40000000#32)) = ((1 / 8 / Real.log 2 : ℝ) : EReal) := by
  have hl : 0 < Real.log 2 := Real.log_pos (by norm_num)
  rw [eighth_eq, two_eq, Ideal.log_coe, if_neg (by norm_num), Ideal.div_coe hl.ne', ← EReal.coe_mul]
  congr 1
  ring

/-- A score of finite queries and keys, scaled on either side. -/
theorem score_scaled (q k : Fin 64 → ℝ) (a : ℝ) : (∑ d, ((q d : EReal) * (a : EReal)) * (k d : EReal)) = ((a * ∑ d, q d * k d : ℝ) : EReal) := by
  rw [Finset.mul_sum, ← coe_sum]
  refine Finset.sum_congr rfl fun d _ => ?_
  rw [← EReal.coe_mul, ← EReal.coe_mul]
  congr 1
  ring

theorem score_after (q k : Fin 64 → ℝ) (a : ℝ) : (∑ d, (q d : EReal) * (k d : EReal)) * (a : EReal) = ((a * ∑ d, q d * k d : ℝ) : EReal) := by
  rw [show (∑ d, (q d : EReal) * (k d : EReal)) = ((∑ d, q d * k d : ℝ) : EReal) by
    rw [← coe_sum]; exact Finset.sum_congr rfl fun d _ => (EReal.coe_mul _ _).symm, ← EReal.coe_mul, mul_comm]

end Cert.Scalars

end
-- ==== Proof.Equation.lean ====
/- The equation between what the mixers leave and what the reference computes, element by element. -/
module

public import proofs.«01_k».proof.Proof.Results
public import proofs.«01_k».proof.Proof.LayerAt
public import proofs.«01_k».proof.Proof.Scalars

@[expose] public section

set_option maxRecDepth 16384

noncomputable section

namespace Cert.Equation

open Idealize.ShloMosaic Idealize.ShloMosaic.TcCoe
open Cert.KernelIdeal
open Cert.KernelIdeal.Mix (attnOut attnAt convOut normOut gate)
open Cert.ReferenceIdeal (Layer.scores Layer.weights Layer.attn Layer.padded Layer.conv Layer.norm Layer.act)

/-- A finite array: every element a real. -/
def Finite {s : Shape} (x : s.Idx → EReal) : Prop := ∃ r : s.Idx → ℝ, ∀ i, x i = (r i : EReal)

theorem attn_eq (q : Vec Ideal S32768x512 .f32) (k v : Vec Ideal S32768x128 .f32) (hq : Finite q) (hk : Finite k) (R : Fin 32768) (C : Fin 512) :
    attnOut q k v R C = Layer.attn (F := Ideal) (Layer.weights (Layer.scores q k)) v (ix2 R C) := by
  obtain ⟨Q, hQ⟩ := hq
  obtain ⟨K, hK⟩ := hk
  refine Eq.trans ?_ (Cert.ReferenceIdeal.Layer.attn_apply _ v R C).symm
  simp only [Cert.ReferenceIdeal.Layer.weights_apply, Cert.ReferenceIdeal.Layer.scores_apply]
  unfold attnOut attnAt Cert.KernelIdeal.Mix.scale
  rw [Scalars.bot_eq, Scalars.scale_eq, Scalars.eighth_eq]
  refine Scalars.softmax_eq (fun x => ∑ d : Fin 64, Q (ix2 R ⟨C.val / 64 * 64 + d.val, by omega⟩) * K (ix2 ⟨R.val / 2048 * 2048 + x.val, by omega⟩ ⟨C.val / 256 * 64 + d.val, by omega⟩))
    _ _ _ (fun x => ?_) (fun x => ?_)
  · refine Eq.trans (Finset.sum_congr rfl fun d _ => ?_) (Scalars.score_scaled (fun d => Q (ix2 R ⟨C.val / 64 * 64 + d.val, by omega⟩)) (fun d => K (ix2 ⟨R.val / 2048 * 2048 + x.val, by omega⟩ ⟨C.val / 256 * 64 + d.val, by omega⟩)) _)
    exact congrArg₂ (· * ·) (congrArg (· * _) (hQ _)) (hK _)
  · refine Eq.trans (congrArg (· * _) (Finset.sum_congr rfl fun d _ => ?_)) (Scalars.score_after (fun d => Q (ix2 R ⟨C.val / 64 * 64 + d.val, by omega⟩)) (fun d => K (ix2 ⟨R.val / 2048 * 2048 + x.val, by omega⟩ ⟨C.val / 256 * 64 + d.val, by omega⟩)) _)
    refine congrArg₂ (· * ·) ((congrArg q ?_).trans (hQ _)) (hK _)
    exact congrArg₂ ix2 (Fin.ext (by show R.val / 2048 * 2048 + R.val % 2048 = R.val; omega)) (Fin.ext (by show C.val / 256 * 256 + C.val / 64 % 4 * 64 + d.val = C.val / 64 * 64 + d.val; omega))

theorem conv_eq (x : Vec Ideal S32768x512 .f32) (w : Vec Ideal S31x512 .f32) (b : Vec Ideal S512 .f32) (R : Fin 32768) (C : Fin 512) :
    convOut x w b R C = Layer.conv (F := Ideal) x w b (ix3 ⟨R.val / 2048, by omega⟩ ⟨R.val % 2048, by omega⟩ C) := by
  rw [Cert.ReferenceIdeal.Layer.conv_apply]
  unfold convOut
  refine congrArg (· + b (ix1 C)) (Finset.sum_congr rfl fun k _ => congrArg (· * w (ix2 k C)) ?_)
  rw [Cert.ReferenceIdeal.Layer.padded_apply]

theorem gate_eq (x : Vec Ideal S32768x512 .f32) (w : Vec Ideal S31x512 .f32) (b g h : Vec Ideal S512 .f32) (R : Fin 32768) (C : Fin 512) :
    gate (normOut x w b g h R C) = Layer.act (F := Ideal) (Layer.norm (Layer.conv x w b) g h) (ix2 R C) := by
  rw [Cert.ReferenceIdeal.Layer.act_apply, Cert.ReferenceIdeal.Layer.norm_apply]
  unfold gate normOut
  rw [funext (conv_eq x w b R)]
  exact Scalars.gate_eq _

end Cert.Equation

end
-- ==== Proof.Bounds.lean ====
/- What the precondition `finite_scores` says: every query and every key is a real number. -/
module

public import proofs.«01_k».proof.Defs
public import proofs.«01_k».proof.Proof.Equation
public import Idealize.ShloMosaic.Lib.ReduceAll
public import Idealize.ShloMosaic.Lib.Decide

@[expose] public section

set_option maxRecDepth 16384

noncomputable section

namespace Cert.Bounds

open Idealize.ShloMosaic Cert.Equation

/-- The side conditions the precondition's program states. -/
instance facts : Cert.Pre_finite_scores.Facts where
  bcast_S_S32768x512 := by decide
  reducesTo_S32768x512_S_d0_1 := by decide
  h_S_ := by decide
  bcast_S_S32768x128 := by decide
  reducesTo_S32768x128_S_d0_1 := by decide

instance : Subsingleton Cert.Pre_finite_scores.S_.Idx := ⟨fun a b => funext fun i => i.elim0⟩

/-- A value whose magnitude is below +∞ is a real. -/
theorem real_of_lt (x : EReal) (h : Ideal.cmp .olt (max x (-x)) (Ideal.ofBits .f32 0x7F800000#32) = 1#1) : ∃ r : ℝ, x = (r : EReal) := by
  rw [Scalars.top_eq] at h
  induction x with
  | bot => simp [Ideal.cmp] at h
  | top => simp [Ideal.cmp] at h
  | coe r => exact ⟨r, rfl⟩

/-- An array the check `jnp.all(jnp.abs(x) < jnp.inf)` passes is finite. -/
theorem finite_of_all {s t u : Shape} {axes : List (Fin s.rank)} [Subsingleton t.Idx] (x : s.Idx → EReal) (b : Vec Ideal s .f32) (init : u.Idx → BitVec 1)
    (hb : ∀ i, b i = Ideal.ofBits .f32 0x7F800000#32) (h : s.ReducesTo axes t) (hu : 0 < u.numel) (j : t.Idx)
    (e : Host.reduce IntOp.andi (cmpf (F := Ideal) (φ := .f32) .olt (Host.absf (F := Ideal) (φ := .f32) x) b) init h hu j = 1#1) : Finite x := by
  refine ⟨fun i => (real_of_lt (x i) ?_).choose, fun i => (real_of_lt (x i) ?_).choose_spec⟩ <;>
  · rw [← hb i]
    exact Host.reduce_andi_all _ init h hu j e i

/-- The precondition, read: the queries and the keys are finite. -/
theorem finite_of_pre (m : (ℓ : Loc Cert.KernelIdeal.nD Cert.KernelIdeal.τ Cert.KernelIdeal.sig) → Buf (Elt Ideal) ℓ) (h : Cert.Pre_KernelIdeal_finite_scores m)
    (c : Dev Cert.KernelIdeal.nD) : Finite (Cert.KernelIdeal.Mix.qA m c) ∧ Finite (Cert.KernelIdeal.Mix.kA m c) := by
  have e := congrFun (h c) (fun i => i.elim0)
  dsimp only [Cert.Pre_finite_scores.fn] at e
  obtain ⟨e₁, e₂⟩ := IntOp.andi_eq_one.1 e
  exact ⟨finite_of_all _ _ _ (fun _ => rfl) _ _ _ e₁, finite_of_all _ _ _ (fun _ => rfl) _ _ _ e₂⟩

end Cert.Bounds

end
-- ==== Proof.Frames.lean ====
/- The frames of the two programs: the kernel at both readings from one run, and the reference from its straight run. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import Idealize.ShloMosaic.Adequacy
public import Idealize.ShloMosaic.Init

@[expose] public section

noncomputable section

namespace Cert.Proof

open Idealize.ShloMosaic Idealize.SL.Sem

set_option maxHeartbeats 2000000 in
/-- The kernel's body is the idealized one. -/
theorem body_eq : @Cert.Kernel.cc0__mixers_kernel Bits _ _ = @Cert.KernelIdeal.cc0__mixers_kernel Bits _ _ := rfl

set_option maxHeartbeats 2000000 in
/-- So are the tables that hold it … -/
theorem table_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => dsimp only; rw [body_eq]; rfl

theorem defs_eq : Cert.Kernel.defs (F := Bits) = Cert.KernelIdeal.defs (F := Bits) := by
  unfold Cert.Kernel.defs Cert.KernelIdeal.defs
  rw [table_eq]
  rfl

set_option maxHeartbeats 2000000 in
/-- … and the host's program. -/
theorem main_eq : Cert.Kernel.main (F := Bits) = Cert.KernelIdeal.main (F := Bits) := rfl

set_option maxHeartbeats 2000000 in
/-- THE KERNEL'S FRAME: at the machine's own values every argument ends as launched and every counter at zero. The idealized
    program is the same text, so its run at `Bits` is this one. -/
theorem frame_kernel : Cert.quiescent_Kernel := fun m ρ _ => by
  rw [defs_eq, main_eq]
  exact Cert.KernelIdeal.Mix.frame (F := Bits) m ρ

/-- THE IDEALIZED KERNEL'S FRAME. -/
theorem frame_ideal : Cert.quiescent_KernelIdeal := fun m ρ _ => Cert.KernelIdeal.Mix.frame (F := Ideal) m ρ

/-- THE REFERENCE'S FRAME: a straight list of host operations none of which writes an argument. -/
theorem frame_reference : Cert.quiescent_ReferenceIdeal := fun m ρ _ =>
  (θ_run Cert.ReferenceIdeal.defs _ _).mono (fun r h => ⟨fun c => (h c).2.2.2.2.2,
    Idealize.ShloMosaic.sem_eq_zero_of_no_sems (by decide) r.2⟩) (Cert.ReferenceIdeal.Value.run (F := Ideal) m ρ)

/-- No operation of the kernel is rewritten, so nothing is to be preserved. -/
theorem preserves : Cert.preserves_Kernel_KernelIdeal := trivial

end Cert.Proof

end
-- ==== Proof.Value.lean ====
/- The kernel's results after its run and the reference's, as the same arrays. -/
module

public import proofs.«01_k».proof.Proof.Bounds
public import proofs.«01_k».proof.Proof.Layer
public import proofs.«01_k».proof.Proof.Frames
public import Idealize.ShloMosaic.Lib.Claim

@[expose] public section

set_option maxRecDepth 16384

noncomputable section

namespace Cert.Proof

open Idealize.ShloMosaic Idealize.ShloMosaic.TcCoe Idealize.ShloMosaic.Tactic Idealize.SL.Sem
open Cert.KernelIdeal.Mix

section Kernel

open Cert.KernelIdeal Cert.KernelIdeal.Gen

variable (m : (ℓ : Loc nD τ sig) → Buf (Elt Ideal) ℓ) (c : Dev nD)

/-- Result 0 is the reference's attention of the launched arguments. -/
theorem value_attn (hq : Equation.Finite (qA m c)) (hk : Equation.Finite (kA m c)) :
    (dats m 0 c).arrAt 11 (cfgs 0).N
      = Cert.ReferenceIdeal.Layer.attn (F := Ideal) (Cert.ReferenceIdeal.Layer.weights (Cert.ReferenceIdeal.Layer.scores (qA m c) (kA m c))) (vA m c) := by
  refine (arr_attn m c).trans (funext fun i => ?_)
  exact (Equation.attn_eq _ _ _ hq hk _ _).trans (congrArg _ (eq_ix2 i).symm)

/-- Result 1 is the reference's convolution module. -/
theorem value_conv : (dats m 0 c).arrAt 12 (cfgs 0).N
      = Cert.ReferenceIdeal.Layer.act (F := Ideal) (Cert.ReferenceIdeal.Layer.norm (Cert.ReferenceIdeal.Layer.conv (xA m c) (wA m c) (bA m c)) (gA m c) (hA m c)) := by
  refine (arr_conv m c).trans (funext fun i => ?_)
  exact (Equation.gate_eq _ _ _ _ _ _ _).trans (congrArg _ (eq_ix2 i).symm)

/-- Results 2 to 4 are the expert weights, flattened. -/
theorem value_gate : (dats m 0 c).arrAt 13 (cfgs 0).N = shapeCast S32768x512 (m ((c.tc : Thread nD τ).loc main_arg8)) shapeCasts_S32x1024x512_S32768x512 := by
  refine (arr_gate m c).trans ?_
  entry_read
  rfl

theorem value_up : (dats m 0 c).arrAt 14 (cfgs 0).N = shapeCast S32768x512 (m ((c.tc : Thread nD τ).loc main_arg9)) shapeCasts_S32x1024x512_S32768x512 := by
  refine (arr_up m c).trans ?_
  entry_read
  rfl

theorem value_down : (dats m 0 c).arrAt 15 (cfgs 0).N = shapeCast S16384x1024 (m ((c.tc : Thread nD τ).loc main_arg10)) shapeCasts_S32x512x1024_S16384x1024 := by
  refine (arr_down m c).trans ?_
  entry_read
  rfl

end Kernel

set_option maxHeartbeats 2000000 in
/-- THE VALUE CLAIM: over the reals, on finite queries and keys, the mixers leave what the reference computes. -/
theorem algebraic : Cert.algebraic_KernelIdeal_ReferenceIdeal_pre_finite_scores := by
  pair_intro
  · run_from Cert.KernelIdeal.Mix.run_main m g
  · run_from Cert.ReferenceIdeal.Layer.run_values m' g'
    · exact (value_attn m c (Bounds.finite_of_pre m hpre c).1 (Bounds.finite_of_pre m hpre c).2).symm
    · exact (value_conv m c).symm
    · exact (value_gate m c).symm
    · exact (value_up m c).symm
    · exact (value_down m c).symm

end Cert.Proof

end
-- ==== Proof.Rope.lean ====
/- The input projection's scalars over the extended reals: a row's RMS norm and modulation, its product with a column of the weights, a head's
   RMS norm and its axial rotation; and the lane form of the rotation, two heads side by side in 128 lanes, that the kernel computes. -/
module

public import Idealize.ShloMosaic.Lib.Pipeline.ValueKit
public import Idealize.ShloMosaic.Lib.Pointwise
public import proofs.«01_k».proof.Proof.Scalars

@[expose] public section

noncomputable section

namespace Cert.Rope

open Idealize.ShloMosaic

/-- The norms' small constant. -/
abbrev eps : EReal := Ideal.ofBits .f32 0x358637BD#32

/-- A row's RMS norm, scaled by one plus the modulation's scale and shifted. -/
def modulated (x g sc sh : Fin 1024 → EReal) (d : Fin 1024) : EReal :=
  x d * Ideal.rsqrt (Ideal.div (∑ e : Fin 1024, x e * x e) (Ideal.ofBits .f32 0x44800000#32) + eps) * g d * (1 + sc d) + sh d

/-- A row's product with a column. -/
def proj (h w : Fin 1024 → EReal) : EReal := ∑ d : Fin 1024, h d * w d

/-- A head's RMS norm. -/
def headNorm (z g : Fin 64 → EReal) (d : Fin 64) : EReal :=
  z d * Ideal.rsqrt (Ideal.div (∑ e : Fin 64, z e * z e) (Ideal.ofBits .f32 0x42800000#32) + eps) * g d

/-- The turning rate of a pair of lanes: 10000 to the power −2e/32. -/
def freq (e : ℕ) : EReal := Ideal.pow (Ideal.ofBits .f32 0x461C4000#32) (Ideal.div (-(Ideal.ofBits .f32 0x40000000#32 * FloatOps.sitofp (F := Ideal) .f32 (BitVec.ofNat 32 e))) (Ideal.ofBits .f32 0x42000000#32))

/-- The angle of a token at a lane of its head: its row turns the first half of the lanes, its column the second. -/
def angle (s : Fin 2048) (e : Fin 64) : EReal :=
  (if e.val < 32 then FloatOps.sitofp (F := Ideal) .f32 (BitVec.ofNat 32 (s.val / 64)) else FloatOps.sitofp (F := Ideal) .f32 (BitVec.ofNat 32 (s.val % 64))) * freq (e.val % 16)

theorem angle_row (s : Fin 2048) (e : ℕ) (he : e < 64) (h : e < 32) (f : ℕ) (hf : e % 16 = f) : angle s ⟨e, he⟩ = FloatOps.sitofp (F := Ideal) .f32 (BitVec.ofNat 32 (s.val / 64)) * freq f := by
  unfold angle
  rw [if_pos h, hf]

theorem angle_col (s : Fin 2048) (e : ℕ) (he : e < 64) (h : ¬ e < 32) (f : ℕ) (hf : e % 16 = f) : angle s ⟨e, he⟩ = FloatOps.sitofp (F := Ideal) .f32 (BitVec.ofNat 32 (s.val % 64)) * freq f := by
  unfold angle
  rw [if_neg h, hf]

/-- A normed head rotated by its angles: in each half of 32 lanes, the first sixteen paired with the last sixteen. -/
def rotated (n a : Fin 64 → EReal) (e : Fin 64) : EReal :=
  if h : e.val % 32 < 16 then n e * Ideal.cos (a e) - n ⟨e.val + 16, by omega⟩ * Ideal.sin (a e)
  else n e * Ideal.cos (a e) + n ⟨e.val - 16, by omega⟩ * Ideal.sin (a e)

theorem pair_sub (n : Fin 64 → EReal) {x x' y y' : Fin 64} {p q : EReal} (hx : x = x') (hy : y = y') (hp : p = q) :
    n x * Ideal.cos p - n y * Ideal.sin p = n x' * Ideal.cos q - n y' * Ideal.sin q := by
  subst hx hy hp; rfl

theorem pair_add (n : Fin 64 → EReal) {x x' y y' : Fin 64} {p q : EReal} (hx : x = x') (hy : y = y') (hp : p = q) :
    n x * Ideal.cos p + n y * Ideal.sin p = n x' * Ideal.cos q + n y' * Ideal.sin q := by
  subst hx hy hp; rfl

/-- A rotated head from its quarters: each half of 32 lanes rotated by sixteen angles, the first half by the row's, the second by the column's. -/
theorem quarters_eq (n : Fin 64 → EReal) (s : Fin 2048) (row col : Fin 16 → EReal)
    (hr : ∀ k, row k = FloatOps.sitofp (F := Ideal) .f32 (BitVec.ofNat 32 (s.val / 64)) * freq k.val)
    (hc : ∀ k, col k = FloatOps.sitofp (F := Ideal) .f32 (BitVec.ofNat 32 (s.val % 64)) * freq k.val) (e : Fin 64) :
    (if h : e.val < 32 then
      if h' : e.val < 16 then n e * Ideal.cos (row ⟨e.val, h'⟩) - n ⟨16 + e.val, by omega⟩ * Ideal.sin (row ⟨e.val, h'⟩)
      else n ⟨16 + (e.val - 16), by omega⟩ * Ideal.cos (row ⟨e.val - 16, by omega⟩) + n ⟨e.val - 16, by omega⟩ * Ideal.sin (row ⟨e.val - 16, by omega⟩)
    else
      if h' : e.val - 32 < 16 then
        n ⟨32 + (e.val - 32), by omega⟩ * Ideal.cos (col ⟨e.val - 32, h'⟩) - n ⟨32 + (16 + (e.val - 32)), by omega⟩ * Ideal.sin (col ⟨e.val - 32, h'⟩)
      else n ⟨32 + (16 + (e.val - 32 - 16)), by omega⟩ * Ideal.cos (col ⟨e.val - 32 - 16, by omega⟩) + n ⟨32 + (e.val - 32 - 16), by omega⟩ * Ideal.sin (col ⟨e.val - 32 - 16, by omega⟩))
      = rotated n (angle s) e := by
  have he := e.isLt
  unfold rotated
  by_cases h : e.val < 32
  · rw [dif_pos h]
    by_cases h' : e.val < 16
    · rw [dif_pos h', dif_pos (show e.val % 32 < 16 by omega)]
      exact pair_sub n rfl (Fin.ext (Nat.add_comm _ _)) ((hr _).trans (angle_row s e.val he h e.val (by omega)).symm)
    · rw [dif_neg h', dif_neg (show ¬ e.val % 32 < 16 by omega)]
      exact pair_add n (Fin.ext (by show 16 + (e.val - 16) = e.val; omega)) rfl ((hr _).trans (angle_row s e.val he h (e.val - 16) (by omega)).symm)
  · rw [dif_neg h]
    by_cases h' : e.val - 32 < 16
    · rw [dif_pos h', dif_pos (show e.val % 32 < 16 by omega)]
      exact pair_sub n (Fin.ext (by show 32 + (e.val - 32) = e.val; omega)) (Fin.ext (by show 32 + (16 + (e.val - 32)) = e.val + 16; omega)) ((hc _).trans (angle_col s e.val he h (e.val - 32) (by omega)).symm)
    · rw [dif_neg h', dif_neg (show ¬ e.val % 32 < 16 by omega)]
      exact pair_add n (Fin.ext (by show 32 + (16 + (e.val - 32 - 16)) = e.val; omega)) (Fin.ext (by show 32 + (e.val - 32 - 16) = e.val - 16; omega)) ((hc _).trans (angle_col s e.val he h (e.val - 32 - 16) (by omega)).symm)

/-- The norm of two heads in 128 lanes, the mean of squares by a product with the matrix `hm`. -/
def laneNorm (z g : Fin 128 → EReal) (hm : Fin 128 → Fin 128 → EReal) (l : Fin 128) : EReal :=
  z l * Ideal.rsqrt ((∑ x : Fin 128, z x * z x * hm x l) + eps) * g l

/-- The rotation of two heads in 128 lanes, a lane's partner sixteen above or below, the sine signed. -/
def laneRotated (n co si : Fin 128 → EReal) (l : Fin 128) : EReal :=
  n l * co l + (if l.val % 32 < 16 then n ⟨(l.val + 16) % 128, by omega⟩ else n ⟨(l.val + 112) % 128, by omega⟩) * si l

theorem c64_eq : Ideal.ofBits .f32 0x42800000#32 = ((64 : ℝ) : EReal) := by
  simp [Ideal.ofBits, Ideal.ieee, -EReal.coe_mul]; norm_num

/-- An entry of the matrix of means: a sixty-fourth within a head, zero across. -/
def headMean (x l : Fin 128) : EReal := if x.val / 64 = l.val / 64 then ((1 / 64 : ℝ) : EReal) else 0

/-- The head of a lane. -/
def headOf (z : Fin 128 → EReal) (l : Fin 128) (d : Fin 64) : EReal := z ⟨l.val / 64 * 64 + d.val, by omega⟩

/-- The product with the matrix of means is the mean of the lane's own head. -/
theorem mean_eq (z : Fin 128 → EReal) (l : Fin 128) :
    (∑ x : Fin 128, z x * z x * headMean x l) = Ideal.div (∑ e : Fin 64, headOf z l e * headOf z l e) (Ideal.ofBits .f32 0x42800000#32) := by
  rw [c64_eq, Ideal.div_coe (by norm_num : (64 : ℝ) ≠ 0), Scalars.sum_mul_pos _ _ (by norm_num)]
  have e : ∀ f : Fin 128 → EReal, (∑ x : Fin 128, f x) = (∑ d : Fin 64, f ⟨d.val, by omega⟩) + ∑ d : Fin 64, f ⟨64 + d.val, by omega⟩ := fun f =>
    Fin.sum_univ_add (a := 64) (b := 64) f
  rw [e]
  have hl := l.isLt
  by_cases h : l.val < 64
  · have h0 : l.val / 64 = 0 := by omega
    rw [Finset.sum_eq_zero (s := Finset.univ) (f := fun d : Fin 64 => z ⟨64 + d.val, _⟩ * z ⟨64 + d.val, _⟩ * headMean ⟨64 + d.val, _⟩ l)
      (fun d _ => by unfold headMean; rw [if_neg (by show ¬(64 + d.val) / 64 = _; omega), mul_zero]), add_zero]
    refine Finset.sum_congr rfl fun d _ => ?_
    have hd : (⟨l.val / 64 * 64 + d.val, by omega⟩ : Fin 128) = ⟨d.val, by omega⟩ := Fin.ext (by show l.val / 64 * 64 + d.val = d.val; omega)
    unfold headMean headOf
    rw [if_pos (by show d.val / 64 = _; omega), hd]
  · have h0 : l.val / 64 = 1 := by omega
    rw [Finset.sum_eq_zero (s := Finset.univ) (f := fun d : Fin 64 => z ⟨d.val, _⟩ * z ⟨d.val, _⟩ * headMean ⟨d.val, _⟩ l)
      (fun d _ => by unfold headMean; rw [if_neg (by show ¬d.val / 64 = _; omega), mul_zero]), zero_add]
    refine Finset.sum_congr rfl fun d _ => ?_
    have hd : (⟨l.val / 64 * 64 + d.val, by omega⟩ : Fin 128) = ⟨64 + d.val, by omega⟩ := Fin.ext (by show l.val / 64 * 64 + d.val = 64 + d.val; omega)
    unfold headMean headOf
    rw [if_pos (by show (64 + d.val) / 64 = _; omega), hd]

/-- The lane norm is the head's. -/
theorem laneNorm_eq (z : Fin 128 → EReal) (g : Fin 64 → EReal) (l : Fin 128) :
    laneNorm z (fun x => g ⟨x.val % 64, by omega⟩) headMean l = headNorm (headOf z l) g ⟨l.val % 64, by omega⟩ := by
  unfold laneNorm headNorm
  rw [mean_eq]
  have e : headOf z l ⟨l.val % 64, by omega⟩ = z l := congrArg z (Fin.ext (by show l.val / 64 * 64 + l.val % 64 = l.val; omega))
  rw [e]

/-- A lane of the same head. -/
theorem laneNorm_of_head (z : Fin 128 → EReal) (g : Fin 64 → EReal) (l x : Fin 128) (e : Fin 64) (hx : x.val = l.val / 64 * 64 + e.val) :
    laneNorm z (fun x => g ⟨x.val % 64, by omega⟩) headMean x = headNorm (headOf z l) g e := by
  rw [laneNorm_eq]
  have h1 : headOf z x = headOf z l := funext fun d => congrArg z (Fin.ext (by show x.val / 64 * 64 + d.val = l.val / 64 * 64 + d.val; omega))
  rw [h1]
  exact congrArg _ (Fin.ext (by show x.val % 64 = e.val; omega))

/-- The lane rotation is the head's: the partner never leaves the head, and the sine's sign is the subtraction's. -/
theorem laneRotated_eq (z : Fin 128 → EReal) (g a : Fin 64 → EReal) (l : Fin 128) :
    laneRotated (laneNorm z (fun x => g ⟨x.val % 64, by omega⟩) headMean) (fun x => Ideal.cos (a ⟨x.val % 64, by omega⟩))
        (fun x => if x.val % 32 < 16 then -Ideal.sin (a ⟨x.val % 64, by omega⟩) else Ideal.sin (a ⟨x.val % 64, by omega⟩)) l
      = rotated (headNorm (headOf z l) g) a ⟨l.val % 64, by omega⟩ := by
  have hl := l.isLt
  unfold laneRotated rotated
  by_cases h : l.val % 32 < 16
  · rw [dif_pos (show (l.val % 64) % 32 < 16 by omega)]
    simp only [if_pos h]
    rw [laneNorm_of_head z g l l ⟨l.val % 64, by omega⟩ (by show _ = l.val / 64 * 64 + l.val % 64; omega),
      laneNorm_of_head z g l ⟨(l.val + 16) % 128, by omega⟩ ⟨l.val % 64 + 16, by omega⟩ (by show (l.val + 16) % 128 = l.val / 64 * 64 + (l.val % 64 + 16); omega),
      mul_neg, ← sub_eq_add_neg]
  · rw [dif_neg (show ¬(l.val % 64) % 32 < 16 by omega)]
    simp only [if_neg h]
    rw [laneNorm_of_head z g l l ⟨l.val % 64, by omega⟩ (by show _ = l.val / 64 * 64 + l.val % 64; omega),
      laneNorm_of_head z g l ⟨(l.val + 112) % 128, by omega⟩ ⟨l.val % 64 - 16, by omega⟩ (by show (l.val + 112) % 128 = l.val / 64 * 64 + (l.val % 64 - 16); omega)]

end Cert.Rope

end
-- ==== Proof.ProjBody.lean ====
/- What the input projection's body computes from its blocks, at an index. -/
module

public import proofs.«01_k».proof.Proof.Gen.Kernel2Ideal.Frame
public import Idealize.ShloMosaic.Lib.Pointwise
public import Idealize.ShloMosaic.Lib.Pipeline.ValueKit
public import proofs.«01_k».proof.Proof.Rope

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic

/-- The projection of a tile: each row normed, modulated, and multiplied by the weights. -/
theorem pay2_apply (x : Vec Ideal S512x1024 .f32) (sh sc : Vec Ideal S1x1x1024 .f32) (g : Vec Ideal S1x1024 .f32) (w : Vec Ideal S1024x3840 .bf16) (r : Fin 512) (C : Fin 3840) :
    k0_pay2 x sh sc g w (ix2 r C) = Rope.proj (Rope.modulated (fun d => x (ix2 r d)) (fun d => g (ix2 0 d)) (fun d => sc (ix3 0 0 d)) (fun d => sh (ix3 0 0 d))) (fun d => w (ix2 d C)) := by
  pointwise [k0_pay2, Rope.proj, Rope.modulated]

/-- The heads' norm, 128 lanes at a time. -/
def normed (u : FVec Ideal S512x128 .f32) (g : Vec Ideal S1x128 .f32) (hm : Vec Ideal S128x128 .f32) : FVec Ideal S512x128 .f32 :=
  mulf (mulf u (rsqrt (addf (matmul (φ₂ := .f32) dot_S512x128_S128x128_S512x128_1_0_0_1_n_n none (mulf u u) (shapeCast S128x128 hm shapeCasts_S128x128_S128x128) (constant S512x128 .f32 0x00000000#32))
    (broadcast S512x128 (Scalar.ofBits (F := Ideal) .f32 0x358637BD#32))))) (broadcastTo S512x128 (shapeCast S1x128 g shapeCasts_S1x128_S1x128) broadcasts_S1x128_S512x128)

/-- The rotation, 128 lanes at a time. -/
def turned (n co si : FVec Ideal S512x128 .f32) (k : IVec S512x128 1) : FVec Ideal S512x128 .f32 :=
  addf (mulf n co) (mulf (select k (dynamicRotate 1 112#32 none n rotates_S512x128_d1) (dynamicRotate 1 16#32 none n rotates_S512x128_d1)) si)

theorem normed_apply (u : FVec Ideal S512x128 .f32) (g : Vec Ideal S1x128 .f32) (hm : Vec Ideal S128x128 .f32) (r : Fin 512) (l : Fin 128) :
    normed u g hm (ix2 r l) = Rope.laneNorm (fun x => u (ix2 r x)) (fun x => g (ix2 0 x)) (fun x y => hm (ix2 x y)) l := by
  pointwise [normed, Rope.laneNorm]

/-- The lanes whose partner is above. -/
theorem mask_apply (r : Fin 512) (l : Fin 128) : k0_pay8 (ix2 r l) = if l.val % 32 < 16 then 1#1 else 0#1 := by
  have h : ∀ l : Fin 128, k0_pay8 (ix2 (0 : Fin 512) l) = if l.val % 32 < 16 then 1#1 else 0#1 := by
    decide +kernel
  exact h l

theorem turned_apply (n co si : FVec Ideal S512x128 .f32) (r : Fin 512) (l : Fin 128) :
    turned n co si k0_pay8 (ix2 r l) = Rope.laneRotated (fun x => n (ix2 r x)) (fun x => co (ix2 r x)) (fun x => si (ix2 r x)) l := by
  have hm := mask_apply r l
  generalize k0_pay8 = k at hm
  pointwise [turned, Rope.laneRotated]
  rw [hm]
  by_cases h : l.val % 32 < 16
  · rw [if_pos h, if_pos h]
    exact congrArg (fun z => n (ix2 r l) * co (ix2 r l) + n (ix2 r z) * si (ix2 r l)) (Fin.ext (congrArg (· % 128) (by omega : l.val + 128 - 112 = l.val + 16)))
  · rw [if_neg h, if_neg h]
    exact congrArg (fun z => n (ix2 r l) * co (ix2 r l) + n (ix2 r z) * si (ix2 r l)) (Fin.ext (congrArg (· % 128) (by omega : l.val + 128 - 16 = l.val + 112)))

end Cert.Kernel2Ideal.Proj

end
-- ==== Proof.ProjOut.lean ====
/- What the input projection's body leaves in each result's block, at an index. -/
module

public import proofs.«01_k».proof.Proof.ProjBody
public import Idealize.ShloMosaic.Lib.Pipeline.CanonAppend

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic

variable (x0 : Vec Ideal S512x1024 .f32) (x1 : Vec Ideal S1x6x1024 .f32) (x2 : Vec Ideal S1x1024 .f32) (x3 : Vec Ideal S1024x3840 .bf16)
  (x4 x5 : Vec Ideal S512x128 .f32) (x6 x7 : Vec Ideal S1x128 .f32) (x8 : Vec Ideal S128x128 .f32)

/-- The projection at a tile's row and a column. -/
def zAt (r : Fin 512) (C : Fin 3840) : EReal :=
  Rope.proj (Rope.modulated (fun d => x0 (ix2 r d)) (fun d => x2 (ix2 0 d)) (fun d => x1 (ix3 0 1 d)) (fun d => x1 (ix3 0 0 d))) (fun d => x3 (ix2 d C))

theorem z_apply (r : Fin 512) (C : Fin 3840) : k0_pay23 x0 x1 x2 x3 x4 x5 x6 x7 x8 (ix2 r C) = zAt x0 x1 x2 x3 r C := by
  unfold k0_pay23
  refine (pay2_apply _ _ _ _ _ r C).trans ?_
  pointwise [zAt]

/-- The kernel's sigmoid. -/
def gateAt (y : EReal) : EReal := Ideal.ofBits .f32 0x3F000000#32 * Ideal.tanh (Ideal.ofBits .f32 0x3F000000#32 * y) + Ideal.ofBits .f32 0x3F000000#32

theorem out9_apply (r l : Fin 512) : out0_9 x0 x1 x2 x3 x4 x5 x6 x7 x8 (ix2 r l)
    = zAt x0 x1 x2 x3 r ⟨l.val, by omega⟩ * gateAt (zAt x0 x1 x2 x3 r ⟨512 + l.val, by omega⟩) := by
  unfold out0_9
  have hz : ∀ C, k0_pay2 (View.ld x0 r0_0) (View.ld x1 r0_1) (View.ld x1 r0_2) (View.ld x2 r0_3) (View.ld x3 r0_4) (ix2 r C) = zAt x0 x1 x2 x3 r C := z_apply x0 x1 x2 x3 x4 x5 x6 x7 x8 r
  unfold k0_pay3 k0_pay4
  generalize k0_pay2 (View.ld x0 r0_0) (View.ld x1 r0_1) (View.ld x1 r0_2) (View.ld x2 r0_3) (View.ld x3 r0_4) = z at hz
  frame_out
  rw [← hz, ← hz]
  pointwise [k0_pay5, gateAt]

theorem out12_apply (r : Fin 512) (l : Fin 128) : out0_12 x0 x1 x2 x3 x4 x5 x6 x7 x8 (ix2 r l) = zAt x0 x1 x2 x3 r ⟨1664 + l.val, by omega⟩ := by
  unfold out0_12
  rw [← z_apply x0 x1 x2 x3 x4 x5 x6 x7 x8]
  generalize k0_pay23 x0 x1 x2 x3 x4 x5 x6 x7 x8 = z
  frame_out
  pointwise [k0_pay19]

theorem out13_apply (r : Fin 512) (l : Fin 1024) : out0_13 x0 x1 x2 x3 x4 x5 x6 x7 x8 (ix2 r l) = gateAt (zAt x0 x1 x2 x3 r ⟨1792 + l.val, by omega⟩) := by
  unfold out0_13
  rw [← z_apply x0 x1 x2 x3 x4 x5 x6 x7 x8]
  generalize k0_pay23 x0 x1 x2 x3 x4 x5 x6 x7 x8 = z
  frame_out
  pointwise [k0_pay20, gateAt]

theorem out14_apply (r : Fin 512) (l : Fin 1024) : out0_14 x0 x1 x2 x3 x4 x5 x6 x7 x8 (ix2 r l) = gateAt (zAt x0 x1 x2 x3 r ⟨2816 + l.val, by omega⟩) := by
  unfold out0_14
  rw [← z_apply x0 x1 x2 x3 x4 x5 x6 x7 x8]
  generalize k0_pay23 x0 x1 x2 x3 x4 x5 x6 x7 x8 = z
  frame_out
  pointwise [k0_pay1, k0_pay21, k0_pay22, gateAt]

/-- Two heads of a row, normed and rotated: the 128 columns of the projection from `b` on, the gains `g`. -/
def headsAt (g : Vec Ideal S1x128 .f32) (b : ℕ) (hb : b + 128 ≤ 3840) (r : Fin 512) (l : Fin 128) : EReal :=
  Rope.laneRotated (Rope.laneNorm (fun x => zAt x0 x1 x2 x3 r ⟨b + x.val, by omega⟩) (fun x => g (ix2 0 x)) (fun x y => x8 (ix2 x y))) (fun x => x4 (ix2 r x)) (fun x => x5 (ix2 r x)) l

/-- The scale of the queries. -/
abbrev scale : EReal := Ideal.ofBits .f32 0x3E38AA3B#32

/-- A chunk of 128 columns, normed and rotated by the body. -/
theorem chunk_apply (g : Vec Ideal S1x128 .f32) (b : ℕ) (hb : b + 128 ≤ 3840) (u : FVec Ideal S512x128 .f32)
    (hu : ∀ (r : Fin 512) (x : Fin 128), u (ix2 r x) = k0_pay23 x0 x1 x2 x3 x4 x5 x6 x7 x8 (ix2 r ⟨b + x.val, by omega⟩)) (r : Fin 512) (l : Fin 128) :
    turned (normed u (View.ld g r0_7) (View.ld x8 r0_8)) (k0_pay24 x0 x1 x2 x3 x4 x5 x6 x7 x8) (k0_pay25 x0 x1 x2 x3 x4 x5 x6 x7 x8) (k0_pay26 x0 x1 x2 x3 x4 x5 x6 x7 x8) (ix2 r l)
      = headsAt x0 x1 x2 x3 x4 x5 x8 g b hb r l := by
  refine (turned_apply _ _ _ r l).trans ?_
  unfold headsAt
  have hn : (fun x => normed u (View.ld g r0_7) (View.ld x8 r0_8) (ix2 r x))
      = Rope.laneNorm (fun x => zAt x0 x1 x2 x3 r ⟨b + x.val, by omega⟩) (fun x => g (ix2 0 x)) (fun x y => x8 (ix2 x y)) := by
    funext x
    refine (normed_apply _ _ _ r x).trans ?_
    simp only [hu, z_apply]
    pointwise
  have hc : (fun x => k0_pay24 x0 x1 x2 x3 x4 x5 x6 x7 x8 (ix2 r x)) = fun x => x4 (ix2 r x) := by
    funext x
    pointwise [k0_pay24, k0_pay6]
  have hs : (fun x => k0_pay25 x0 x1 x2 x3 x4 x5 x6 x7 x8 (ix2 r x)) = fun x => x5 (ix2 r x) := by
    funext x
    pointwise [k0_pay25, k0_pay7]
  rw [hn, hc, hs]

theorem pay10_apply (r : Fin 512) (l : Fin 128) :
    k0_pay10 (k0_pay24 x0 x1 x2 x3 x4 x5 x6 x7 x8) (k0_pay25 x0 x1 x2 x3 x4 x5 x6 x7 x8) (k0_pay26 x0 x1 x2 x3 x4 x5 x6 x7 x8) (k0_pay9 (k0_pay23 x0 x1 x2 x3 x4 x5 x6 x7 x8) (View.ld x6 r0_7) (View.ld x8 r0_8)) 112#32 (ix2 r l)
      = headsAt x0 x1 x2 x3 x4 x5 x8 x6 1024 (by omega) r l * scale :=
  congrArg (· * scale) (chunk_apply x0 x1 x2 x3 x4 x5 x6 x7 x8 x6 1024 (by omega) _ (fun r x => by pointwise) r l)

theorem pay11_apply (r : Fin 512) (l : Fin 128) :
    k0_pay11 (k0_pay23 x0 x1 x2 x3 x4 x5 x6 x7 x8) (k0_pay24 x0 x1 x2 x3 x4 x5 x6 x7 x8) (k0_pay25 x0 x1 x2 x3 x4 x5 x6 x7 x8) (k0_pay26 x0 x1 x2 x3 x4 x5 x6 x7 x8) (View.ld x6 r0_7) (View.ld x8 r0_8) (ix2 r l)
      = headsAt x0 x1 x2 x3 x4 x5 x8 x6 1152 (by omega) r l * scale :=
  congrArg (· * scale) (chunk_apply x0 x1 x2 x3 x4 x5 x6 x7 x8 x6 1152 (by omega) _ (fun r x => by pointwise) r l)

theorem pay16_apply (r : Fin 512) (l : Fin 128) :
    k0_pay16 (k0_pay24 x0 x1 x2 x3 x4 x5 x6 x7 x8) (k0_pay25 x0 x1 x2 x3 x4 x5 x6 x7 x8) (k0_pay26 x0 x1 x2 x3 x4 x5 x6 x7 x8) (k0_pay12 (k0_pay23 x0 x1 x2 x3 x4 x5 x6 x7 x8)) (k0_pay13 (View.ld x6 r0_7)) (k0_pay14 (k0_pay23 x0 x1 x2 x3 x4 x5 x6 x7 x8)) (k0_pay15 (View.ld x8 r0_8)) (ix2 r l)
      = headsAt x0 x1 x2 x3 x4 x5 x8 x6 1280 (by omega) r l * scale :=
  congrArg (· * scale) (chunk_apply x0 x1 x2 x3 x4 x5 x6 x7 x8 x6 1280 (by omega) _ (fun r x => by pointwise [k0_pay12]) r l)

theorem pay17_apply (r : Fin 512) (l : Fin 128) :
    k0_pay17 (k0_pay23 x0 x1 x2 x3 x4 x5 x6 x7 x8) (k0_pay24 x0 x1 x2 x3 x4 x5 x6 x7 x8) (k0_pay25 x0 x1 x2 x3 x4 x5 x6 x7 x8) (k0_pay26 x0 x1 x2 x3 x4 x5 x6 x7 x8) (View.ld x6 r0_7) (View.ld x8 r0_8) (ix2 r l)
      = headsAt x0 x1 x2 x3 x4 x5 x8 x6 1408 (by omega) r l * scale :=
  congrArg (· * scale) (chunk_apply x0 x1 x2 x3 x4 x5 x6 x7 x8 x6 1408 (by omega) _ (fun r x => by pointwise) r l)

theorem pay18_apply (r : Fin 512) (l : Fin 128) :
    k0_pay18 (k0_pay23 x0 x1 x2 x3 x4 x5 x6 x7 x8) (k0_pay24 x0 x1 x2 x3 x4 x5 x6 x7 x8) (k0_pay25 x0 x1 x2 x3 x4 x5 x6 x7 x8) (k0_pay26 x0 x1 x2 x3 x4 x5 x6 x7 x8) (View.ld x7 r0_7) (View.ld x8 r0_8) (ix2 r l)
      = headsAt x0 x1 x2 x3 x4 x5 x8 x7 1536 (by omega) r l * Ideal.ofBits .f32 0x3F800000#32 :=
  congrArg (· * Ideal.ofBits .f32 0x3F800000#32) (chunk_apply x0 x1 x2 x3 x4 x5 x6 x7 x8 x7 1536 (by omega) _ (fun r x => by pointwise) r l)

/-- The queries' block, at a row and a column. -/
def qAt (y : S512x512.Idx) : EReal :=
  headsAt x0 x1 x2 x3 x4 x5 x8 x6 (1024 + (y 1).val / 128 * 128) (by have : (y 1).val < 512 := (y 1).isLt; omega) ⟨(y 0).val, (y 0).isLt⟩ ⟨(y 1).val % 128, by omega⟩ * scale

theorem headsAt_congr (g : Vec Ideal S1x128 .f32) {b b' : ℕ} (e : b = b') (hb : b + 128 ≤ 3840) (hb' : b' + 128 ≤ 3840) {r r' : Fin 512} (er : r = r') {l l' : Fin 128} (el : l = l') :
    headsAt x0 x1 x2 x3 x4 x5 x8 g b hb r l = headsAt x0 x1 x2 x3 x4 x5 x8 g b' hb' r' l' := by
  subst e er el; rfl

/-- A piece of the queries' block: the chunk `j`'s 128 columns. -/
theorem qPiece (j : Fin 4) (inb : ∀ a, ![0, 128 * j.val] a + S512x128.size a ≤ S512x512.size a) (p : Vec Ideal S512x128 .bf16)
    (hp : ∀ (r : Fin 512) (l : Fin 128), p (ix2 r l) = headsAt x0 x1 x2 x3 x4 x5 x8 x6 (1024 + 128 * j.val) (by omega) r l * scale) (x : S512x128.Idx) :
    p x = qAt x0 x1 x2 x3 x4 x5 x6 x8 ((Rect.unit (s := S512x512) ![0, 128 * j.val] S512x128.size inb).idx x) := by
  have h0 : (x 0).val < 512 := (x 0).isLt
  have h1 : (x 1).val < 128 := (x 1).isLt
  have e0 := Rect.idx_unit_val (s := S512x512) ![0, 128 * j.val] S512x128.size inb x 0
  have e1 := Rect.idx_unit_val (s := S512x512) ![0, 128 * j.val] S512x128.size inb x 1
  replace e0 : (((Rect.unit (s := S512x512) ![0, 128 * j.val] S512x128.size inb).idx x) 0).val = 0 + (x 0).val := e0
  replace e1 : (((Rect.unit (s := S512x512) ![0, 128 * j.val] S512x128.size inb).idx x) 1).val = 128 * j.val + (x 1).val := e1
  refine (congrArg p (eq_ix2 x)).trans ((hp ⟨(x 0).val, h0⟩ ⟨(x 1).val, h1⟩).trans ?_)
  unfold qAt
  exact congrArg (· * scale) (headsAt_congr x0 x1 x2 x3 x4 x5 x8 x6 (by rw [e1]; omega) _ _ (Fin.ext (by rw [e0]; exact (Nat.zero_add _).symm)) (Fin.ext (by show (x 1).val = _ % 128; rw [e1]; omega)))

theorem out10_apply (y : S512x512.Idx) : out0_10 x0 x1 x2 x3 x4 x5 x6 x7 x8 y = qAt x0 x1 x2 x3 x4 x5 x6 x8 y := by
  unfold out0_10
  have hc := cover0_10 (F := Ideal) (k0_pay17 (k0_pay23 x0 x1 x2 x3 x4 x5 x6 x7 x8) (k0_pay24 x0 x1 x2 x3 x4 x5 x6 x7 x8) (k0_pay25 x0 x1 x2 x3 x4 x5 x6 x7 x8) (k0_pay26 x0 x1 x2 x3 x4 x5 x6 x7 x8) (View.ld x6 r0_7) (View.ld x8 r0_8))
    (k0_pay16 (k0_pay24 x0 x1 x2 x3 x4 x5 x6 x7 x8) (k0_pay25 x0 x1 x2 x3 x4 x5 x6 x7 x8) (k0_pay26 x0 x1 x2 x3 x4 x5 x6 x7 x8) (k0_pay12 (k0_pay23 x0 x1 x2 x3 x4 x5 x6 x7 x8)) (k0_pay13 (View.ld x6 r0_7)) (k0_pay14 (k0_pay23 x0 x1 x2 x3 x4 x5 x6 x7 x8)) (k0_pay15 (View.ld x8 r0_8)))
    (k0_pay11 (k0_pay23 x0 x1 x2 x3 x4 x5 x6 x7 x8) (k0_pay24 x0 x1 x2 x3 x4 x5 x6 x7 x8) (k0_pay25 x0 x1 x2 x3 x4 x5 x6 x7 x8) (k0_pay26 x0 x1 x2 x3 x4 x5 x6 x7 x8) (View.ld x6 r0_7) (View.ld x8 r0_8))
    (k0_pay10 (k0_pay24 x0 x1 x2 x3 x4 x5 x6 x7 x8) (k0_pay25 x0 x1 x2 x3 x4 x5 x6 x7 x8) (k0_pay26 x0 x1 x2 x3 x4 x5 x6 x7 x8) (k0_pay9 (k0_pay23 x0 x1 x2 x3 x4 x5 x6 x7 x8) (View.ld x6 r0_7) (View.ld x8 r0_8)) 112#32) y
  rw [← List.append_nil (List.cons _ _)]
  refine View.canon_append_of_pieces (Val := Elt Ideal) (e := .bf16) (qAt x0 x1 x2 x3 x4 x5 x6 x8) [] _ ?_ y hc
  intro p hp
  simp only [List.mem_cons, List.not_mem_nil, or_false] at hp
  obtain rfl | rfl | rfl | rfl := hp
  · exact qPiece x0 x1 x2 x3 x4 x5 x6 x8 3 inb_S512x512_S512x128_0_384 _ (pay17_apply x0 x1 x2 x3 x4 x5 x6 x7 x8)
  · exact qPiece x0 x1 x2 x3 x4 x5 x6 x8 2 inb_S512x512_S512x128_0_256 _ (pay16_apply x0 x1 x2 x3 x4 x5 x6 x7 x8)
  · exact qPiece x0 x1 x2 x3 x4 x5 x6 x8 1 inb_S512x512_S512x128_0_128 _ (pay11_apply x0 x1 x2 x3 x4 x5 x6 x7 x8)
  · exact qPiece x0 x1 x2 x3 x4 x5 x6 x8 0 inb_S512x512_S512x128_0_0 _ (pay10_apply x0 x1 x2 x3 x4 x5 x6 x7 x8)

theorem out11_apply (r : Fin 512) (l : Fin 128) : out0_11 x0 x1 x2 x3 x4 x5 x6 x7 x8 (ix2 r l) = headsAt x0 x1 x2 x3 x4 x5 x8 x7 1536 (by omega) r l := by
  have h := pay18_apply x0 x1 x2 x3 x4 x5 x6 x7 x8 r l
  unfold out0_11
  generalize k0_pay18 (k0_pay23 x0 x1 x2 x3 x4 x5 x6 x7 x8) (k0_pay24 x0 x1 x2 x3 x4 x5 x6 x7 x8) (k0_pay25 x0 x1 x2 x3 x4 x5 x6 x7 x8) (k0_pay26 x0 x1 x2 x3 x4 x5 x6 x7 x8) (View.ld x7 r0_7) (View.ld x8 r0_8) = p at h ⊢
  frame_out
  rw [h]
  pointwise

end Cert.Kernel2Ideal.Proj

end
-- ==== Proof.ProjArrays.lean ====
/- What the input projection's arrays hold: each operand's block at a grid point, by the arguments as launched. -/
module

public import proofs.«01_k».proof.Proof.ProjOut

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- The arguments as launched. -/
abbrev xA : Vec Ideal S16x2048x1024 .f32 := m ((c : Thread nD τ).loc main_arg0)
abbrev aA : Vec Ideal S16x6144 .f32 := m ((c : Thread nD τ).loc main_arg1)
abbrev gA : Vec Ideal S1024 .f32 := m ((c : Thread nD τ).loc main_arg2)
abbrev wA : Vec Ideal S1024x3840 .f32 := m ((c : Thread nD τ).loc main_arg3)
abbrev qgA : Vec Ideal S64 .f32 := m ((c : Thread nD τ).loc main_arg4)
abbrev kgA : Vec Ideal S64 .f32 := m ((c : Thread nD τ).loc main_arg5)

theorem entry_x (R : Fin 32768) (d : Fin 1024) : V m c main_v53 (ix2 R d) = xA m c (ix3 ⟨R.val / 2048, by omega⟩ ⟨R.val % 2048, by omega⟩ d) := by
  simp only [V, hostOps0, hostOps0_1, hostOps0_2, hostOps0_3, hostOps0_4, hostOps0_5, hostOps0_6, List.flatten_cons, List.flatten_nil, List.append_nil, List.cons_append, List.nil_append]
  entry_read
  pointwise

theorem entry_a (a : Fin 16) (k : Fin 6) (d : Fin 1024) : V m c main_v54 (ix3 a k d) = aA m c (ix2 a ⟨k.val * 1024 + d.val, by omega⟩) := by
  simp only [V, hostOps0, hostOps0_1, hostOps0_2, hostOps0_3, hostOps0_4, hostOps0_5, hostOps0_6, List.flatten_cons, List.flatten_nil, List.append_nil, List.cons_append, List.nil_append]
  entry_read
  pointwise

theorem entry_g (d : Fin 1024) : V m c main_v55 (ix2 0 d) = gA m c (ix1 d) := by
  simp only [V, hostOps0, hostOps0_1, hostOps0_2, hostOps0_3, hostOps0_4, hostOps0_5, hostOps0_6, List.flatten_cons, List.flatten_nil, List.append_nil, List.cons_append, List.nil_append]
  entry_read
  pointwise

theorem entry_w (d : Fin 1024) (C : Fin 3840) : V m c main_v56 (ix2 d C) = wA m c (ix2 d C) := by
  simp only [V, hostOps0, hostOps0_1, hostOps0_2, hostOps0_3, hostOps0_4, hostOps0_5, hostOps0_6, List.flatten_cons, List.flatten_nil, List.append_nil, List.cons_append, List.nil_append]
  entry_read
  pointwise

theorem entry_qg (l : Fin 128) : V m c main_v60 (ix2 0 l) = qgA m c (ix1 ⟨l.val % 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

theorem entry_kg (l : Fin 128) : V m c main_v64 (ix2 0 l) = kgA m c (ix1 ⟨l.val % 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

end Cert.Kernel2Ideal.Proj

end
-- ==== Proof.ProjTables.lean ====
/- The input projection's tables: the cosines, the sines and the matrix of means, as the host prepares them. -/
module

public import proofs.«01_k».proof.Proof.ProjOut
public import Idealize.ShloMosaic.Lib.StableHlo.ReadAt
public import Idealize.ShloMosaic.Lib.StableHlo.ReadAt

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic

variable (σ : Valuation τ sig (Elt Ideal))

/-- The contents of the buffers that the tables are made of, at their types. -/
abbrev w0 : IVec S2048 32 := σ (Proc.devRef .tc main_v0)
abbrev wc : IVec S_ 32 := σ (Proc.devRef .tc main_c)
abbrev w1 : IVec S2048 32 := σ (Proc.devRef .tc main_v1)
abbrev wc0 : IVec S_ 32 := σ (Proc.devRef .tc main_c_0)
abbrev f2 : Vec Ideal S2048 .f32 := σ (Proc.devRef .tc main_v2)
abbrev w3 : IVec S2048 32 := σ (Proc.devRef .tc main_v3)
abbrev w43 : IVec S128 32 := σ (Proc.devRef .tc main_v43)
abbrev wc4 : IVec S_ 32 := σ (Proc.devRef .tc main_c_4)
abbrev w44 : IVec S128 32 := σ (Proc.devRef .tc main_v44)

/-- A row's integer quotient by 64, as the host computes it. -/
theorem quot_apply (s : Fin 2048) (h0 : w0 σ (ix1 s) = BitVec.ofNat 32 s.val) (hc : wc σ ix0 = 64#32) :
    w1 (StableHlo.after (hostOps0_1 (F := Ideal)) σ) (ix1 s) = BitVec.ofNat 32 (s.val / 64) := by
  unfold w0 at h0
  unfold wc at hc
  unfold w1
  after_reads_at
  simp only [id, h0, hc]
  clear h0 hc
  revert s
  decide +kernel

/-- A row's remainder by 64, as the host computes it. -/
theorem rem_apply (s : Fin 2048) (h0 : w0 σ (ix1 s) = BitVec.ofNat 32 s.val) (hc : wc0 σ ix0 = 64#32) :
    w3 (StableHlo.after (hostOps0_3 (F := Ideal)) σ) (ix1 s) = BitVec.ofNat 32 (s.val % 64) := by
  unfold w0 at h0
  unfold wc0 at hc
  unfold w3
  after_reads_at
  simp only [id, h0, hc]
  clear h0 hc
  revert s
  decide +kernel

/-- A lane's head, as the host computes it. -/
theorem lane_apply (s : Fin 128) (h0 : w43 σ (ix1 s) = BitVec.ofNat 32 s.val) (hc : wc4 σ ix0 = 64#32) :
    w44 (StableHlo.after (hostOps0_5 (F := Ideal)) σ) (ix1 s) = BitVec.ofNat 32 (s.val / 64) := by
  unfold w43 at h0
  unfold wc4 at hc
  unfold w44
  after_reads_at
  simp only [id, h0, hc]
  clear h0 hc
  revert s
  decide +kernel

theorem eq_bit : ∀ x l : Fin 128, IntOp.cmpi .eq (BitVec.ofNat 32 (x.val / 64)) (BitVec.ofNat 32 (l.val / 64)) = if x.val / 64 = l.val / 64 then 1#1 else 0#1 := by
  decide +kernel

theorem mean_apply (x l : Fin 128) (h : ∀ i, w44 σ (ix1 i) = BitVec.ofNat 32 (i.val / 64)) :
    (StableHlo.after (hostOps0_6 (F := Ideal)) σ (Proc.devRef .tc main_v52) : Vec Ideal S128x128 .f32) (ix2 x l) = Rope.headMean x l := by
  unfold w44 at h
  after_reads_at
  rw [h x, h l, eq_bit, Rope.c64_eq, Ideal.div_coe (by norm_num)]
  unfold Rope.headMean
  split
  · show ((1 : ℕ) : EReal) * _ = _
    simp
  · show ((0 : ℕ) : EReal) * _ = _
    simp

theorem cos_apply (s : Fin 2048) (l : Fin 128) (hq : f2 σ (ix1 s) = FloatOps.sitofp (F := Ideal) .f32 (BitVec.ofNat 32 (s.val / 64))) (hr : w3 σ (ix1 s) = BitVec.ofNat 32 (s.val % 64)) :
    (StableHlo.after (hostOps0_4 (F := Ideal)) σ (Proc.devRef .tc main_v39) : Vec Ideal S2048x128 .f32) (ix2 s l) = Ideal.cos (Rope.angle s ⟨l.val % 64, by omega⟩) := by
  unfold f2 at hq
  unfold w3 at hr
  after_reads_at
  split_ifs
  all_goals simp only [StableHlo.upto]
  all_goals after_reads_at
  all_goals first | rw [hq] | rw [hr]
  all_goals first
    | exact congrArg Ideal.cos (Rope.angle_row s (l.val % 64) (by omega) (by omega) _ (by omega)).symm
    | exact congrArg Ideal.cos (Rope.angle_col s (l.val % 64) (by omega) (by omega) _ (by omega)).symm

theorem sin_apply (s : Fin 2048) (l : Fin 128) (hq : f2 σ (ix1 s) = FloatOps.sitofp (F := Ideal) .f32 (BitVec.ofNat 32 (s.val / 64))) (hr : w3 σ (ix1 s) = BitVec.ofNat 32 (s.val % 64)) :
    (StableHlo.after (hostOps0_4 (F := Ideal)) σ (Proc.devRef .tc main_v42) : Vec Ideal S2048x128 .f32) (ix2 s l)
      = if l.val % 32 < 16 then -Ideal.sin (Rope.angle s ⟨l.val % 64, by omega⟩) else Ideal.sin (Rope.angle s ⟨l.val % 64, by omega⟩) := by
  unfold f2 at hq
  unfold w3 at hr
  after_reads_at
  split_ifs
  all_goals simp only [StableHlo.upto]
  all_goals after_reads_at
  all_goals first | rw [hq] | rw [hr]
  all_goals first
    | (exfalso; omega)
    | (have hl : l.val % 32 < 16 := by omega
       rw [if_pos hl])
    | (have hl : ¬ l.val % 32 < 16 := by omega
       rw [if_neg hl])
    | (exfalso; omega)
    | skip
  all_goals first
    | exact congrArg Ideal.sin (Rope.angle_row s (l.val % 64) (by omega) (by omega) _ (by omega)).symm
    | exact congrArg Ideal.sin (Rope.angle_col s (l.val % 64) (by omega) (by omega) _ (by omega)).symm
    | exact congrArg Neg.neg (congrArg Ideal.sin (Rope.angle_row s (l.val % 64) (by omega) (by omega) _ (by omega)).symm)
    | exact congrArg Neg.neg (congrArg Ideal.sin (Rope.angle_col s (l.val % 64) (by omega) (by omega) _ (by omega)).symm)

theorem row_float (s : Fin 2048) (h : w1 σ (ix1 s) = BitVec.ofNat 32 (s.val / 64)) :
    f2 (StableHlo.after (hostOps0_3 (F := Ideal)) (StableHlo.after (hostOps0_2 (F := Ideal)) σ)) (ix1 s) = FloatOps.sitofp (F := Ideal) .f32 (BitVec.ofNat 32 (s.val / 64)) := by
  unfold w1 at h
  unfold f2
  after_reads_at
  rw [h]

/-- The operations after the tables leave them. -/
theorem keep_cos : StableHlo.after (hostOps0_6 (F := Ideal)) (StableHlo.after (hostOps0_5 (F := Ideal)) σ) (Proc.devRef .tc main_v39) = σ (Proc.devRef .tc main_v39) := by
  after_reads_simp

theorem keep_sin : StableHlo.after (hostOps0_6 (F := Ideal)) (StableHlo.after (hostOps0_5 (F := Ideal)) σ) (Proc.devRef .tc main_v42) = σ (Proc.devRef .tc main_v42) := by
  after_reads_simp

section

variable (m : (ℓ : Loc nD τ sig) → Buf (Elt Ideal) ℓ) (c : Dev nD)

/-- The contents before the two tables are made: the rows' and the columns' numbers are there. -/
def before4 : Valuation τ sig (Elt Ideal) := StableHlo.after (hostOps0_3 (F := Ideal)) (StableHlo.after (hostOps0_2 (F := Ideal)) (StableHlo.after (hostOps0_1 (F := Ideal)) (StableHlo.after (hostOps0 (F := Ideal)) (fun b => m (c, b)))))

theorem staged (b : Ref sig .tc) : V m c b = StableHlo.after (hostOps0_6 (F := Ideal)) (StableHlo.after (hostOps0_5 (F := Ideal)) (StableHlo.after (hostOps0_4 (F := Ideal)) (before4 m c))) (Proc.devRef .tc b) := by
  unfold V before4
  simp only [List.flatten_cons, List.flatten_nil, List.append_nil, StableHlo.after_append]

theorem row_number (s : Fin 2048) : f2 (before4 m c) (ix1 s) = FloatOps.sitofp (F := Ideal) .f32 (BitVec.ofNat 32 (s.val / 64)) :=
  row_float _ s (quot_apply _ s (by unfold w0; after_reads_at) (by unfold wc; after_reads_at))

theorem col_number (s : Fin 2048) : w3 (before4 m c) (ix1 s) = BitVec.ofNat 32 (s.val % 64) :=
  rem_apply _ s (by unfold w0; after_reads_at) (by unfold wc0; after_reads_at)

theorem entry_cos (s : Fin 2048) (l : Fin 128) : V m c main_v39 (ix2 s l) = Ideal.cos (Rope.angle s ⟨l.val % 64, by omega⟩) :=
  (congrFun ((staged m c main_v39).trans (keep_cos _)) (ix2 s l)).trans (cos_apply (before4 m c) s l (row_number m c s) (col_number m c s))

theorem entry_sin (s : Fin 2048) (l : Fin 128) :
    V m c main_v42 (ix2 s l) = if l.val % 32 < 16 then -Ideal.sin (Rope.angle s ⟨l.val % 64, by omega⟩) else Ideal.sin (Rope.angle s ⟨l.val % 64, by omega⟩) :=
  (congrFun ((staged m c main_v42).trans (keep_sin _)) (ix2 s l)).trans (sin_apply (before4 m c) s l (row_number m c s) (col_number m c s))

theorem entry_hm (x l : Fin 128) : V m c main_v52 (ix2 x l) = Rope.headMean x l := by
  rw [staged]
  generalize before4 m c = σ
  exact mean_apply _ x l fun i => lane_apply _ i (by unfold w43; after_reads_at) (by unfold wc4; after_reads_at)

end

end Cert.Kernel2Ideal.Proj

end
-- ==== Proof.ProjBlocks.lean ====
/- The input projection's blocks at a grid point, by the arguments as launched, and what the body leaves there. -/
module

public import proofs.«01_k».proof.Proof.ProjArrays
public import proofs.«01_k».proof.Proof.ProjTables

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.Sem

/-- A row of the projection: the row's inputs normed and modulated, times a column of the weights. -/
def zOf (x : Vec Ideal S16x2048x1024 .f32) (a : Vec Ideal S16x6144 .f32) (g : Vec Ideal S1024 .f32) (w : Vec Ideal S1024x3840 .f32) (R : Fin 32768) (C : Fin 3840) : EReal :=
  Rope.proj (Rope.modulated (fun d => x (ix3 ⟨R.val / 2048, by omega⟩ ⟨R.val % 2048, by omega⟩ d)) (fun d => g (ix1 d)) (fun d => a (ix2 ⟨R.val / 2048, by omega⟩ ⟨1024 + d.val, by omega⟩))
    (fun d => a (ix2 ⟨R.val / 2048, by omega⟩ ⟨d.val, by omega⟩))) (fun d => w (ix2 d C))

/-- A head of a row, its lanes the 64 columns of `z` from `b`: normed, and rotated by the token's place. -/
def headsOf (z : Fin 32768 → Fin 3840 → EReal) (g : Vec Ideal S64 .f32) (b : ℕ) (hb : b + 64 ≤ 3840) (R : Fin 32768) (e : Fin 64) : EReal :=
  Rope.rotated (Rope.headNorm (fun d => z R ⟨b + d.val, by omega⟩) (fun d => g (ix1 d))) (Rope.angle ⟨R.val % 2048, by omega⟩) e

theorem headsOf_congr (z : Fin 32768 → Fin 3840 → EReal) (g : Vec Ideal S64 .f32) {b b' : ℕ} (e : b = b') (hb : b + 64 ≤ 3840) (hb' : b' + 64 ≤ 3840) (R : Fin 32768) {l l' : Fin 64} (el : l = l') :
    headsOf z g b hb R l = headsOf z g b' hb' R l' := by
  subst e el; rfl

variable (m : (ℓ : Loc nD τ sig) → Buf (Elt Ideal) ℓ) (c : Dev nD)

/-- Each window's block at a point: the tile's rows, the sequence's modulation, the tile's place in its sequence, or the whole array. -/
theorem idx : ∀ t : Fin cfg0.N, win0_0.index t = ![t.val, 0] ∧ win0_1.index t = ![t.val / 4, 0, 0] ∧ win0_2.index t = ![0, 0]
    ∧ win0_3.index t = ![0, 0] ∧ win0_4.index t = ![t.val % 4, 0] ∧ win0_5.index t = ![t.val % 4, 0] ∧ win0_6.index t = ![0, 0] ∧ win0_7.index t = ![0, 0]
    ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

theorem lt64 (t : Fin cfg0.N) : t.val < 64 := t.isLt

/-- Row `r` of tile `t`. -/
abbrev rowOf (t : Fin cfg0.N) (r : Fin 512) : Fin 32768 := ⟨t.val * 512 + r.val, by have := lt64 t; omega⟩

theorem blk_x (t : Fin cfg0.N) (r : Fin 512) (d : Fin 1024) :
    iblk m c 0 t (ix2 r d) = xA m c (ix3 ⟨(rowOf t r).val / 2048, by omega⟩ ⟨(rowOf t r).val % 2048, by omega⟩ d) :=
  (show iblk m c 0 t (ix2 r d) = V m c main_v53 (ix2 (rowOf t r) d) by blk_ext [iblk, idx t]).trans (entry_x m c _ d)

theorem blk_a (t : Fin cfg0.N) (k : Fin 6) (d : Fin 1024) : iblk m c 1 t (ix3 0 k d) = aA m c (ix2 ⟨t.val / 4, by have := lt64 t; omega⟩ ⟨k.val * 1024 + d.val, by omega⟩) :=
  (show iblk m c 1 t (ix3 0 k d) = V m c main_v54 (ix3 ⟨t.val / 4, by have := lt64 t; omega⟩ k d) by blk_ext [iblk, idx t]).trans (entry_a m c _ k d)

theorem blk_g (t : Fin cfg0.N) (d : Fin 1024) : iblk m c 2 t (ix2 0 d) = gA m c (ix1 d) :=
  (show iblk m c 2 t (ix2 0 d) = V m c main_v55 (ix2 0 d) by blk_ext [iblk, idx t]).trans (entry_g m c d)

theorem blk_w (t : Fin cfg0.N) (d : Fin 1024) (C : Fin 3840) : iblk m c 3 t (ix2 d C) = wA m c (ix2 d C) :=
  (show iblk m c 3 t (ix2 d C) = V m c main_v56 (ix2 d C) by blk_ext [iblk, idx t]).trans (entry_w m c d C)

theorem blk_cos (t : Fin cfg0.N) (r : Fin 512) (l : Fin 128) : iblk m c 4 t (ix2 r l) = Ideal.cos (Rope.angle ⟨t.val % 4 * 512 + r.val, by omega⟩ ⟨l.val % 64, by omega⟩) :=
  (show iblk m c 4 t (ix2 r l) = V m c main_v39 (ix2 ⟨t.val % 4 * 512 + r.val, by omega⟩ l) by blk_ext [iblk, idx t]).trans (entry_cos m c _ l)

theorem blk_sin (t : Fin cfg0.N) (r : Fin 512) (l : Fin 128) :
    iblk m c 5 t (ix2 r l) = if l.val % 32 < 16 then -Ideal.sin (Rope.angle ⟨t.val % 4 * 512 + r.val, by omega⟩ ⟨l.val % 64, by omega⟩) else Ideal.sin (Rope.angle ⟨t.val % 4 * 512 + r.val, by omega⟩ ⟨l.val % 64, by omega⟩) :=
  (show iblk m c 5 t (ix2 r l) = V m c main_v42 (ix2 ⟨t.val % 4 * 512 + r.val, by omega⟩ l) by blk_ext [iblk, idx t]).trans (entry_sin m c _ l)

theorem blk_qg (t : Fin cfg0.N) (l : Fin 128) : iblk m c 6 t (ix2 0 l) = qgA m c (ix1 ⟨l.val % 64, by omega⟩) :=
  (show iblk m c 6 t (ix2 0 l) = V m c main_v60 (ix2 0 l) by blk_ext [iblk, idx t]).trans (entry_qg m c l)

theorem blk_kg (t : Fin cfg0.N) (l : Fin 128) : iblk m c 7 t (ix2 0 l) = kgA m c (ix1 ⟨l.val % 64, by omega⟩) :=
  (show iblk m c 7 t (ix2 0 l) = V m c main_v64 (ix2 0 l) by blk_ext [iblk, idx t]).trans (entry_kg m c l)

theorem blk_hm (t : Fin cfg0.N) (x l : Fin 128) : iblk m c 8 t (ix2 x l) = Rope.headMean x l :=
  (show iblk m c 8 t (ix2 x l) = V m c main_v52 (ix2 x l) by blk_ext [iblk, idx t]).trans (entry_hm m c x l)

/-- The projection of the arguments as launched. -/
abbrev zM : Fin 32768 → Fin 3840 → EReal := zOf (xA m c) (aA m c) (gA m c) (wA m c)

theorem z_blk (t : Fin cfg0.N) (r : Fin 512) (C : Fin 3840) : zAt (iblk m c 0 t) (iblk m c 1 t) (iblk m c 2 t) (iblk m c 3 t) r C = zM m c (rowOf t r) C := by
  have ht := lt64 t
  have e : (rowOf t r).val / 2048 = t.val / 4 := by show (t.val * 512 + r.val) / 2048 = t.val / 4; omega
  unfold zAt zM zOf
  rw [funext (blk_x m c t r), funext (blk_g m c t), funext (blk_a m c t 0), funext (blk_a m c t 1), funext fun d => blk_w m c t d C]
  refine congrArg (fun y => Rope.proj y _) (congrArg₂ (Rope.modulated _ _) (funext fun d => ?_) (funext fun d => ?_))
  · exact congrArg (aA m c) (congrArg₂ ix2 (Fin.ext e.symm) (Fin.ext rfl))
  · exact congrArg (aA m c) (congrArg₂ ix2 (Fin.ext e.symm) (Fin.ext (by show 0 * 1024 + d.val = d.val; omega)))

/-- A chunk of two heads at a point. -/
theorem heads_blk (t : Fin cfg0.N) (x6 : Vec Ideal S1x128 .f32) (g : Vec Ideal S64 .f32) (hg : ∀ l : Fin 128, x6 (ix2 0 l) = g (ix1 ⟨l.val % 64, by omega⟩)) (b : ℕ) (hb : b + 128 ≤ 3840) (r : Fin 512) (l : Fin 128) :
    headsAt (iblk m c 0 t) (iblk m c 1 t) (iblk m c 2 t) (iblk m c 3 t) (iblk m c 4 t) (iblk m c 5 t) (iblk m c 8 t) x6 b hb r l
      = headsOf (zM m c) g (b + l.val / 64 * 64) (by omega) (rowOf t r) ⟨l.val % 64, by omega⟩ := by
  have ht := lt64 t
  have e : (⟨(rowOf t r).val % 2048, by omega⟩ : Fin 2048) = ⟨t.val % 4 * 512 + r.val, by omega⟩ := Fin.ext (by show (t.val * 512 + r.val) % 2048 = t.val % 4 * 512 + r.val; omega)
  unfold headsAt headsOf
  rw [e, funext fun x : Fin 128 => z_blk m c t r ⟨b + x.val, by omega⟩, funext hg, funext (fun x => funext (blk_hm m c t x)), funext (blk_cos m c t r), funext (blk_sin m c t r)]
  refine (Rope.laneRotated_eq _ (fun d => g (ix1 d)) (Rope.angle ⟨t.val % 4 * 512 + r.val, by omega⟩) l).trans ?_
  refine congrArg (fun y => Rope.rotated (Rope.headNorm y _) _ _) (funext fun d => ?_)
  exact congrArg (zM m c (rowOf t r)) (Fin.ext (Nat.add_assoc b _ _).symm)

end Cert.Kernel2Ideal.Proj

end
-- ==== Proof.ProjResults.lean ====
/- What the input projection's results hold after the run, by the arguments as launched. -/
module

public import proofs.«01_k».proof.Proof.ProjBlocks

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.Sem

variable (m : (ℓ : Loc nD τ sig) → Buf (Elt Ideal) ℓ) (c : Dev nD)

theorem idx9 (t : Fin cfg0.N) : win0_9.index t = ![t.val, 0] := (idx t).2.2.2.2.2.2.2.2.2.1
theorem idx10 (t : Fin cfg0.N) : win0_10.index t = ![t.val, 0] := (idx t).2.2.2.2.2.2.2.2.2.2.1
theorem idx11 (t : Fin cfg0.N) : win0_11.index t = ![t.val, 0] := (idx t).2.2.2.2.2.2.2.2.2.2.2.1
theorem idx12 (t : Fin cfg0.N) : win0_12.index t = ![t.val, 0] := (idx t).2.2.2.2.2.2.2.2.2.2.2.2.1
theorem idx13 (t : Fin cfg0.N) : win0_13.index t = ![t.val, 0] := (idx t).2.2.2.2.2.2.2.2.2.2.2.2.2.1
theorem idx14 (t : Fin cfg0.N) : win0_14.index t = ![t.val, 0] := (idx t).2.2.2.2.2.2.2.2.2.2.2.2.2.2

/-- A function of row and lane at a tile's place, by its coordinates. -/
theorem at_tile {n : ℕ} (f : Fin 32768 → Fin n → EReal) (t : Fin cfg0.N) (r : Fin 512) (l : Fin n) (a b : ℕ) (ha : a < 32768) (hb : b < n) (p : Fin 2 → ℕ) (hp : p = ![t.val, 0])
    (ea : a = p 0 * 512 + r.val) (eb : b = p 1 * n + l.val) : f (rowOf t r) l = f ⟨a, ha⟩ ⟨b, hb⟩ := by
  subst hp
  exact congrArg₂ f (Fin.ext ea.symm) (Fin.ext ((Nat.zero_add _).symm.trans ((congrArg (· + l.val) (Nat.zero_mul n).symm).trans eb.symm)))

/-- The results, by the projection `z`. -/
def gluOf (z : Fin 32768 → Fin 3840 → EReal) (R : Fin 32768) (l : Fin 512) : EReal := z R ⟨l.val, by omega⟩ * gateAt (z R ⟨512 + l.val, by omega⟩)
def qOf (z : Fin 32768 → Fin 3840 → EReal) (g : Vec Ideal S64 .f32) (R : Fin 32768) (l : Fin 512) : EReal :=
  headsOf z g (1024 + l.val / 64 * 64) (by omega) R ⟨l.val % 64, by omega⟩ * scale
def kOf (z : Fin 32768 → Fin 3840 → EReal) (g : Vec Ideal S64 .f32) (R : Fin 32768) (l : Fin 128) : EReal :=
  headsOf z g (1536 + l.val / 64 * 64) (by omega) R ⟨l.val % 64, by omega⟩
def vOf (z : Fin 32768 → Fin 3840 → EReal) (R : Fin 32768) (l : Fin 128) : EReal := z R ⟨1664 + l.val, by omega⟩
def sgcOf (z : Fin 32768 → Fin 3840 → EReal) (R : Fin 32768) (l : Fin 1024) : EReal := gateAt (z R ⟨1792 + l.val, by omega⟩)
def sgaOf (z : Fin 32768 → Fin 3840 → EReal) (R : Fin 32768) (l : Fin 1024) : EReal := gateAt (z R ⟨2816 + l.val, by omega⟩)

/-- Result 0 after the run: the gated linear unit. -/
theorem arr_glu : (dats m 0 c).arrAt 9 (cfgs 0).N = fun i : S32768x512.Idx => gluOf (zM m c) ⟨(i 0).val, (i 0).isLt⟩ ⟨(i 1).val, (i 1).isLt⟩ := by
  refine (dats m 0 c).arrAt_eq_of_covers 9 _ (by decide +kernel) fun t hf y => ?_
  obtain ⟨r, l, rfl⟩ : ∃ (r l : Fin 512), y = ix2 r l := ⟨⟨(y 0).val, (y 0).isLt⟩, ⟨(y 1).val, (y 1).isLt⟩, eq_ix2 y⟩
  blk_simp
  rw [after0_9]
  refine (out9_apply _ _ _ _ _ _ _ _ _ r l).trans ?_
  rw [z_blk, z_blk]
  exact at_tile (gluOf (zM m c)) t r l _ _ _ _ _ (idx9 t) rfl rfl

/-- Result 1 after the run: the queries. -/
theorem arr_q : (dats m 0 c).arrAt 10 (cfgs 0).N = fun i : S32768x512.Idx => qOf (zM m c) (qgA m c) ⟨(i 0).val, (i 0).isLt⟩ ⟨(i 1).val, (i 1).isLt⟩ := by
  refine (dats m 0 c).arrAt_eq_of_covers 10 _ (by decide +kernel) fun t hf y => ?_
  obtain ⟨r, l, rfl⟩ : ∃ (r l : Fin 512), y = ix2 r l := ⟨⟨(y 0).val, (y 0).isLt⟩, ⟨(y 1).val, (y 1).isLt⟩, eq_ix2 y⟩
  blk_simp
  rw [after0_10]
  refine (out10_apply _ _ _ _ _ _ _ _ _ _).trans ?_
  have e : headsAt (iblk m c 0 t) (iblk m c 1 t) (iblk m c 2 t) (iblk m c 3 t) (iblk m c 4 t) (iblk m c 5 t) (iblk m c 8 t) (iblk m c 6 t) (1024 + l.val / 128 * 128) (by omega) r ⟨l.val % 128, by omega⟩
      = headsOf (zM m c) (qgA m c) (1024 + l.val / 64 * 64) (by omega) (rowOf t r) ⟨l.val % 64, by omega⟩ :=
    (heads_blk m c t _ _ (blk_qg m c t) _ _ r _).trans
      (headsOf_congr _ _ (by show 1024 + l.val / 128 * 128 + l.val % 128 / 64 * 64 = 1024 + l.val / 64 * 64; omega) _ _ _ (Fin.ext (by show l.val % 128 % 64 = l.val % 64; omega)))
  refine (congrArg (· * scale) e).trans ?_
  exact at_tile (qOf (zM m c) (qgA m c)) t r l _ _ _ _ _ (idx10 t) rfl rfl

/-- Result 2 after the run: the keys. -/
theorem arr_k : (dats m 0 c).arrAt 11 (cfgs 0).N = fun i : S32768x128.Idx => kOf (zM m c) (kgA m c) ⟨(i 0).val, (i 0).isLt⟩ ⟨(i 1).val, (i 1).isLt⟩ := by
  refine (dats m 0 c).arrAt_eq_of_covers 11 _ (by decide +kernel) fun t hf y => ?_
  obtain ⟨r, l, rfl⟩ : ∃ (r : Fin 512) (l : Fin 128), y = ix2 r l := ⟨⟨(y 0).val, (y 0).isLt⟩, ⟨(y 1).val, (y 1).isLt⟩, eq_ix2 y⟩
  blk_simp
  rw [after0_11]
  refine (out11_apply _ _ _ _ _ _ _ _ _ r l).trans ?_
  refine (heads_blk m c t _ _ (blk_kg m c t) _ _ r l).trans ?_
  exact at_tile (kOf (zM m c) (kgA m c)) t r l _ _ _ _ _ (idx11 t) rfl rfl

/-- Result 3 after the run: the values. -/
theorem arr_v : (dats m 0 c).arrAt 12 (cfgs 0).N = fun i : S32768x128.Idx => vOf (zM m c) ⟨(i 0).val, (i 0).isLt⟩ ⟨(i 1).val, (i 1).isLt⟩ := by
  refine (dats m 0 c).arrAt_eq_of_covers 12 _ (by decide +kernel) fun t hf y => ?_
  obtain ⟨r, l, rfl⟩ : ∃ (r : Fin 512) (l : Fin 128), y = ix2 r l := ⟨⟨(y 0).val, (y 0).isLt⟩, ⟨(y 1).val, (y 1).isLt⟩, eq_ix2 y⟩
  blk_simp
  rw [after0_12]
  refine (out12_apply _ _ _ _ _ _ _ _ _ r l).trans ?_
  rw [z_blk]
  exact at_tile (vOf (zM m c)) t r l _ _ _ _ _ (idx12 t) rfl rfl

/-- Results 4 and 5 after the run: the two gates. -/
theorem arr_sgc : (dats m 0 c).arrAt 13 (cfgs 0).N = fun i : S32768x1024.Idx => sgcOf (zM m c) ⟨(i 0).val, (i 0).isLt⟩ ⟨(i 1).val, (i 1).isLt⟩ := by
  refine (dats m 0 c).arrAt_eq_of_covers 13 _ (by decide +kernel) fun t hf y => ?_
  obtain ⟨r, l, rfl⟩ : ∃ (r : Fin 512) (l : Fin 1024), y = ix2 r l := ⟨⟨(y 0).val, (y 0).isLt⟩, ⟨(y 1).val, (y 1).isLt⟩, eq_ix2 y⟩
  blk_simp
  rw [after0_13]
  refine (out13_apply _ _ _ _ _ _ _ _ _ r l).trans ?_
  rw [z_blk]
  exact at_tile (sgcOf (zM m c)) t r l _ _ _ _ _ (idx13 t) rfl rfl

theorem arr_sga : (dats m 0 c).arrAt 14 (cfgs 0).N = fun i : S32768x1024.Idx => sgaOf (zM m c) ⟨(i 0).val, (i 0).isLt⟩ ⟨(i 1).val, (i 1).isLt⟩ := by
  refine (dats m 0 c).arrAt_eq_of_covers 14 _ (by decide +kernel) fun t hf y => ?_
  obtain ⟨r, l, rfl⟩ : ∃ (r : Fin 512) (l : Fin 1024), y = ix2 r l := ⟨⟨(y 0).val, (y 0).isLt⟩, ⟨(y 1).val, (y 1).isLt⟩, eq_ix2 y⟩
  blk_simp
  rw [after0_14]
  refine (out14_apply _ _ _ _ _ _ _ _ _ r l).trans ?_
  rw [z_blk]
  exact at_tile (sgaOf (zM m c)) t r l _ _ _ _ _ (idx14 t) rfl rfl

end Cert.Kernel2Ideal.Proj

end
-- ==== Proof.ProjLayer.lean ====
/- The reference's input projection: its results as functions of the arguments, at an index, over the extended reals. -/
module

public import proofs.«01_k».proof.Proof.Rope
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Reference2Ideal.Proj

open Cert.Reference2Ideal Cert.Reference2Ideal.Gen
open Idealize.ShloMosaic Idealize.ShloMosaic.TcCoe Idealize.ShloMosaic.Tactic Idealize.SL.Sem

/-- The projection: the inputs' norm, modulated, times the weights. -/
def zArr (x : FVec Ideal S16x2048x1024 .f32) (a : FVec Ideal S16x6144 .f32) (g : FVec Ideal S1024 .f32) (w : FVec Ideal S1024x3840 .f32) : FVec Ideal S16x2048x3840 .f32 :=
  Host.dotGeneral dot_S16x2048x1024_S1024x3840_S16x2048x3840_2_0_01_1_n_n none
    (addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
      (broadcastInDim S16x2048x1024 ![0, 1, 2] bcast_S1x1x1024_S16x2048x1024_0_1_2 (broadcastInDim S1x1x1024 ![2] bcast_S1024_S1x1x1024_2 g)))
      (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 1024] (broadcastInDim S16x1x6144 ![0, 2] bcast_S16x6144_S16x1x6144_0_2 a) slices_S16x1x6144_S16x1x1024_0_0_1024))))
      (broadcastInDim S16x2048x1024 ![0, 1, 2] bcast_S16x1x1024_S16x2048x1024_0_1_2 (extractStridedSlice S16x1x1024 ![0, 0, 0] (broadcastInDim S16x1x6144 ![0, 2] bcast_S16x6144_S16x1x6144_0_2 a) slices_S16x1x6144_S16x1x1024_0_0_0))) w

/-- The turning rates, and the angles of the rows and the columns. -/
def rates : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

def rowAngles : FVec Ideal S2048x16 .f32 :=
  mulf (broadcastInDim S2048x16 ![0, 1] bcast_S2048x1_S2048x16_0_1 (broadcastInDim S2048x1 ![0] bcast_S2048_S2048x1_0 (sitofp .f32 (shapeCast _ (broadcastInDim S32x64 ![0] bcast_S32_S32x64_0 (iotaInDim S32 32 0)) shapeCasts_S32x64_S2048)))) (broadcastInDim S2048x16 ![0, 1] bcast_S1x16_S2048x16_0_1 (broadcastInDim S1x16 ![1] bcast_S16_S1x16_1 rates))

def colAngles : FVec Ideal S2048x16 .f32 :=
  mulf (broadcastInDim S2048x16 ![0, 1] bcast_S2048x1_S2048x16_0_1 (broadcastInDim S2048x1 ![0] bcast_S2048_S2048x1_0 (sitofp .f32 (shapeCast _ (broadcastInDim S32x64 ![0, 1] bcast_S1x64_S32x64_0_1 (shapeCast _ (iotaInDim S64 32 0) shapeCasts_S64_S1x64)) shapeCasts_S32x64_S2048)))) (broadcastInDim S2048x16 ![0, 1] bcast_S1x16_S2048x16_0_1 (broadcastInDim S1x16 ![1] bcast_S16_S1x16_1 rates))

/-- A table of angles, its function `f` taken, over the heads. -/
def spread (f : FVec Ideal S2048x16 .f32) : FVec Ideal S1x2048x1x16 .f32 := broadcastInDim S1x2048x1x16 ![1, 3] bcast_S2048x16_S1x2048x1x16_1_3 f

/-- The heads of the queries and of the keys, normed. -/
def normed8 (u : FVec Ideal S16x2048x8x64 .f32) (g : FVec Ideal S64 .f32) : FVec Ideal S16x2048x8x64 .f32 :=
  mulf (mulf u (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf u u) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 g))

def normed2 (u : FVec Ideal S16x2048x2x64 .f32) (g : FVec Ideal S64 .f32) : FVec Ideal S16x2048x2x64 .f32 :=
  mulf (mulf u (broadcastInDim S16x2048x2x64 ![0, 1, 2, 3] bcast_S16x2048x2x1_S16x2048x2x64_0_1_2_3 (Host.rsqrt (addf (Host.divf (broadcastInDim S16x2048x2x1 ![0, 1, 2] bcast_S16x2048x2_S16x2048x2x1_0_1_2 (Host.reduceAdd (mulf u u) (constant S_ .f32 0x00000000#32) reducesTo_S16x2048x2x64_S16x2048x2_d3 h_S_)) (broadcastInDim S16x2048x2x1 ![] bcast_S_S16x2048x2x1 (constant S_ .f32 0x42800000#32))) (broadcastInDim S16x2048x2x1 ![] bcast_S_S16x2048x2x1 (constant S_ .f32 0x358637BD#32)))))) (broadcastInDim S16x2048x2x64 ![0, 1, 2, 3] bcast_S1x1x1x64_S16x2048x2x64_0_1_2_3 (broadcastInDim S1x1x1x64 ![3] bcast_S64_S1x1x1x64_3 g))

/-- A half of a head, rotated: its first sixteen lanes with its last sixteen. -/
def turn8 (h : FVec Ideal S16x2048x8x32 .f32) (co si : FVec Ideal S1x2048x1x16 .f32) : FVec Ideal S16x2048x8x32 .f32 :=
  concatenate S16x2048x8x32 3
    [⟨S16x2048x8x16, (subf (mulf (extractStridedSlice S16x2048x8x16 ![0, 0, 0, 0] h slices_S16x2048x8x32_S16x2048x8x16_0_0_0_0) (broadcastInDim S16x2048x8x16 ![0, 1, 2, 3] bcast_S1x2048x1x16_S16x2048x8x16_0_1_2_3 co)) (mulf (extractStridedSlice S16x2048x8x16 ![0, 0, 0, 16] h slices_S16x2048x8x32_S16x2048x8x16_0_0_0_16) (broadcastInDim S16x2048x8x16 ![0, 1, 2, 3] bcast_S1x2048x1x16_S16x2048x8x16_0_1_2_3 si)) : FVec Ideal S16x2048x8x16 .f32)⟩,
     ⟨S16x2048x8x16, (addf (mulf (extractStridedSlice S16x2048x8x16 ![0, 0, 0, 16] h slices_S16x2048x8x32_S16x2048x8x16_0_0_0_16) (broadcastInDim S16x2048x8x16 ![0, 1, 2, 3] bcast_S1x2048x1x16_S16x2048x8x16_0_1_2_3 co)) (mulf (extractStridedSlice S16x2048x8x16 ![0, 0, 0, 0] h slices_S16x2048x8x32_S16x2048x8x16_0_0_0_0) (broadcastInDim S16x2048x8x16 ![0, 1, 2, 3] bcast_S1x2048x1x16_S16x2048x8x16_0_1_2_3 si)) : FVec Ideal S16x2048x8x16 .f32)⟩]
    concatenates_S16x2048x8x16_S16x2048x8x16_S16x2048x8x32_d3

def turn2 (h : FVec Ideal S16x2048x2x32 .f32) (co si : FVec Ideal S1x2048x1x16 .f32) : FVec Ideal S16x2048x2x32 .f32 :=
  concatenate S16x2048x2x32 3
    [⟨S16x2048x2x16, (subf (mulf (extractStridedSlice S16x2048x2x16 ![0, 0, 0, 0] h slices_S16x2048x2x32_S16x2048x2x16_0_0_0_0) (broadcastInDim S16x2048x2x16 ![0, 1, 2, 3] bcast_S1x2048x1x16_S16x2048x2x16_0_1_2_3 co)) (mulf (extractStridedSlice S16x2048x2x16 ![0, 0, 0, 16] h slices_S16x2048x2x32_S16x2048x2x16_0_0_0_16) (broadcastInDim S16x2048x2x16 ![0, 1, 2, 3] bcast_S1x2048x1x16_S16x2048x2x16_0_1_2_3 si)) : FVec Ideal S16x2048x2x16 .f32)⟩,
     ⟨S16x2048x2x16, (addf (mulf (extractStridedSlice S16x2048x2x16 ![0, 0, 0, 16] h slices_S16x2048x2x32_S16x2048x2x16_0_0_0_16) (broadcastInDim S16x2048x2x16 ![0, 1, 2, 3] bcast_S1x2048x1x16_S16x2048x2x16_0_1_2_3 co)) (mulf (extractStridedSlice S16x2048x2x16 ![0, 0, 0, 0] h slices_S16x2048x2x32_S16x2048x2x16_0_0_0_0) (broadcastInDim S16x2048x2x16 ![0, 1, 2, 3] bcast_S1x2048x1x16_S16x2048x2x16_0_1_2_3 si)) : FVec Ideal S16x2048x2x16 .f32)⟩]
    concatenates_S16x2048x2x16_S16x2048x2x16_S16x2048x2x32_d3

/-- A head, rotated: the first half by the row, the second by the column. -/
def turned8 (n : FVec Ideal S16x2048x8x64 .f32) : FVec Ideal S16x2048x8x64 .f32 :=
  concatenate S16x2048x8x64 3
    [⟨S16x2048x8x32, turn8 (extractStridedSlice S16x2048x8x32 ![0, 0, 0, 0] n slices_S16x2048x8x64_S16x2048x8x32_0_0_0_0) (spread (Host.cos rowAngles)) (spread (Host.sin rowAngles))⟩,
     ⟨S16x2048x8x32, turn8 (extractStridedSlice S16x2048x8x32 ![0, 0, 0, 32] n slices_S16x2048x8x64_S16x2048x8x32_0_0_0_32) (spread (Host.cos colAngles)) (spread (Host.sin colAngles))⟩]
    concatenates_S16x2048x8x32_S16x2048x8x32_S16x2048x8x64_d3

def turned2 (n : FVec Ideal S16x2048x2x64 .f32) : FVec Ideal S16x2048x2x64 .f32 :=
  concatenate S16x2048x2x64 3
    [⟨S16x2048x2x32, turn2 (extractStridedSlice S16x2048x2x32 ![0, 0, 0, 0] n slices_S16x2048x2x64_S16x2048x2x32_0_0_0_0) (spread (Host.cos rowAngles)) (spread (Host.sin rowAngles))⟩,
     ⟨S16x2048x2x32, turn2 (extractStridedSlice S16x2048x2x32 ![0, 0, 0, 32] n slices_S16x2048x2x64_S16x2048x2x32_0_0_0_32) (spread (Host.cos colAngles)) (spread (Host.sin colAngles))⟩]
    concatenates_S16x2048x2x32_S16x2048x2x32_S16x2048x2x64_d3

/-- The results, by the projection: the gated linear unit, the queries, the keys, the values, the two gates. -/
def glu (z : FVec Ideal S16x2048x3840 .f32) : FVec Ideal S32768x512 .bf16 :=
  truncf .bf16 (shapeCast _ (mulf (extractStridedSlice S16x2048x512 ![0, 0, 0] (extractStridedSlice S16x2048x1024 ![0, 0, 0] z slices_S16x2048x3840_S16x2048x1024_0_0_0) slices_S16x2048x1024_S16x2048x512_0_0_0)
    (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 512] (extractStridedSlice S16x2048x1024 ![0, 0, 0] z slices_S16x2048x3840_S16x2048x1024_0_0_0) slices_S16x2048x1024_S16x2048x512_0_0_512)))))) shapeCasts_S16x2048x512_S32768x512) bitsLt_bf16_f32

def queries (z : FVec Ideal S16x2048x3840 .f32) (g : FVec Ideal S64 .f32) : FVec Ideal S32768x512 .bf16 :=
  truncf .bf16 (shapeCast _ (mulf (turned8 (normed8 (shapeCast _ (extractStridedSlice S16x2048x512 ![0, 0, 1024] z slices_S16x2048x3840_S16x2048x512_0_0_1024) shapeCasts_S16x2048x512_S16x2048x8x64) g))
    (broadcastInDim S16x2048x8x64 ![] bcast_S_S16x2048x8x64 (constant S_ .f32 0x3E38AA3B#32))) shapeCasts_S16x2048x8x64_S32768x512) bitsLt_bf16_f32

def keys (z : FVec Ideal S16x2048x3840 .f32) (g : FVec Ideal S64 .f32) : FVec Ideal S32768x128 .bf16 :=
  truncf .bf16 (shapeCast _ (turned2 (normed2 (shapeCast _ (extractStridedSlice S16x2048x128 ![0, 0, 1536] z slices_S16x2048x3840_S16x2048x128_0_0_1536) shapeCasts_S16x2048x128_S16x2048x2x64) g)) shapeCasts_S16x2048x2x64_S32768x128) bitsLt_bf16_f32

def values (z : FVec Ideal S16x2048x3840 .f32) : FVec Ideal S32768x128 .bf16 :=
  truncf .bf16 (shapeCast _ (extractStridedSlice S16x2048x128 ![0, 0, 1664] z slices_S16x2048x3840_S16x2048x128_0_0_1664) shapeCasts_S16x2048x128_S32768x128) bitsLt_bf16_f32

/-- A sigmoid of 1024 columns of the projection. -/
def sig (y : FVec Ideal S16x2048x1024 .f32) : FVec Ideal S32768x1024 .bf16 :=
  truncf .bf16 (shapeCast _ (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf y)))) shapeCasts_S16x2048x1024_S32768x1024) bitsLt_bf16_f32

def gateC (z : FVec Ideal S16x2048x3840 .f32) : FVec Ideal S32768x1024 .bf16 := sig (extractStridedSlice S16x2048x1024 ![0, 0, 1792] z slices_S16x2048x3840_S16x2048x1024_0_0_1792)
def gateA (z : FVec Ideal S16x2048x3840 .f32) : FVec Ideal S32768x1024 .bf16 := sig (extractStridedSlice S16x2048x1024 ![0, 0, 2816] z slices_S16x2048x3840_S16x2048x1024_0_0_2816)

/-- What the run leaves in the results and the arguments. -/
theorem run_values (m : (ℓ : Loc nD τ Cert.Reference2Ideal.sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v188) = glu (zArr (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v190) = queries (zArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_v192) = keys (zArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg5))
      ∧ r.2.mem ((c.tc : Thread nD τ).loc main_v194) = values (zArr (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v196) = gateC (zArr (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v198) = gateA (zArr (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

end Cert.Reference2Ideal.Proj

end
-- ==== Proof.ProjLayerAt.lean ====
/- The reference's input projection at an index, over the extended reals. -/
module

public import proofs.«01_k».proof.Proof.ProjLayer

@[expose] public section

set_option maxRecDepth 16384

noncomputable section

namespace Cert.Reference2Ideal.Proj

open Cert.Reference2Ideal Cert.Reference2Ideal.Gen
open Idealize.ShloMosaic Idealize.ShloMosaic.TcCoe Idealize.ShloMosaic.Tactic

theorem zArr_apply (x : FVec Ideal S16x2048x1024 .f32) (a : FVec Ideal S16x6144 .f32) (g : FVec Ideal S1024 .f32) (w : FVec Ideal S1024x3840 .f32) (b : Fin 16) (s : Fin 2048) (C : Fin 3840) :
    zArr x a g w (ix3 b s C) = Rope.proj (Rope.modulated (fun d => x (ix3 b s d)) (fun d => g (ix1 d)) (fun d => a (ix2 b ⟨1024 + d.val, by omega⟩)) (fun d => a (ix2 b ⟨d.val, by omega⟩))) (fun d => w (ix2 d C)) := by
  pointwise [zArr, Rope.proj, Rope.modulated, Rope.eps]

theorem rowAngles_apply (s : Fin 2048) (e : Fin 16) : rowAngles (ix2 s e) = FloatOps.sitofp (F := Ideal) .f32 (BitVec.ofNat 32 (s.val / 64)) * Rope.freq e.val := by
  pointwise [rowAngles, rates, Rope.freq]

theorem colAngles_apply (s : Fin 2048) (e : Fin 16) : colAngles (ix2 s e) = FloatOps.sitofp (F := Ideal) .f32 (BitVec.ofNat 32 (s.val % 64)) * Rope.freq e.val := by
  pointwise [colAngles, rates, Rope.freq]

theorem normed8_apply (u : FVec Ideal S16x2048x8x64 .f32) (g : FVec Ideal S64 .f32) (b : Fin 16) (s : Fin 2048) (h : Fin 8) (e : Fin 64) :
    normed8 u g (ix4 b s h e) = Rope.headNorm (fun d => u (ix4 b s h d)) (fun d => g (ix1 d)) e := by
  pointwise [normed8, Rope.headNorm, Rope.eps]

theorem normed2_apply (u : FVec Ideal S16x2048x2x64 .f32) (g : FVec Ideal S64 .f32) (b : Fin 16) (s : Fin 2048) (h : Fin 2) (e : Fin 64) :
    normed2 u g (ix4 b s h e) = Rope.headNorm (fun d => u (ix4 b s h d)) (fun d => g (ix1 d)) e := by
  pointwise [normed2, Rope.headNorm, Rope.eps]

theorem turned8_apply (n : FVec Ideal S16x2048x8x64 .f32) (b : Fin 16) (s : Fin 2048) (h : Fin 8) (e : Fin 64) :
    turned8 n (ix4 b s h e) = Rope.rotated (fun d => n (ix4 b s h d)) (Rope.angle s) e := by
  pointwise [turned8, turn8, spread]
  exact Rope.quarters_eq (fun d => n (ix4 b s h d)) s (fun k => rowAngles (ix2 s k)) (fun k => colAngles (ix2 s k)) (rowAngles_apply s) (colAngles_apply s) e

theorem turned2_apply (n : FVec Ideal S16x2048x2x64 .f32) (b : Fin 16) (s : Fin 2048) (h : Fin 2) (e : Fin 64) :
    turned2 n (ix4 b s h e) = Rope.rotated (fun d => n (ix4 b s h d)) (Rope.angle s) e := by
  pointwise [turned2, turn2, spread]
  exact Rope.quarters_eq (fun d => n (ix4 b s h d)) s (fun k => rowAngles (ix2 s k)) (fun k => colAngles (ix2 s k)) (rowAngles_apply s) (colAngles_apply s) e

theorem glu_apply (z : FVec Ideal S16x2048x3840 .f32) (R : Fin 32768) (l : Fin 512) :
    glu z (ix2 R l) = z (ix3 ⟨R.val / 2048, by omega⟩ ⟨R.val % 2048, by omega⟩ ⟨l.val, by omega⟩) * Ideal.div 1 (1 + Ideal.exp (-z (ix3 ⟨R.val / 2048, by omega⟩ ⟨R.val % 2048, by omega⟩ ⟨512 + l.val, by omega⟩))) := by
  pointwise [glu]

theorem values_apply (z : FVec Ideal S16x2048x3840 .f32) (R : Fin 32768) (l : Fin 128) :
    values z (ix2 R l) = z (ix3 ⟨R.val / 2048, by omega⟩ ⟨R.val % 2048, by omega⟩ ⟨1664 + l.val, by omega⟩) := by
  pointwise [values]

theorem gateC_apply (z : FVec Ideal S16x2048x3840 .f32) (R : Fin 32768) (l : Fin 1024) :
    gateC z (ix2 R l) = Ideal.div 1 (1 + Ideal.exp (-z (ix3 ⟨R.val / 2048, by omega⟩ ⟨R.val % 2048, by omega⟩ ⟨1792 + l.val, by omega⟩))) := by
  pointwise [gateC, sig]

theorem gateA_apply (z : FVec Ideal S16x2048x3840 .f32) (R : Fin 32768) (l : Fin 1024) :
    gateA z (ix2 R l) = Ideal.div 1 (1 + Ideal.exp (-z (ix3 ⟨R.val / 2048, by omega⟩ ⟨R.val % 2048, by omega⟩ ⟨2816 + l.val, by omega⟩))) := by
  pointwise [gateA, sig]

/-- A lane of the queries: its head of the projection, normed, rotated and scaled. -/
theorem queries_apply (z : FVec Ideal S16x2048x3840 .f32) (g : FVec Ideal S64 .f32) (R : Fin 32768) (l : Fin 512) :
    queries z g (ix2 R l) = Rope.rotated (Rope.headNorm (fun d => z (ix3 ⟨R.val / 2048, by omega⟩ ⟨R.val % 2048, by omega⟩ ⟨1024 + l.val / 64 * 64 + d.val, by omega⟩)) (fun d => g (ix1 d))) (Rope.angle ⟨R.val % 2048, by omega⟩) ⟨l.val % 64, by omega⟩
      * Ideal.ofBits .f32 0x3E38AA3B#32 := by
  unfold queries
  generalize ht : turned8 (normed8 (shapeCast _ (extractStridedSlice S16x2048x512 ![0, 0, 1024] z slices_S16x2048x3840_S16x2048x512_0_0_1024) shapeCasts_S16x2048x512_S16x2048x8x64) g) = t
  pointwise
  subst ht
  refine congrArg (· * Ideal.ofBits .f32 0x3E38AA3B#32) ((turned8_apply _ _ _ _ _).trans (congrArg (fun y => Rope.rotated y _ _) (funext fun e => (normed8_apply _ _ _ _ _ e).trans ?_)))
  refine congrArg (fun y => Rope.headNorm y _ e) (funext fun d => ?_)
  pointwise
  exact congrArg (fun i => z (ix3 _ _ i)) (Fin.ext (Nat.add_assoc _ _ _).symm)

theorem keys_apply (z : FVec Ideal S16x2048x3840 .f32) (g : FVec Ideal S64 .f32) (R : Fin 32768) (l : Fin 128) :
    keys z g (ix2 R l) = Rope.rotated (Rope.headNorm (fun d => z (ix3 ⟨R.val / 2048, by omega⟩ ⟨R.val % 2048, by omega⟩ ⟨1536 + l.val / 64 * 64 + d.val, by omega⟩)) (fun d => g (ix1 d))) (Rope.angle ⟨R.val % 2048, by omega⟩) ⟨l.val % 64, by omega⟩ := by
  unfold keys
  generalize ht : turned2 (normed2 (shapeCast _ (extractStridedSlice S16x2048x128 ![0, 0, 1536] z slices_S16x2048x3840_S16x2048x128_0_0_1536) shapeCasts_S16x2048x128_S16x2048x2x64) g) = t
  pointwise
  subst ht
  refine (turned2_apply _ _ _ _ _).trans (congrArg (fun y => Rope.rotated y _ _) (funext fun e => (normed2_apply _ _ _ _ _ e).trans ?_))
  refine congrArg (fun y => Rope.headNorm y _ e) (funext fun d => ?_)
  pointwise
  exact congrArg (fun i => z (ix3 _ _ i)) (Fin.ext (Nat.add_assoc _ _ _).symm)

end Cert.Reference2Ideal.Proj

end
-- ==== Proof.Frames2.lean ====
/- The frames of the input projection's two programs. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import Idealize.ShloMosaic.Adequacy
public import Idealize.ShloMosaic.Init

@[expose] public section

noncomputable section

namespace Cert.Proof

open Idealize.ShloMosaic Idealize.SL.Sem

/-- THE KERNEL'S FRAME: at the machine's own values every argument ends as launched and every counter at zero. -/
theorem frame_kernel2 : Cert.quiescent_Kernel2 := fun m ρ _ => Cert.Kernel2.Gen.frame (F := Bits) m ρ

/-- THE IDEALIZED KERNEL'S FRAME. -/
theorem frame_ideal2 : Cert.quiescent_Kernel2Ideal := fun m ρ _ => Cert.Kernel2Ideal.Gen.frame (F := Ideal) m ρ

/-- THE REFERENCE'S FRAME: a straight list of host operations none of which writes an argument. -/
theorem frame_reference2 : Cert.quiescent_Reference2Ideal := fun m ρ _ =>
  (θ_run Cert.Reference2Ideal.defs _ _).mono (fun r h => ⟨fun c => (h c).2.2.2.2.2.2,
    Idealize.ShloMosaic.sem_eq_zero_of_no_sems (by decide) r.2⟩) (Cert.Reference2Ideal.Value.run (F := Ideal) m ρ)

/-- No operation of the kernel is rewritten, so nothing is to be preserved. -/
theorem preserves2 : Cert.preserves_Kernel2_Kernel2Ideal := trivial

end Cert.Proof

end
-- ==== Proof.ProjValue.lean ====
/- The input projection's results after its run and the reference's, as the same arrays. -/
module

public import proofs.«01_k».proof.Proof.ProjResults
public import proofs.«01_k».proof.Proof.ProjLayerAt
public import proofs.«01_k».proof.Proof.Frames2
public import Idealize.ShloMosaic.Lib.Claim

@[expose] public section

set_option maxRecDepth 16384

noncomputable section

namespace Cert.Proof

open Idealize.ShloMosaic Idealize.ShloMosaic.TcCoe Idealize.ShloMosaic.Tactic Idealize.SL.Sem
open Cert.Kernel2Ideal.Proj

section Arrays

open Cert.Kernel2Ideal Cert.Kernel2Ideal.Gen

variable (x : Vec Ideal S16x2048x1024 .f32) (a : Vec Ideal S16x6144 .f32) (g : Vec Ideal S1024 .f32) (w : Vec Ideal S1024x3840 .f32) (h : Vec Ideal S64 .f32)

/-- The kernel's projection at a row is the reference's at the row's sequence and place. -/
theorem z_eq (R : Fin 32768) (C : Fin 3840) : zOf x a g w R C = Cert.Reference2Ideal.Proj.zArr x a g w (ix3 ⟨R.val / 2048, by omega⟩ ⟨R.val % 2048, by omega⟩ C) :=
  (Cert.Reference2Ideal.Proj.zArr_apply x a g w _ _ C).symm

/-- The kernel's sigmoid is the reference's. -/
theorem sigmoid (y : EReal) : gateAt y = Ideal.div 1 (1 + Ideal.exp (-y)) := Scalars.sigmoid_eq y

theorem glu_eq (R : Fin 32768) (l : Fin 512) : gluOf (zOf x a g w) R l = Cert.Reference2Ideal.Proj.glu (Cert.Reference2Ideal.Proj.zArr x a g w) (ix2 R l) := by
  rw [Cert.Reference2Ideal.Proj.glu_apply]
  unfold gluOf
  rw [sigmoid, z_eq, z_eq]

theorem q_eq (R : Fin 32768) (l : Fin 512) : qOf (zOf x a g w) h R l = Cert.Reference2Ideal.Proj.queries (Cert.Reference2Ideal.Proj.zArr x a g w) h (ix2 R l) := by
  rw [Cert.Reference2Ideal.Proj.queries_apply]
  unfold qOf headsOf
  exact congrArg (fun y => Rope.rotated (Rope.headNorm y _) _ _ * scale) (funext fun d => z_eq x a g w R _)

theorem k_eq (R : Fin 32768) (l : Fin 128) : kOf (zOf x a g w) h R l = Cert.Reference2Ideal.Proj.keys (Cert.Reference2Ideal.Proj.zArr x a g w) h (ix2 R l) := by
  rw [Cert.Reference2Ideal.Proj.keys_apply]
  unfold kOf headsOf
  exact congrArg (fun y => Rope.rotated (Rope.headNorm y _) _ _) (funext fun d => z_eq x a g w R _)

theorem v_eq (R : Fin 32768) (l : Fin 128) : vOf (zOf x a g w) R l = Cert.Reference2Ideal.Proj.values (Cert.Reference2Ideal.Proj.zArr x a g w) (ix2 R l) := by
  rw [Cert.Reference2Ideal.Proj.values_apply]
  exact z_eq x a g w R _

theorem sgc_eq (R : Fin 32768) (l : Fin 1024) : sgcOf (zOf x a g w) R l = Cert.Reference2Ideal.Proj.gateC (Cert.Reference2Ideal.Proj.zArr x a g w) (ix2 R l) := by
  rw [Cert.Reference2Ideal.Proj.gateC_apply]
  unfold sgcOf
  rw [sigmoid, z_eq]

theorem sga_eq (R : Fin 32768) (l : Fin 1024) : sgaOf (zOf x a g w) R l = Cert.Reference2Ideal.Proj.gateA (Cert.Reference2Ideal.Proj.zArr x a g w) (ix2 R l) := by
  rw [Cert.Reference2Ideal.Proj.gateA_apply]
  unfold sgaOf
  rw [sigmoid, z_eq]

variable (m : (ℓ : Loc nD τ sig) → Buf (Elt Ideal) ℓ) (c : Dev nD)

/-- The reference's projection of the launched arguments. -/
abbrev zR : Vec Ideal Cert.Reference2Ideal.S16x2048x3840 .f32 := Cert.Reference2Ideal.Proj.zArr (xA m c) (aA m c) (gA m c) (wA m c)

theorem value_glu : (dats m 0 c).arrAt 9 (cfgs 0).N = Cert.Reference2Ideal.Proj.glu (zR m c) :=
  (arr_glu m c).trans (funext fun i => (glu_eq _ _ _ _ _ _).trans (congrArg _ (eq_ix2 i).symm))

theorem value_q : (dats m 0 c).arrAt 10 (cfgs 0).N = Cert.Reference2Ideal.Proj.queries (zR m c) (qgA m c) :=
  (arr_q m c).trans (funext fun i => (q_eq _ _ _ _ _ _ _).trans (congrArg _ (eq_ix2 i).symm))

theorem value_k : (dats m 0 c).arrAt 11 (cfgs 0).N = Cert.Reference2Ideal.Proj.keys (zR m c) (kgA m c) :=
  (arr_k m c).trans (funext fun i => (k_eq _ _ _ _ _ _ _).trans (congrArg _ (eq_ix2 i).symm))

theorem value_v : (dats m 0 c).arrAt 12 (cfgs 0).N = Cert.Reference2Ideal.Proj.values (zR m c) :=
  (arr_v m c).trans (funext fun i => (v_eq _ _ _ _ _ _).trans (congrArg _ (eq_ix2 i).symm))

theorem value_sgc : (dats m 0 c).arrAt 13 (cfgs 0).N = Cert.Reference2Ideal.Proj.gateC (zR m c) :=
  (arr_sgc m c).trans (funext fun i => (sgc_eq _ _ _ _ _ _).trans (congrArg _ (eq_ix2 i).symm))

theorem value_sga : (dats m 0 c).arrAt 14 (cfgs 0).N = Cert.Reference2Ideal.Proj.gateA (zR m c) :=
  (arr_sga m c).trans (funext fun i => (sga_eq _ _ _ _ _ _).trans (congrArg _ (eq_ix2 i).symm))

end Arrays

set_option maxHeartbeats 2000000 in
/-- THE VALUE CLAIM of the input projection: over the reals it leaves what its reference computes. -/
theorem algebraic2 : Cert.algebraic_Kernel2Ideal_Reference2Ideal := by
  pair_intro
  · run_from Cert.Kernel2Ideal.Value.run_blocks m g
  · run_from Cert.Reference2Ideal.Proj.run_values m' g'
    · exact (value_glu m c).symm
    · exact (value_q m c).symm
    · exact (value_k m c).symm
    · exact (value_v m c).symm
    · exact (value_sgc m c).symm
    · exact (value_sga m c).symm

end Cert.Proof

end
-- ==== Proof.Frames3.lean ====
/- The frames of the adaptive modulation's two programs. -/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Adequacy
public import Idealize.ShloMosaic.Init

@[expose] public section

noncomputable section

namespace Cert.Proof

open Idealize.ShloMosaic Idealize.SL.Sem

/-- THE KERNEL'S FRAME: at the machine's own values every argument ends as launched and every counter at zero. -/
theorem frame_kernel3 : Cert.quiescent_Kernel3 := fun m ρ _ => Cert.Kernel3.Gen.frame (F := Bits) m ρ

/-- THE IDEALIZED KERNEL'S FRAME. -/
theorem frame_ideal3 : Cert.quiescent_Kernel3Ideal := fun m ρ _ => Cert.Kernel3Ideal.Gen.frame (F := Ideal) m ρ

/-- THE REFERENCE'S FRAME: a straight list of host operations none of which writes an argument. -/
theorem frame_reference3 : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

/-- No operation of the kernel is rewritten, so nothing is to be preserved. -/
theorem preserves3 : Cert.preserves_Kernel3_Kernel3Ideal := trivial

end Cert.Proof

end
-- ==== Proof.AdaValue.lean ====
/- The adaptive modulation: what the kernel's array holds after the run, what the reference computes, and that the two are the same. -/
module

public import proofs.«01_k».proof.Proof.Frames3
public import proofs.«01_k».proof.Proof.Scalars
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Reference3Ideal.Ada

open Cert.Reference3Ideal Cert.Reference3Ideal.Facts₀
open Idealize.ShloMosaic Idealize.ShloMosaic.TcCoe Idealize.ShloMosaic.Tactic
open Idealize.SL Idealize.SL.Sem

/-- The modulation: the condition's SiLU times the weights, shifted. -/
def adaArr (x : FVec Ideal S16x1024 .f32) (w : FVec Ideal S1024x6144 .f32) (b : FVec Ideal S6144 .f32) : FVec Ideal S16x6144 .f32 :=
  addf (Host.dotGeneral dot_S16x1024_S1024x6144_S16x6144_1_0_0_1_n_n none
      (mulf x (Host.divf (broadcastInDim S16x1024 ![] bcast_S_S16x1024 (constant S_ .f32 0x3F800000#32))
        (addf (broadcastInDim S16x1024 ![] bcast_S_S16x1024 (constant S_ .f32 0x3F800000#32)) (Host.exp (Host.negf x))))) w)
    (broadcastInDim S16x6144 ![0, 1] bcast_S1x6144_S16x6144_0_1 (broadcastInDim S1x6144 ![1] bcast_S6144_S1x6144_1 b))

/-- An element of the modulation. -/
theorem adaArr_apply (x : FVec Ideal S16x1024 .f32) (w : FVec Ideal S1024x6144 .f32) (b : FVec Ideal S6144 .f32) (r : Fin 16) (C : Fin 6144) :
    adaArr x w b (ix2 r C) = (∑ d : Fin 1024, x (ix2 r d) * Ideal.div 1 (1 + Ideal.exp (-x (ix2 r d))) * w (ix2 d C)) + b (ix1 C) := by
  pointwise [adaArr]

/-- What the run leaves in the result and the arguments. -/
theorem run_values (m : (ℓ : Loc nD τ Cert.Reference3Ideal.sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = adaArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.Reference3Ideal.Ada

namespace Cert.Kernel3Ideal.Ada

open Cert.Kernel3Ideal Cert.Kernel3Ideal.Gen
open Idealize.ShloMosaic Idealize.ShloMosaic.TcCoe Idealize.ShloMosaic.Tactic
open Idealize.SL Idealize.SL.Sem

/-- The kernel's sigmoid. -/
def gateAt (y : EReal) : EReal := Ideal.ofBits .f32 0x3F000000#32 * Ideal.tanh (Ideal.ofBits .f32 0x3F000000#32 * y) + Ideal.ofBits .f32 0x3F000000#32

/-- What one grid point leaves in its block: the condition's SiLU times 1024 columns of the weights, shifted. -/
theorem out_apply (x0 : Vec Ideal S16x1024 .f32) (x1 : Vec Ideal S1024x1024 .f32) (x2 : Vec Ideal S1x1024 .f32) (r : Fin 16) (l : Fin 1024) :
    out0_3 x0 x1 x2 (ix2 r l) = (∑ d : Fin 1024, x0 (ix2 r d) * gateAt (x0 (ix2 r d)) * x1 (ix2 d l)) + x2 (ix2 0 l) := by
  unfold out0_3
  frame_out
  pointwise [k0_pay1, gateAt]

/-- The modulation by the arguments, its SiLU in the kernel's form. -/
def adaOf (x : Vec Ideal S16x1024 .f32) (w : Vec Ideal S1024x6144 .f32) (b : Vec Ideal S6144 .f32) (r : Fin 16) (C : Fin 6144) : EReal :=
  (∑ d : Fin 1024, x (ix2 r d) * gateAt (x (ix2 r d)) * w (ix2 d C)) + b (ix1 C)

variable (m : (ℓ : Loc nD τ sig) → Buf (Elt Ideal) ℓ) (c : Dev nD)

/-- The arguments as launched. -/
abbrev xA : Vec Ideal S16x1024 .f32 := m ((c : Thread nD τ).loc main_arg0)
abbrev wA : Vec Ideal S1024x6144 .f32 := m ((c : Thread nD τ).loc main_arg1)
abbrev bA : Vec Ideal S6144 .f32 := m ((c : Thread nD τ).loc main_arg2)

/-- The shift as the call finds it. -/
theorem entry_b (C : Fin 6144) : V m c main_v0 (ix2 0 C) = bA m c (ix1 C) := by
  simp only [V, hostOps0]
  entry_read
  pointwise

/-- Each window's block at a point: the whole condition, or the point's 1024 columns. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem lt6 (t : Fin cfg0.N) : t.val < 6 := t.isLt

/-- Column `l` of block `t`. -/
abbrev colOf (t : Fin cfg0.N) (l : Fin 1024) : Fin 6144 := ⟨t.val * 1024 + l.val, by have := lt6 t; omega⟩

theorem blk_x (t : Fin cfg0.N) (r : Fin 16) (d : Fin 1024) : iblk m c 0 t (ix2 r d) = xA m c (ix2 r d) :=
  (show iblk m c 0 t (ix2 r d) = V m c main_arg0 (ix2 r d) by blk_ext [iblk, idx t]).trans (congrFun (V_main_arg0 m c) _)

theorem blk_w (t : Fin cfg0.N) (d l : Fin 1024) : iblk m c 1 t (ix2 d l) = wA m c (ix2 d (colOf t l)) :=
  (show iblk m c 1 t (ix2 d l) = V m c main_arg1 (ix2 d (colOf t l)) by blk_ext [iblk, idx t]).trans (congrFun (V_main_arg1 m c) _)

theorem blk_b (t : Fin cfg0.N) (l : Fin 1024) : iblk m c 2 t (ix2 0 l) = bA m c (ix1 (colOf t l)) :=
  (show iblk m c 2 t (ix2 0 l) = V m c main_v0 (ix2 0 (colOf t l)) by blk_ext [iblk, idx t]).trans (entry_b m c _)

/-- A function of row and column at a block's place, by its coordinates. -/
theorem at_block (f : Fin 16 → Fin 6144 → EReal) (t : Fin cfg0.N) (r : Fin 16) (l : Fin 1024) (a b : ℕ) (ha : a < 16) (hb : b < 6144) (p : Fin 2 → ℕ) (hp : p = ![0, t.val])
    (ea : a = p 0 * 16 + r.val) (eb : b = p 1 * 1024 + l.val) : f r (colOf t l) = f ⟨a, ha⟩ ⟨b, hb⟩ := by
  subst hp
  exact congrArg₂ f (Fin.ext ((Nat.zero_add _).symm.trans ((congrArg (· + r.val) (Nat.zero_mul 16).symm).trans ea.symm))) (Fin.ext eb.symm)

/-- The result after the run. -/
theorem arr_ada : (dats m 0 c).arrAt 3 (cfgs 0).N = fun i : S16x6144.Idx => adaOf (xA m c) (wA m c) (bA m c) ⟨(i 0).val, (i 0).isLt⟩ ⟨(i 1).val, (i 1).isLt⟩ := by
  refine (dats m 0 c).arrAt_eq_of_covers 3 _ (by decide +kernel) fun t hf y => ?_
  obtain ⟨r, l, rfl⟩ : ∃ (r : Fin 16) (l : Fin 1024), y = ix2 r l := ⟨⟨(y 0).val, (y 0).isLt⟩, ⟨(y 1).val, (y 1).isLt⟩, eq_ix2 y⟩
  blk_simp
  rw [after0_3]
  refine (out_apply _ _ _ r l).trans ?_
  rw [blk_b, funext fun d => congrArg₂ (fun u v : EReal => u * gateAt u * v) (blk_x m c t r d) (blk_w m c t d l)]
  exact at_block (adaOf (xA m c) (wA m c) (bA m c)) t r l _ _ _ _ _ (idx t).2.2.2 rfl rfl

/-- An element of the kernel's modulation is the reference's: the two forms of the sigmoid agree. -/
theorem ada_eq (x : Vec Ideal S16x1024 .f32) (w : Vec Ideal S1024x6144 .f32) (b : Vec Ideal S6144 .f32) (r : Fin 16) (C : Fin 6144) :
    adaOf x w b r C = Cert.Reference3Ideal.Ada.adaArr x w b (ix2 r C) := by
  rw [Cert.Reference3Ideal.Ada.adaArr_apply]
  exact congrArg (· + _) (Finset.sum_congr rfl fun d _ => congrArg (· * _) (Scalars.gate_eq _))

/-- The kernel's array is the reference's. -/
theorem value_ada : (dats m 0 c).arrAt 3 (cfgs 0).N = Cert.Reference3Ideal.Ada.adaArr (xA m c) (wA m c) (bA m c) :=
  (arr_ada m c).trans (funext fun i => (ada_eq _ _ _ _ _).trans (congrArg _ (eq_ix2 i).symm))

end Cert.Kernel3Ideal.Ada

namespace Cert.Proof

open Idealize.ShloMosaic Idealize.ShloMosaic.TcCoe Idealize.ShloMosaic.Tactic Idealize.SL.Sem

set_option maxHeartbeats 1000000 in
/-- THE VALUE CLAIM of the adaptive modulation: over the reals it leaves what its reference computes. -/
theorem algebraic3 : Cert.algebraic_Kernel3Ideal_Reference3Ideal := by
  pair_intro
  · run_from Cert.Kernel3Ideal.Value.run_blocks m g
  · run_from Cert.Reference3Ideal.Ada.run_values m' g'
    exact (Cert.Kernel3Ideal.Ada.value_ada m c).symm

end Cert.Proof

end
-- ==== Proof.MergeMath.lean ====
/- The merge of the two mixers on a row, over the extended reals: the gated sum of their projections, and the residual with its norm. -/
module

public import proofs.«01_k».proof.Proof.Rope

@[expose] public section

noncomputable section

namespace Cert.Merge

open Idealize.ShloMosaic

/-- A row of the two mixers, each projected and gated, added. -/
def merged (uc ao : Fin 512 → EReal) (sgc sga : Fin 1024 → EReal) (wc wa : Fin 512 → Fin 1024 → EReal) (d : Fin 1024) : EReal :=
  sgc d * (∑ e : Fin 512, uc e * wc e d) + sga d * (∑ e : Fin 512, ao e * wa e d)

/-- A row plus the gated RMS norm of another. -/
def residual (x gt z g : Fin 1024 → EReal) (l : Fin 1024) : EReal :=
  x l + gt l * (z l * Ideal.rsqrt (Ideal.div (∑ e : Fin 1024, z e * z e) (Ideal.ofBits .f32 0x44800000#32) + Rope.eps) * g l)

/-- A row after the mixers: the merged row projected, normed, gated and added. -/
def x1 (uc ao : Fin 512 → EReal) (sgc sga : Fin 1024 → EReal) (wc wa : Fin 512 → Fin 1024 → EReal) (wo : Fin 1024 → Fin 1024 → EReal) (x gt g : Fin 1024 → EReal) : Fin 1024 → EReal :=
  residual x gt (fun l => Rope.proj (merged uc ao sgc sga wc wa) fun d => wo d l) g

theorem proj_congr {h h' w w' : Fin 1024 → EReal} (e1 : ∀ d, h d = h' d) (e2 : ∀ d, w d = w' d) : Rope.proj h w = Rope.proj h' w' := by
  rw [funext e1, funext e2]

theorem merged_congr {uc uc' ao ao' : Fin 512 → EReal} {sgc sgc' sga sga' : Fin 1024 → EReal} {wc wc' wa wa' : Fin 512 → Fin 1024 → EReal} (d : Fin 1024)
    (e1 : ∀ e, uc e = uc' e) (e2 : ∀ e, ao e = ao' e) (e3 : ∀ e, sgc e = sgc' e) (e4 : ∀ e, sga e = sga' e) (e5 : ∀ e d, wc e d = wc' e d) (e6 : ∀ e d, wa e d = wa' e d) :
    merged uc ao sgc sga wc wa d = merged uc' ao' sgc' sga' wc' wa' d := by
  rw [funext e1, funext e2, funext e3, funext e4, funext fun e => funext (e5 e), funext fun e => funext (e6 e)]

theorem residual_congr {x x' gt gt' z z' g g' : Fin 1024 → EReal} (l : Fin 1024) (e1 : ∀ d, x d = x' d) (e2 : ∀ d, gt d = gt' d) (e3 : ∀ d, z d = z' d) (e4 : ∀ d, g d = g' d) :
    residual x gt z g l = residual x' gt' z' g' l := by
  rw [funext e1, funext e2, funext e3, funext e4]

theorem modulated_congr {x x' g g' sc sc' sh sh' : Fin 1024 → EReal} (l : Fin 1024) (e1 : ∀ d, x d = x' d) (e2 : ∀ d, g d = g' d) (e3 : ∀ d, sc d = sc' d) (e4 : ∀ d, sh d = sh' d) :
    Rope.modulated x g sc sh l = Rope.modulated x' g' sc' sh' l := by
  rw [funext e1, funext e2, funext e3, funext e4]

end Cert.Merge

end
-- ==== Proof.MergePay.lean ====
/- The merge's payloads at an index, over the extended reals. -/
module

public import proofs.«01_k».proof.Proof.MergeMath
public import proofs.«01_k».proof.Proof.Gen.Kernel4Ideal.Skeleton
public import Idealize.ShloMosaic.Lib.Pipeline.ValueKit
public import Idealize.ShloMosaic.Lib.Pointwise

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic

/-- The gated sum. -/
theorem merged_apply (u : Vec Ideal S512x512 .bf16) (wc : Vec Ideal S512x1024 .bf16) (a : Vec Ideal S512x512 .bf16) (wa : Vec Ideal S512x1024 .bf16) (sc sa : Vec Ideal S512x1024 .bf16) (r : Fin 512) (d : Fin 1024) :
    k0_pay31 u wc a wa sc sa (ix2 r d) = Cert.Merge.merged (fun e => u (ix2 r e)) (fun e => a (ix2 r e)) (fun d => sc (ix2 r d)) (fun d => sa (ix2 r d)) (fun e d => wc (ix2 e d)) (fun e d => wa (ix2 e d)) d := by
  pointwise [k0_pay31, Cert.Merge.merged]

/-- The residual. -/
theorem residual_apply (y : Vec Ideal S512x1024 .bf16) (wo : Vec Ideal S1024x1024 .bf16) (gt : Vec Ideal S1x1x1024 .f32) (x : Vec Ideal S512x1024 .f32) (g : Vec Ideal S1x1024 .f32) (r : Fin 512) (l : Fin 1024) :
    k0_pay1 y wo gt x g (ix2 r l) = Cert.Merge.residual (fun d => x (ix2 r d)) (fun d => gt (ix3 0 0 d)) (fun C => Rope.proj (fun d => y (ix2 r d)) fun d => wo (ix2 d C)) (fun d => g (ix2 0 d)) l := by
  pointwise [k0_pay1, Cert.Merge.residual, Rope.proj, Rope.eps]

/-- The residual's copy in the scratch is the same. -/
theorem copy_eq (y : Vec Ideal S512x1024 .bf16) (wo : Vec Ideal S1024x1024 .bf16) (gt : Vec Ideal S1x1x1024 .f32) (x : Vec Ideal S512x1024 .f32) (g : Vec Ideal S1x1024 .f32) :
    k0_pay2 y wo gt x g = k0_pay1 y wo gt x g := shapeCast_self _ _

/-- The second norm. -/
theorem norm_apply (x : Vec Ideal S512x1024 .f32) (sh sc : Vec Ideal S1x1x1024 .f32) (g : Vec Ideal S1x1024 .f32) (r : Fin 512) (l : Fin 1024) :
    k0_pay5 x sh sc g (ix2 r l) = Rope.modulated (fun d => x (ix2 r d)) (fun d => g (ix2 0 d)) (fun d => sc (ix3 0 0 d)) (fun d => sh (ix3 0 0 d)) l := by
  pointwise [k0_pay5, k0_pay4, Rope.modulated, Rope.eps]

end Cert.Kernel4Ideal.Merge

end
-- ==== Proof.MergeArrays.lean ====
/- What the merge's call finds in its operands, by the arguments as launched. -/
module

public import proofs.«01_k».proof.Proof.Gen.Kernel4Ideal.Frame.Runs
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- The arguments as launched: the two mixers, the two gates, the inputs, the modulation, the three weights, the two gains. -/
abbrev uA : Vec Ideal S16x2048x512 .f32 := m ((c : Thread nD τ).loc main_arg0)
abbrev oA : Vec Ideal S16x2048x512 .f32 := m ((c : Thread nD τ).loc main_arg1)
abbrev scA : Vec Ideal S16x2048x1024 .f32 := m ((c : Thread nD τ).loc main_arg2)
abbrev saA : Vec Ideal S16x2048x1024 .f32 := m ((c : Thread nD τ).loc main_arg3)
abbrev xA : Vec Ideal S16x2048x1024 .f32 := m ((c : Thread nD τ).loc main_arg4)
abbrev aA : Vec Ideal S16x6144 .f32 := m ((c : Thread nD τ).loc main_arg5)
abbrev wcA : Vec Ideal S512x1024 .f32 := m ((c : Thread nD τ).loc main_arg6)
abbrev waA : Vec Ideal S512x1024 .f32 := m ((c : Thread nD τ).loc main_arg7)
abbrev woA : Vec Ideal S1024x1024 .f32 := m ((c : Thread nD τ).loc main_arg8)
abbrev gpA : Vec Ideal S1024 .f32 := m ((c : Thread nD τ).loc main_arg9)
abbrev gfA : Vec Ideal S1024 .f32 := m ((c : Thread nD τ).loc main_arg10)

theorem entry_u (R : Fin 32768) (d : Fin 512) : V m c main_v14 (ix2 R d) = uA m c (ix3 ⟨R.val / 2048, by omega⟩ ⟨R.val % 2048, by omega⟩ d) := by
  simp only [V, hostOps0]
  entry_read
  pointwise

theorem entry_o (R : Fin 32768) (d : Fin 512) : V m c main_v16 (ix2 R d) = oA m c (ix3 ⟨R.val / 2048, by omega⟩ ⟨R.val % 2048, by omega⟩ d) := by
  simp only [V, hostOps0]
  entry_read
  pointwise

theorem entry_sc (R : Fin 32768) (d : Fin 1024) : V m c main_v18 (ix2 R d) = scA m c (ix3 ⟨R.val / 2048, by omega⟩ ⟨R.val % 2048, by omega⟩ d) := by
  simp only [V, hostOps0]
  entry_read
  pointwise

theorem entry_sa (R : Fin 32768) (d : Fin 1024) : V m c main_v20 (ix2 R d) = saA m c (ix3 ⟨R.val / 2048, by omega⟩ ⟨R.val % 2048, by omega⟩ d) := by
  simp only [V, hostOps0]
  entry_read
  pointwise

theorem entry_x (R : Fin 32768) (d : Fin 1024) : V m c main_v21 (ix2 R d) = xA m c (ix3 ⟨R.val / 2048, by omega⟩ ⟨R.val % 2048, by omega⟩ d) := by
  simp only [V, hostOps0]
  entry_read
  pointwise

theorem entry_a (b : Fin 16) (k : Fin 6) (d : Fin 1024) : V m c main_v22 (ix3 b k d) = aA m c (ix2 b ⟨k.val * 1024 + d.val, by omega⟩) := by
  simp only [V, hostOps0]
  entry_read
  pointwise

theorem entry_wc (d : Fin 512) (C : Fin 1024) : V m c main_v10 (ix2 d C) = wcA m c (ix2 d C) := by
  simp only [V, hostOps0]
  entry_read
  pointwise

theorem entry_wa (d : Fin 512) (C : Fin 1024) : V m c main_v11 (ix2 d C) = waA m c (ix2 d C) := by
  simp only [V, hostOps0]
  entry_read
  pointwise

theorem entry_wo (d : Fin 1024) (C : Fin 1024) : V m c main_v12 (ix2 d C) = woA m c (ix2 d C) := by
  simp only [V, hostOps0]
  entry_read
  pointwise

theorem entry_gp (d : Fin 1024) : V m c main_v23 (ix2 0 d) = gpA m c (ix1 d) := by
  simp only [V, hostOps0]
  entry_read
  pointwise

theorem entry_gf (d : Fin 1024) : V m c main_v24 (ix2 0 d) = gfA m c (ix1 d) := by
  simp only [V, hostOps0]
  entry_read
  pointwise

end Cert.Kernel4Ideal.Merge

end
-- ==== Proof.MergeBlocks.lean ====
/- The merge's blocks at a grid point, by the arguments as launched. -/
module

public import proofs.«01_k».proof.Proof.MergeArrays

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

theorem lt41 (t : Fin cfg0.N) : t.val < 41 := t.isLt

/-- The tile a point computes: its own, the last one twice. -/
def cur (t : Fin cfg0.N) : Fin 40 := ⟨min t.val 39, by omega⟩

/-- The tile a point norms: the one before, the first one twice. -/
def prev (t : Fin cfg0.N) : Fin 40 := ⟨t.val - 1, by have := lt41 t; omega⟩

/-- Row `r` of a tile. -/
abbrev rowOf (k : Fin 40) (r : Fin 512) : Fin 20480 := ⟨k.val * 512 + r.val, by omega⟩

/-- Each window's block at a point: the tile's rows, its sequence's modulation, or the whole array. -/
theorem idx : ∀ t : Fin cfg0.N, win0_0.index t = ![(cur t).val, 0] ∧ win0_1.index t = ![(cur t).val, 0] ∧ win0_2.index t = ![(cur t).val, 0] ∧ win0_3.index t = ![(cur t).val, 0]
    ∧ win0_4.index t = ![(cur t).val, 0] ∧ win0_5.index t = ![(cur t).val / 4, 0, 0] ∧ win0_6.index t = ![(prev t).val / 4, 0, 0]
    ∧ win0_7.index t = ![0, 0] ∧ win0_8.index t = ![0, 0] ∧ win0_9.index t = ![0, 0] ∧ win0_10.index t = ![0, 0] ∧ win0_11.index t = ![0, 0]
    ∧ win0_14.index t = ![(cur t).val, 0] ∧ win0_15.index t = ![(prev t).val, 0] :=
  (by decide +kernel : ∀ t : Fin grid0.N, _)

theorem blk_u (t : Fin cfg0.N) (r : Fin 512) (d : Fin 512) :
    iblk m c 0 t (ix2 r d) = uA m c (ix3 ⟨(rowOf (cur t) r).val / 2048, by omega⟩ ⟨(rowOf (cur t) r).val % 2048, by omega⟩ d) :=
  (show iblk m c 0 t (ix2 r d) = V m c main_v14 (ix2 ⟨(rowOf (cur t) r).val, by omega⟩ d) by blk_ext [iblk, idx t]).trans (entry_u m c _ d)

theorem blk_o (t : Fin cfg0.N) (r : Fin 512) (d : Fin 512) :
    iblk m c 1 t (ix2 r d) = oA m c (ix3 ⟨(rowOf (cur t) r).val / 2048, by omega⟩ ⟨(rowOf (cur t) r).val % 2048, by omega⟩ d) :=
  (show iblk m c 1 t (ix2 r d) = V m c main_v16 (ix2 ⟨(rowOf (cur t) r).val, by omega⟩ d) by blk_ext [iblk, idx t]).trans (entry_o m c _ d)

theorem blk_sc (t : Fin cfg0.N) (r : Fin 512) (d : Fin 1024) :
    iblk m c 2 t (ix2 r d) = scA m c (ix3 ⟨(rowOf (cur t) r).val / 2048, by omega⟩ ⟨(rowOf (cur t) r).val % 2048, by omega⟩ d) :=
  (show iblk m c 2 t (ix2 r d) = V m c main_v18 (ix2 ⟨(rowOf (cur t) r).val, by omega⟩ d) by blk_ext [iblk, idx t]).trans (entry_sc m c _ d)

theorem blk_sa (t : Fin cfg0.N) (r : Fin 512) (d : Fin 1024) :
    iblk m c 3 t (ix2 r d) = saA m c (ix3 ⟨(rowOf (cur t) r).val / 2048, by omega⟩ ⟨(rowOf (cur t) r).val % 2048, by omega⟩ d) :=
  (show iblk m c 3 t (ix2 r d) = V m c main_v20 (ix2 ⟨(rowOf (cur t) r).val, by omega⟩ d) by blk_ext [iblk, idx t]).trans (entry_sa m c _ d)

theorem blk_x (t : Fin cfg0.N) (r : Fin 512) (d : Fin 1024) :
    iblk m c 4 t (ix2 r d) = xA m c (ix3 ⟨(rowOf (cur t) r).val / 2048, by omega⟩ ⟨(rowOf (cur t) r).val % 2048, by omega⟩ d) :=
  (show iblk m c 4 t (ix2 r d) = V m c main_v21 (ix2 ⟨(rowOf (cur t) r).val, by omega⟩ d) by blk_ext [iblk, idx t]).trans (entry_x m c _ d)

theorem blk_a_cur (t : Fin cfg0.N) (k : Fin 6) (d : Fin 1024) :
    iblk m c 5 t (ix3 0 k d) = aA m c (ix2 ⟨(cur t).val / 4, by omega⟩ ⟨k.val * 1024 + d.val, by omega⟩) :=
  (show iblk m c 5 t (ix3 0 k d) = V m c main_v22 (ix3 ⟨(cur t).val / 4, by omega⟩ k d) by blk_ext [iblk, idx t]).trans (entry_a m c _ k d)

theorem blk_a_prev (t : Fin cfg0.N) (k : Fin 6) (d : Fin 1024) :
    iblk m c 6 t (ix3 0 k d) = aA m c (ix2 ⟨(prev t).val / 4, by omega⟩ ⟨k.val * 1024 + d.val, by omega⟩) :=
  (show iblk m c 6 t (ix3 0 k d) = V m c main_v22 (ix3 ⟨(prev t).val / 4, by omega⟩ k d) by blk_ext [iblk, idx t]).trans (entry_a m c _ k d)

theorem blk_wc (t : Fin cfg0.N) (d : Fin 512) (C : Fin 1024) : iblk m c 7 t (ix2 d C) = wcA m c (ix2 d C) :=
  (show iblk m c 7 t (ix2 d C) = V m c main_v10 (ix2 d C) by blk_ext [iblk, idx t]).trans (entry_wc m c d C)

theorem blk_wa (t : Fin cfg0.N) (d : Fin 512) (C : Fin 1024) : iblk m c 8 t (ix2 d C) = waA m c (ix2 d C) :=
  (show iblk m c 8 t (ix2 d C) = V m c main_v11 (ix2 d C) by blk_ext [iblk, idx t]).trans (entry_wa m c d C)

theorem blk_wo (t : Fin cfg0.N) (d : Fin 1024) (C : Fin 1024) : iblk m c 9 t (ix2 d C) = woA m c (ix2 d C) :=
  (show iblk m c 9 t (ix2 d C) = V m c main_v12 (ix2 d C) by blk_ext [iblk, idx t]).trans (entry_wo m c d C)

theorem blk_gp (t : Fin cfg0.N) (d : Fin 1024) : iblk m c 10 t (ix2 0 d) = gpA m c (ix1 d) :=
  (show iblk m c 10 t (ix2 0 d) = V m c main_v23 (ix2 0 d) by blk_ext [iblk, idx t]).trans (entry_gp m c d)

theorem blk_gf (t : Fin cfg0.N) (d : Fin 1024) : iblk m c 11 t (ix2 0 d) = gfA m c (ix1 d) :=
  (show iblk m c 11 t (ix2 0 d) = V m c main_v24 (ix2 0 d) by blk_ext [iblk, idx t]).trans (entry_gf m c d)

end Cert.Kernel4Ideal.Merge

end
-- ==== Proof.MergeRows.lean ====
/- What a grid point computes of its blocks, by the arguments as launched: the merged rows and the norm of the rows before. -/
module

public import proofs.«01_k».proof.Proof.MergePay
public import proofs.«01_k».proof.Proof.MergeBlocks

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic

/-- A row after the mixers, by the arguments. -/
def x1Of (u o : Vec Ideal S16x2048x512 .f32) (sc sa x : Vec Ideal S16x2048x1024 .f32) (a : Vec Ideal S16x6144 .f32) (wc wa : Vec Ideal S512x1024 .f32) (wo : Vec Ideal S1024x1024 .f32) (gp : Vec Ideal S1024 .f32) (R : Fin 20480) : Fin 1024 → EReal :=
  Cert.Merge.x1 (fun e => u (ix3 ⟨R.val / 2048, by omega⟩ ⟨R.val % 2048, by omega⟩ e)) (fun e => o (ix3 ⟨R.val / 2048, by omega⟩ ⟨R.val % 2048, by omega⟩ e)) (fun d => sc (ix3 ⟨R.val / 2048, by omega⟩ ⟨R.val % 2048, by omega⟩ d)) (fun d => sa (ix3 ⟨R.val / 2048, by omega⟩ ⟨R.val % 2048, by omega⟩ d))
    (fun e d => wc (ix2 e d)) (fun e d => wa (ix2 e d)) (fun d l => wo (ix2 d l)) (fun d => x (ix3 ⟨R.val / 2048, by omega⟩ ⟨R.val % 2048, by omega⟩ d)) (fun d => a (ix2 ⟨R.val / 2048, by omega⟩ ⟨2048 + d.val, by omega⟩)) (fun d => gp (ix1 d))

/-- A row `y` normed before the channel mixing, by the modulation and the gain. -/
def hOf (y : Fin 20480 → Fin 1024 → EReal) (a : Vec Ideal S16x6144 .f32) (gf : Vec Ideal S1024 .f32) (R : Fin 20480) : Fin 1024 → EReal :=
  Rope.modulated (y R) (fun d => gf (ix1 d)) (fun d => a (ix2 ⟨R.val / 2048, by omega⟩ ⟨4096 + d.val, by omega⟩)) (fun d => a (ix2 ⟨R.val / 2048, by omega⟩ ⟨3072 + d.val, by omega⟩))

variable (m : (ℓ : Loc nD τ sig) → Buf (Elt Ideal) ℓ) (c : Dev nD)

/-- The rows after the mixers, by the arguments as launched. -/
abbrev x1A : Fin 20480 → Fin 1024 → EReal := x1Of (uA m c) (oA m c) (scA m c) (saA m c) (xA m c) (aA m c) (wcA m c) (waA m c) (woA m c) (gpA m c)

theorem mod_at (k : Fin 40) (r : Fin 512) (i j : ℕ) (hi : i < 6144) (hj : j < 6144) (e : i = j) (h : k.val / 4 < 16) :
    aA m c (ix2 ⟨k.val / 4, h⟩ ⟨i, hi⟩) = aA m c (ix2 ⟨(rowOf k r).val / 2048, by omega⟩ ⟨j, hj⟩) := by
  subst e
  exact congrArg (fun b => aA m c (ix2 b _)) (Fin.ext (by show k.val / 4 = (k.val * 512 + r.val) / 2048; omega))

/-- Rows of a sequence's modulation: the first gate, the second shift, the second scale. -/
theorem ld_gate (y : Vec Ideal S1x6x1024 .f32) (d : Fin 1024) :
    (View.ld y (Rect.unit (s := S1x6x1024) ![0, 2, 0] ![1, 1, 1024] inb_S1x6x1024_S1x1x1024_0_2_0) : Vec Ideal S1x1x1024 .f32) (ix3 0 0 d) = y (ix3 0 2 d) :=
  congrArg y (funext fun a => by fin_cases a <;> first | rfl | exact Fin.ext (by show 0 + 1 * d.val = d.val; omega))

theorem ld_shift (y : Vec Ideal S1x6x1024 .f32) (d : Fin 1024) :
    (View.ld y (Rect.unit (s := S1x6x1024) ![0, 3, 0] ![1, 1, 1024] inb_S1x6x1024_S1x1x1024_0_3_0) : Vec Ideal S1x1x1024 .f32) (ix3 0 0 d) = y (ix3 0 3 d) :=
  congrArg y (funext fun a => by fin_cases a <;> first | rfl | exact Fin.ext (by show 0 + 1 * d.val = d.val; omega))

theorem ld_scale (y : Vec Ideal S1x6x1024 .f32) (d : Fin 1024) :
    (View.ld y (Rect.unit (s := S1x6x1024) ![0, 4, 0] ![1, 1, 1024] inb_S1x6x1024_S1x1x1024_0_4_0) : Vec Ideal S1x1x1024 .f32) (ix3 0 0 d) = y (ix3 0 4 d) :=
  congrArg y (funext fun a => by fin_cases a <;> first | rfl | exact Fin.ext (by show 0 + 1 * d.val = d.val; omega))

/-- The merged rows of the point's tile. -/
theorem x1_block (t : Fin cfg0.N) (r : Fin 512) (l : Fin 1024) :
    k0_pay1 (k0_pay31 (iblk m c 0 t) (iblk m c 7 t) (iblk m c 1 t) (iblk m c 8 t) (iblk m c 2 t) (iblk m c 3 t)) (iblk m c 9 t)
      (View.ld (iblk m c 5 t) (Rect.unit (s := S1x6x1024) ![0, 2, 0] ![1, 1, 1024] inb_S1x6x1024_S1x1x1024_0_2_0) : Vec Ideal S1x1x1024 .f32) (iblk m c 4 t) (iblk m c 10 t) (ix2 r l)
      = x1A m c (rowOf (cur t) r) l :=
  (residual_apply _ _ _ _ _ r l).trans (Cert.Merge.residual_congr l (fun d => blk_x m c t r d)
    (fun d => (ld_gate (iblk m c 5 t) d).trans ((blk_a_cur m c t 2 d).trans (mod_at m c (cur t) r _ _ _ (by omega) rfl _)))
    (fun C => Cert.Merge.proj_congr
      (fun d => (merged_apply _ _ _ _ _ _ r d).trans (Cert.Merge.merged_congr d (fun e => blk_u m c t r e) (fun e => blk_o m c t r e) (fun e => blk_sc m c t r e) (fun e => blk_sa m c t r e)
        (fun e d => blk_wc m c t e d) (fun e d => blk_wa m c t e d)))
      (fun d => blk_wo m c t d C))
    (fun d => blk_gp m c t d))

/-- The norm of the tile before. -/
theorem h_block (t : Fin cfg0.N) (y : Vec Ideal S512x1024 .f32) (r : Fin 512) (hy : ∀ d : Fin 1024, y (ix2 r d) = x1A m c (rowOf (prev t) r) d) (l : Fin 1024) :
    k0_pay5 y (View.ld (iblk m c 6 t) (Rect.unit (s := S1x6x1024) ![0, 3, 0] ![1, 1, 1024] inb_S1x6x1024_S1x1x1024_0_3_0) : Vec Ideal S1x1x1024 .f32)
      (View.ld (iblk m c 6 t) (Rect.unit (s := S1x6x1024) ![0, 4, 0] ![1, 1, 1024] inb_S1x6x1024_S1x1x1024_0_4_0) : Vec Ideal S1x1x1024 .f32) (iblk m c 11 t) (ix2 r l) = hOf (x1A m c) (aA m c) (gfA m c) (rowOf (prev t) r) l :=
  (norm_apply _ _ _ _ r l).trans (Cert.Merge.modulated_congr l hy (fun d => blk_gf m c t d)
    (fun d => (ld_scale (iblk m c 6 t) d).trans ((blk_a_prev m c t 4 d).trans (mod_at m c (prev t) r _ _ _ (by omega) rfl _)))
    (fun d => (ld_shift (iblk m c 6 t) d).trans ((blk_a_prev m c t 3 d).trans (mod_at m c (prev t) r _ _ _ (by omega) rfl _))))

end Cert.Kernel4Ideal.Merge

end
-- ==== Proof.MergeOuts.lean ====
/- What the merge's grid points leave in the results' blocks and in the rows carried between points. -/
module

public import proofs.«01_k».proof.Proof.MergeRows
public import proofs.«01_k».proof.Proof.Gen.Kernel4Ideal.Frame
public import Idealize.ShloMosaic.Lib.Pipeline.ReadBack

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

set_option maxHeartbeats 2000000 in
/-- Every point leaves its tile's merged rows in the first result's block. -/
theorem out_x1 (t : Fin cfg0.N) (r : Fin 512) (l : Fin 1024) : (outsAt0 m c t.val t.isLt).1 (ix2 r l) = x1A m c (rowOf (cur t) r) l := by
  by_cases h0 : t.val % 41 = 0
  · rw [outsAt0_A m c t h0]
    frame_out
    exact x1_block m c t r l
  · rw [outsAt0_B m c t h0]
    frame_out
    exact x1_block m c t r l

set_option maxHeartbeats 2000000 in
/-- And in the rows carried to the next point. -/
theorem carried (t : Fin cfg0.N) (r : Fin 512) (l : Fin 1024) : (outsAt0 m c t.val t.isLt).2.2.2.2 (ix2 r l) = x1A m c (rowOf (cur t) r) l := by
  by_cases h0 : t.val % 41 = 0
  · rw [outsAt0_A m c t h0]
    frame_out
    rw [copy_eq]
    exact x1_block m c t r l
  · rw [outsAt0_B m c t h0]
    frame_out
    rw [copy_eq]
    exact x1_block m c t r l

/-- The tile carried to a point is the one it norms. -/
theorem cur_before (t : Fin cfg0.N) (h0 : ¬ t.val % 41 = 0) : cur ⟨t.val - 1, Nat.lt_of_le_of_lt (Nat.sub_le _ _) t.isLt⟩ = prev t :=
  Fin.ext (by show min (t.val - 1) 39 = t.val - 1; have := lt41 t; omega)

set_option maxHeartbeats 2000000 in
/-- Every point but the first leaves the norm of the tile before in the second result's block. -/
theorem out_h (t : Fin cfg0.N) (h0 : ¬ t.val % 41 = 0) (r : Fin 512) (l : Fin 1024) : (outsAt0 m c t.val t.isLt).2.1 (ix2 r l) = hOf (x1A m c) (aA m c) (gfA m c) (rowOf (prev t) r) l := by
  have hy := fun d : Fin 1024 => (carried m c ⟨t.val - 1, Nat.lt_of_le_of_lt (Nat.sub_le _ _) t.isLt⟩ r d).trans (congrArg (fun k => x1A m c (rowOf k r) d) (cur_before t h0))
  rw [outsAt0_B m c t h0]
  frame_out
  rw [read_unread_whole]
  exact h_block m c t _ r hy l

end Cert.Kernel4Ideal.Merge

end
-- ==== Proof.MergeLayer.lean ====
/- The reference's merge of the two mixers: its results as functions of the arguments, at an index, over the extended reals. -/
module

public import proofs.«01_k».proof.Proof.MergeMath
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Reference4Ideal.Merge

open Cert.Reference4Ideal Cert.Reference4Ideal.Gen
open Idealize.ShloMosaic Idealize.ShloMosaic.TcCoe Idealize.ShloMosaic.Tactic Idealize.SL.Sem

/-- The two mixers, each projected and gated, added. -/
def mergedArr (uc ao : FVec Ideal S16x2048x512 .f32) (sgc sga : FVec Ideal S16x2048x1024 .f32) (wc wa : FVec Ideal S512x1024 .f32) : FVec Ideal S16x2048x1024 .f32 :=
  addf (mulf sgc (Host.dotGeneral dot_S16x2048x512_S512x1024_S16x2048x1024_2_0_01_1_n_n none uc wc)) (mulf sga (Host.dotGeneral dot_S16x2048x512_S512x1024_S16x2048x1024_2_0_01_1_n_n none ao wa))

/-- Their output projection. -/
def projArr (y : FVec Ideal S16x2048x1024 .f32) (wo : FVec Ideal S1024x1024 .f32) : FVec Ideal S16x2048x1024 .f32 :=
  Host.dotGeneral dot_S16x2048x1024_S1024x1024_S16x2048x1024_2_0_01_1_n_n none y wo

/-- The inputs plus the projection's gated norm. -/
def x1Arr (x : FVec Ideal S16x2048x1024 .f32) (a : FVec Ideal S16x6144 .f32) (z : FVec Ideal S16x2048x1024 .f32) (g : FVec Ideal S1024 .f32) : FVec Ideal S16x2048x1024 .f32 :=
  addf x (mulf (broadcastInDim S16x2048x1024 ![0, 1, 2] bcast_S16x1x1024_S16x2048x1024_0_1_2 (extractStridedSlice S16x1x1024 ![0, 0, 2048] (broadcastInDim S16x1x6144 ![0, 2] bcast_S16x6144_S16x1x6144_0_2 a) slices_S16x1x6144_S16x1x1024_0_0_2048))
    (mulf (mulf z (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf z z) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))))

/-- The norm before the channel mixing, modulated. -/
def hArr (y : FVec Ideal S16x2048x1024 .f32) (a : FVec Ideal S16x6144 .f32) (g : FVec Ideal S1024 .f32) : FVec Ideal S16x2048x1024 .f32 :=
  addf (mulf (mulf (mulf y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 4096] (broadcastInDim S16x1x6144 ![0, 2] bcast_S16x6144_S16x1x6144_0_2 a) slices_S16x1x6144_S16x1x1024_0_0_4096))))
    (broadcastInDim S16x2048x1024 ![0, 1, 2] bcast_S16x1x1024_S16x2048x1024_0_1_2 (extractStridedSlice S16x1x1024 ![0, 0, 3072] (broadcastInDim S16x1x6144 ![0, 2] bcast_S16x6144_S16x1x6144_0_2 a) slices_S16x1x6144_S16x1x1024_0_0_3072))

/-- The rows of the first ten sequences. -/
def firstTen (y : FVec Ideal S16x2048x1024 .f32) : FVec Ideal S20480x1024 .f32 :=
  extractStridedSlice S20480x1024 ![0, 0] (shapeCast _ y shapeCasts_S16x2048x1024_S32768x1024) slices_S32768x1024_S20480x1024_0_0

/-- The same rows, cast. -/
def firstTenB (y : FVec Ideal S16x2048x1024 .f32) : FVec Ideal S20480x1024 .bf16 := truncf .bf16 (firstTen y) bitsLt_bf16_f32

theorem mergedArr_apply (uc ao : FVec Ideal S16x2048x512 .f32) (sgc sga : FVec Ideal S16x2048x1024 .f32) (wc wa : FVec Ideal S512x1024 .f32) (b : Fin 16) (s : Fin 2048) (d : Fin 1024) :
    mergedArr uc ao sgc sga wc wa (ix3 b s d) = Cert.Merge.merged (fun e => uc (ix3 b s e)) (fun e => ao (ix3 b s e)) (fun d => sgc (ix3 b s d)) (fun d => sga (ix3 b s d)) (fun e d => wc (ix2 e d)) (fun e d => wa (ix2 e d)) d := by
  pointwise [mergedArr, Cert.Merge.merged]

theorem projArr_apply (y : FVec Ideal S16x2048x1024 .f32) (wo : FVec Ideal S1024x1024 .f32) (b : Fin 16) (s : Fin 2048) (l : Fin 1024) :
    projArr y wo (ix3 b s l) = Rope.proj (fun d => y (ix3 b s d)) fun d => wo (ix2 d l) := by
  pointwise [projArr, Rope.proj]

theorem x1Arr_apply (x : FVec Ideal S16x2048x1024 .f32) (a : FVec Ideal S16x6144 .f32) (z : FVec Ideal S16x2048x1024 .f32) (g : FVec Ideal S1024 .f32) (b : Fin 16) (s : Fin 2048) (l : Fin 1024) :
    x1Arr x a z g (ix3 b s l) = Cert.Merge.residual (fun d => x (ix3 b s d)) (fun d => a (ix2 b ⟨2048 + d.val, by omega⟩)) (fun d => z (ix3 b s d)) (fun d => g (ix1 d)) l := by
  pointwise [x1Arr, Cert.Merge.residual, Rope.eps]

theorem hArr_apply (y : FVec Ideal S16x2048x1024 .f32) (a : FVec Ideal S16x6144 .f32) (g : FVec Ideal S1024 .f32) (b : Fin 16) (s : Fin 2048) (l : Fin 1024) :
    hArr y a g (ix3 b s l) = Rope.modulated (fun d => y (ix3 b s d)) (fun d => g (ix1 d)) (fun d => a (ix2 b ⟨4096 + d.val, by omega⟩)) (fun d => a (ix2 b ⟨3072 + d.val, by omega⟩)) l := by
  pointwise [hArr, Rope.modulated, Rope.eps]

theorem firstTen_apply (y : FVec Ideal S16x2048x1024 .f32) (R : Fin 20480) (l : Fin 1024) :
    firstTen y (ix2 R l) = y (ix3 ⟨R.val / 2048, by omega⟩ ⟨R.val % 2048, by omega⟩ l) := by
  pointwise [firstTen]

theorem firstTenB_apply (y : FVec Ideal S16x2048x1024 .f32) (R : Fin 20480) (l : Fin 1024) :
    firstTenB y (ix2 R l) = y (ix3 ⟨R.val / 2048, by omega⟩ ⟨R.val % 2048, by omega⟩ l) := firstTen_apply y R l

set_option maxHeartbeats 2000000 in
/-- What the run leaves in the results and the arguments. -/
theorem run_values (m : (ℓ : Loc nD τ Cert.Reference4Ideal.sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = firstTen (x1Arr (m ((c.tc : Thread nD τ).loc main_arg4)) (m ((c.tc : Thread nD τ).loc main_arg5)) (projArr (mergedArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg8))) (m ((c.tc : Thread nD τ).loc main_arg9)))
      ∧ r.2.mem ((c.tc : Thread nD τ).loc main_v52) = firstTenB (hArr (x1Arr (m ((c.tc : Thread nD τ).loc main_arg4)) (m ((c.tc : Thread nD τ).loc main_arg5)) (projArr (mergedArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg8))) (m ((c.tc : Thread nD τ).loc main_arg9))) (m ((c.tc : Thread nD τ).loc main_arg5)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  Value.run (F := Ideal) m ρ

end Cert.Reference4Ideal.Merge

end
-- ==== Proof.Frames4.lean ====
/- The frames of the merge's two programs: the output projections, the residual and the norm that follow the two mixers. -/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- THE KERNEL'S FRAME: at the machine's own values every argument ends as launched and every counter at zero. -/
theorem frame_kernel4 : Cert.quiescent_Kernel4 := fun m ρ _ => Cert.Kernel4.Gen.frame (F := Bits) m ρ

/-- THE IDEALIZED KERNEL'S FRAME. -/
theorem frame_ideal4 : Cert.quiescent_Kernel4Ideal := fun m ρ _ => Cert.Kernel4Ideal.Gen.frame (F := Ideal) m ρ

/-- THE REFERENCE'S FRAME: a straight list of host operations none of which writes an argument. -/
theorem frame_reference4 : Cert.quiescent_Reference4Ideal := fun m ρ _ =>
  (θ_run Cert.Reference4Ideal.defs _ _).mono (fun r h => ⟨fun c => (h c).2.2,
    Idealize.ShloMosaic.sem_eq_zero_of_no_sems (by decide) r.2⟩) (Cert.Reference4Ideal.Value.run (F := Ideal) m ρ)

/-- No operation of the kernel is rewritten, so nothing is to be preserved. -/
theorem preserves4 : Cert.preserves_Kernel4_Kernel4Ideal := trivial

end Cert.Proof

end
-- ==== Proof.MergeValue.lean ====
/- The merge: what the kernel's two arrays hold after the run, and that they are the reference's. -/
module

public import proofs.«01_k».proof.Proof.MergeOuts
public import proofs.«01_k».proof.Proof.MergeLayer
public import proofs.«01_k».proof.Proof.Frames4
public import Idealize.ShloMosaic.Lib.Pipeline.ValueKit
public import Idealize.ShloMosaic.Lib.Claim

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- A function of row and column at a tile's place, by its coordinates. -/
theorem at_tile (f : Fin 20480 → Fin 1024 → EReal) (k : Fin 40) (r : Fin 512) (l : Fin 1024) (a b : ℕ) (ha : a < 20480) (hb : b < 1024) (p : Fin 2 → ℕ) (hp : p = ![k.val, 0])
    (ea : a = p 0 * 512 + r.val) (eb : b = p 1 * 1024 + l.val) : f (rowOf k r) l = f ⟨a, ha⟩ ⟨b, hb⟩ := by
  subst hp
  exact congrArg₂ f (Fin.ext ea.symm) (Fin.ext ((Nat.zero_add _).symm.trans ((congrArg (· + l.val) (Nat.zero_mul 1024).symm).trans eb.symm)))

/-- The second result's block is not written back at the first point, which leaves no row of it. -/
theorem written : ∀ t : Fin cfg0.N, (cfg0.win 15).flush t = true → ¬ t.val % 41 = 0 :=
  by decide +kernel

/-- The rows after the mixers, as the run leaves them. -/
theorem arr_x1 : (dats m 0 c).arrAt 14 (cfgs 0).N = fun i : S20480x1024.Idx => x1A m c ⟨(i 0).val, (i 0).isLt⟩ ⟨(i 1).val, (i 1).isLt⟩ := by
  refine (dats m 0 c).arrAt_eq_of_covers 14 _ (by decide +kernel) fun t hf y => ?_
  obtain ⟨r, l, rfl⟩ : ∃ (r : Fin 512) (l : Fin 1024), y = ix2 r l := ⟨⟨(y 0).val, (y 0).isLt⟩, ⟨(y 1).val, (y 1).isLt⟩, eq_ix2 y⟩
  blk_simp
  rw [after0_14]
  exact (out_x1 m c t r l).trans (at_tile (x1A m c) (cur t) r l _ _ _ _ _ (idx t).2.2.2.2.2.2.2.2.2.2.2.2.1 rfl rfl)

/-- Their norms, as the run leaves them. -/
theorem arr_h : (dats m 0 c).arrAt 15 (cfgs 0).N = fun i : S20480x1024.Idx => hOf (x1A m c) (aA m c) (gfA m c) ⟨(i 0).val, (i 0).isLt⟩ ⟨(i 1).val, (i 1).isLt⟩ := by
  refine (dats m 0 c).arrAt_eq_of_covers 15 _ (by decide +kernel) fun t hf y => ?_
  obtain ⟨r, l, rfl⟩ : ∃ (r : Fin 512) (l : Fin 1024), y = ix2 r l := ⟨⟨(y 0).val, (y 0).isLt⟩, ⟨(y 1).val, (y 1).isLt⟩, eq_ix2 y⟩
  have h0 := written t hf
  blk_simp
  rw [after0_15]
  exact (out_h m c t h0 r l).trans (at_tile (hOf (x1A m c) (aA m c) (gfA m c)) (prev t) r l _ _ _ _ _ (idx t).2.2.2.2.2.2.2.2.2.2.2.2.2 rfl rfl)

open Cert.Reference4Ideal.Merge in
/-- A row after the mixers is the reference's. -/
theorem x1_eq (u o : Vec Ideal S16x2048x512 .f32) (sc sa x : Vec Ideal S16x2048x1024 .f32) (a : Vec Ideal S16x6144 .f32) (wc wa : Vec Ideal S512x1024 .f32) (wo : Vec Ideal S1024x1024 .f32) (gp : Vec Ideal S1024 .f32)
    (R : Fin 20480) (l : Fin 1024) :
    x1Of u o sc sa x a wc wa wo gp R l = x1Arr x a (projArr (mergedArr u o sc sa wc wa) wo) gp (ix3 ⟨R.val / 2048, by omega⟩ ⟨R.val % 2048, by omega⟩ l) :=
  ((x1Arr_apply x a _ gp _ _ l).trans (Cert.Merge.residual_congr l (fun _ => rfl) (fun _ => rfl)
    (fun d => (projArr_apply _ wo _ _ d).trans (Cert.Merge.proj_congr (fun e => mergedArr_apply u o sc sa wc wa _ _ e) fun _ => rfl)) fun _ => rfl)).symm

open Cert.Reference4Ideal.Merge in
/-- A norm before the channel mixing is the reference's. -/
theorem h_eq (y : Fin 20480 → Fin 1024 → EReal) (z : Vec Ideal S16x2048x1024 .f32) (a : Vec Ideal S16x6144 .f32) (gf : Vec Ideal S1024 .f32) (R : Fin 20480) (l : Fin 1024)
    (hy : ∀ d : Fin 1024, y R d = z (ix3 ⟨R.val / 2048, by omega⟩ ⟨R.val % 2048, by omega⟩ d)) :
    hOf y a gf R l = hArr z a gf (ix3 ⟨R.val / 2048, by omega⟩ ⟨R.val % 2048, by omega⟩ l) :=
  (Cert.Merge.modulated_congr l hy (fun _ => rfl) (fun _ => rfl) fun _ => rfl).trans (hArr_apply z a gf _ _ l).symm

/-- The reference's rows of the launched arguments. -/
abbrev x1R : Vec Ideal S16x2048x1024 .f32 :=
  Cert.Reference4Ideal.Merge.x1Arr (xA m c) (aA m c) (Cert.Reference4Ideal.Merge.projArr (Cert.Reference4Ideal.Merge.mergedArr (uA m c) (oA m c) (scA m c) (saA m c) (wcA m c) (waA m c)) (woA m c)) (gpA m c)

theorem value_x1 : (dats m 0 c).arrAt 14 (cfgs 0).N = Cert.Reference4Ideal.Merge.firstTen (x1R m c) :=
  (arr_x1 m c).trans (funext fun i => ((x1_eq _ _ _ _ _ _ _ _ _ _ _ _).trans (Cert.Reference4Ideal.Merge.firstTen_apply _ _ _).symm).trans (congrArg _ (eq_ix2 i).symm))

theorem value_h : (dats m 0 c).arrAt 15 (cfgs 0).N = Cert.Reference4Ideal.Merge.firstTenB (Cert.Reference4Ideal.Merge.hArr (x1R m c) (aA m c) (gfA m c)) :=
  (arr_h m c).trans (funext fun i => ((h_eq _ (x1R m c) _ _ _ _ fun d => x1_eq _ _ _ _ _ _ _ _ _ _ _ d).trans (Cert.Reference4Ideal.Merge.firstTenB_apply _ _ _).symm).trans (congrArg _ (eq_ix2 i).symm))

end Cert.Kernel4Ideal.Merge

namespace Cert.Proof

open Idealize.ShloMosaic Idealize.ShloMosaic.TcCoe Idealize.ShloMosaic.Tactic Idealize.SL.Sem

set_option maxHeartbeats 2000000 in
/-- THE VALUE CLAIM of the merge: over the reals it leaves what its reference computes. -/
theorem algebraic4 : Cert.algebraic_Kernel4Ideal_Reference4Ideal := by
  pair_intro
  · run_from Cert.Kernel4Ideal.Gen.run_main m g
  · run_from Cert.Reference4Ideal.Merge.run_values m' g'
    · exact (Cert.Kernel4Ideal.Merge.value_x1 m c).symm
    · exact (Cert.Kernel4Ideal.Merge.value_h m c).symm

end Cert.Proof

end
-- ==== Proof.lean ====
module

public import proofs.«01_k».proof.Defs
public import proofs.«01_k».proof.Proof.Value
public import proofs.«01_k».proof.Proof.ProjValue
public import proofs.«01_k».proof.Proof.AdaValue
public import proofs.«01_k».proof.Proof.MergeValue

@[expose] public section

noncomputable section

namespace Cert.Proof

/-- Everything the certificate states. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Bounds.facts, frame_kernel, frame_ideal, fun m ρ _ => frame_ideal m ρ trivial, frame_reference,
    fun m ρ _ => frame_reference m ρ trivial, frame_kernel2, frame_ideal2, frame_reference2,
    frame_kernel3, frame_ideal3, frame_reference3, frame_kernel4, frame_ideal4, frame_reference4, preserves, algebraic, preserves2, algebraic2, preserves3, algebraic3, preserves4, algebraic4⟩

end Cert.Proof

end
